-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_finite [hPre_swa_finite : Cert.Pre_swa_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).1 = (fun _ => 1#1)
    ∧ (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_FoxIn (m : (ℓ : Loc Cert.FoxIn.nD Cert.FoxIn.τ Cert.FoxIn.sig) → Buf (Elt Bits) ℓ) : Prop :=
  True

def Pre_FoxInIdeal (m : (ℓ : Loc Cert.FoxInIdeal.nD Cert.FoxInIdeal.τ Cert.FoxInIdeal.sig) → Buf (Elt Ideal) ℓ) : Prop :=
  True

def Pre_FoxInRefIdeal (m : (ℓ : Loc Cert.FoxInRefIdeal.nD Cert.FoxInRefIdeal.τ Cert.FoxInRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))).1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))).2.1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))).2.2.1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))).2.2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3))).1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3))).2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3))).2.2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3))).2.2.2 = (fun _ => 1#1)

def Pre_LastDown (m : (ℓ : Loc Cert.LastDown.nD Cert.LastDown.τ Cert.LastDown.sig) → Buf (Elt Bits) ℓ) : Prop :=
  True

def Pre_LastDownIdeal (m : (ℓ : Loc Cert.LastDownIdeal.nD Cert.LastDownIdeal.τ Cert.LastDownIdeal.sig) → Buf (Elt Ideal) ℓ) : Prop :=
  True

def Pre_LastDownRefIdeal (m : (ℓ : Loc Cert.LastDownRefIdeal.nD Cert.LastDownRefIdeal.τ Cert.LastDownRefIdeal.sig) → Buf (Elt Ideal) ℓ) : Prop :=
  True

def Pre_SwaIn (m : (ℓ : Loc Cert.SwaIn.nD Cert.SwaIn.τ Cert.SwaIn.sig) → Buf (Elt Bits) ℓ) : Prop :=
  True

def Pre_SwaInIdeal (m : (ℓ : Loc Cert.SwaInIdeal.nD Cert.SwaInIdeal.τ Cert.SwaInIdeal.sig) → Buf (Elt Ideal) ℓ) : Prop :=
  True

def Pre_SwaInRefIdeal (m : (ℓ : Loc Cert.SwaInRefIdeal.nD Cert.SwaInRefIdeal.τ Cert.SwaInRefIdeal.sig) → Buf (Elt Ideal) ℓ) : Prop :=
  True

def Pre_DsaIn (m : (ℓ : Loc Cert.DsaIn.nD Cert.DsaIn.τ Cert.DsaIn.sig) → Buf (Elt Bits) ℓ) : Prop :=
  True

def Pre_DsaInIdeal (m : (ℓ : Loc Cert.DsaInIdeal.nD Cert.DsaInIdeal.τ Cert.DsaInIdeal.sig) → Buf (Elt Ideal) ℓ) : Prop :=
  True

def Pre_DsaInRefIdeal (m : (ℓ : Loc Cert.DsaInRefIdeal.nD Cert.DsaInRefIdeal.τ Cert.DsaInRefIdeal.sig) → Buf (Elt Ideal) ℓ) : Prop :=
  True

def Pre_DsaIn2 (m : (ℓ : Loc Cert.DsaIn2.nD Cert.DsaIn2.τ Cert.DsaIn2.sig) → Buf (Elt Bits) ℓ) : Prop :=
  True

def Pre_DsaIn2Ideal (m : (ℓ : Loc Cert.DsaIn2Ideal.nD Cert.DsaIn2Ideal.τ Cert.DsaIn2Ideal.sig) → Buf (Elt Ideal) ℓ) : Prop :=
  True

def Pre_DsaIn2RefIdeal (m : (ℓ : Loc Cert.DsaIn2RefIdeal.nD Cert.DsaIn2RefIdeal.τ Cert.DsaIn2RefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaIdeal_pre_swa_finite [hSwaIdeal : Cert.SwaIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_FoxIn [hFoxIn : Cert.FoxIn.Facts] : Prop :=
  ∀ (m : (ℓ : Loc Cert.FoxIn.nD Cert.FoxIn.τ Cert.FoxIn.sig) → Buf (Elt Bits) ℓ) (g : Dev Cert.FoxIn.nD → PrngReg), Pre_FoxIn m →
    θ_run (Cert.FoxIn.defs (F := Bits)) (onTc (τ := Cert.FoxIn.τ) (Cert.FoxIn.main (F := Bits))) ⟨m, fun _ => 0, g⟩ (fun r => (∀ c : Dev Cert.FoxIn.nD,
      r.2.mem ((c.tc : Thread Cert.FoxIn.nD Cert.FoxIn.τ).loc Cert.FoxIn.main_arg0) = m ((c.tc : Thread Cert.FoxIn.nD Cert.FoxIn.τ).loc Cert.FoxIn.main_arg0)
      ∧ r.2.mem ((c.tc : Thread Cert.FoxIn.nD Cert.FoxIn.τ).loc Cert.FoxIn.main_arg1) = m ((c.tc : Thread Cert.FoxIn.nD Cert.FoxIn.τ).loc Cert.FoxIn.main_arg1)
      ∧ r.2.mem ((c.tc : Thread Cert.FoxIn.nD Cert.FoxIn.τ).loc Cert.FoxIn.main_arg2) = m ((c.tc : Thread Cert.FoxIn.nD Cert.FoxIn.τ).loc Cert.FoxIn.main_arg2))
      ∧ r.2.sem = fun _ => 0)

def quiescent_FoxInIdeal [hFoxInIdeal : Cert.FoxInIdeal.Facts] : Prop :=
  ∀ (m : (ℓ : Loc Cert.FoxInIdeal.nD Cert.FoxInIdeal.τ Cert.FoxInIdeal.sig) → Buf (Elt Ideal) ℓ) (g : Dev Cert.FoxInIdeal.nD → PrngReg), Pre_FoxInIdeal m →
    θ_run (Cert.FoxInIdeal.defs (F := Ideal)) (onTc (τ := Cert.FoxInIdeal.τ) (Cert.FoxInIdeal.main (F := Ideal))) ⟨m, fun _ => 0, g⟩ (fun r => (∀ c : Dev Cert.FoxInIdeal.nD,
      r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
      ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1)
      ∧ r.2.mem ((c.tc : Thread Cert.FoxInIdeal.nD Cert.FoxInIdeal.τ).loc Cert.FoxInIdeal.main_arg2) = m ((c.tc : Thread Cert.FoxInIdeal.nD Cert.FoxInIdeal.τ).loc Cert.FoxInIdeal.main_arg2))
      ∧ r.2.sem = fun _ => 0)

def quiescent_FoxInRefIdeal [hFoxInRefIdeal : Cert.FoxInRefIdeal.Facts] : Prop :=
  ∀ (m : (ℓ : Loc Cert.FoxInRefIdeal.nD Cert.FoxInRefIdeal.τ Cert.FoxInRefIdeal.sig) → Buf (Elt Ideal) ℓ) (g : Dev Cert.FoxInRefIdeal.nD → PrngReg), Pre_FoxInRefIdeal m →
    θ_run (Cert.FoxInRefIdeal.defs (F := Ideal)) (onTc (τ := Cert.FoxInRefIdeal.τ) (Cert.FoxInRefIdeal.main (F := Ideal))) ⟨m, fun _ => 0, g⟩ (fun r => (∀ c : Dev Cert.FoxInRefIdeal.nD,
      r.2.mem ((c.tc : Thread Cert.FoxInRefIdeal.nD Cert.FoxInRefIdeal.τ).loc Cert.FoxInRefIdeal.main_arg0) = m ((c.tc : Thread Cert.FoxInRefIdeal.nD Cert.FoxInRefIdeal.τ).loc Cert.FoxInRefIdeal.main_arg0)
      ∧ r.2.mem ((c.tc : Thread Cert.FoxInRefIdeal.nD Cert.FoxInRefIdeal.τ).loc Cert.FoxInRefIdeal.main_arg1) = m ((c.tc : Thread Cert.FoxInRefIdeal.nD Cert.FoxInRefIdeal.τ).loc Cert.FoxInRefIdeal.main_arg1)
      ∧ r.2.mem ((c.tc : Thread Cert.FoxInRefIdeal.nD Cert.FoxInRefIdeal.τ).loc Cert.FoxInRefIdeal.main_arg2) = m ((c.tc : Thread Cert.FoxInRefIdeal.nD Cert.FoxInRefIdeal.τ).loc Cert.FoxInRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_LastDown [hLastDown : Cert.LastDown.Facts] : Prop :=
  ∀ (m : (ℓ : Loc Cert.LastDown.nD Cert.LastDown.τ Cert.LastDown.sig) → Buf (Elt Bits) ℓ) (g : Dev Cert.LastDown.nD → PrngReg), Pre_LastDown m →
    θ_run (Cert.LastDown.defs (F := Bits)) (onTc (τ := Cert.LastDown.τ) (Cert.LastDown.main (F := Bits))) ⟨m, fun _ => 0, g⟩ (fun r => (∀ c : Dev Cert.LastDown.nD,
      r.2.mem ((c.tc : Thread Cert.LastDown.nD Cert.LastDown.τ).loc Cert.LastDown.main_arg0) = m ((c.tc : Thread Cert.LastDown.nD Cert.LastDown.τ).loc Cert.LastDown.main_arg0)
      ∧ r.2.mem ((c.tc : Thread Cert.LastDown.nD Cert.LastDown.τ).loc Cert.LastDown.main_arg1) = m ((c.tc : Thread Cert.LastDown.nD Cert.LastDown.τ).loc Cert.LastDown.main_arg1)
      ∧ r.2.mem ((c.tc : Thread Cert.LastDown.nD Cert.LastDown.τ).loc Cert.LastDown.main_arg2) = m ((c.tc : Thread Cert.LastDown.nD Cert.LastDown.τ).loc Cert.LastDown.main_arg2))
      ∧ r.2.sem = fun _ => 0)

def quiescent_LastDownIdeal [hLastDownIdeal : Cert.LastDownIdeal.Facts] : Prop :=
  ∀ (m : (ℓ : Loc Cert.LastDownIdeal.nD Cert.LastDownIdeal.τ Cert.LastDownIdeal.sig) → Buf (Elt Ideal) ℓ) (g : Dev Cert.LastDownIdeal.nD → PrngReg), Pre_LastDownIdeal m →
    θ_run (Cert.LastDownIdeal.defs (F := Ideal)) (onTc (τ := Cert.LastDownIdeal.τ) (Cert.LastDownIdeal.main (F := Ideal))) ⟨m, fun _ => 0, g⟩ (fun r => (∀ c : Dev Cert.LastDownIdeal.nD,
      r.2.mem ((c.tc : Thread Cert.LastDownIdeal.nD Cert.LastDownIdeal.τ).loc Cert.LastDownIdeal.main_arg0) = m ((c.tc : Thread Cert.LastDownIdeal.nD Cert.LastDownIdeal.τ).loc Cert.LastDownIdeal.main_arg0)
      ∧ r.2.mem ((c.tc : Thread Cert.LastDownIdeal.nD Cert.LastDownIdeal.τ).loc Cert.LastDownIdeal.main_arg1) = m ((c.tc : Thread Cert.LastDownIdeal.nD Cert.LastDownIdeal.τ).loc Cert.LastDownIdeal.main_arg1)
      ∧ r.2.mem ((c.tc : Thread Cert.LastDownIdeal.nD Cert.LastDownIdeal.τ).loc Cert.LastDownIdeal.main_arg2) = m ((c.tc : Thread Cert.LastDownIdeal.nD Cert.LastDownIdeal.τ).loc Cert.LastDownIdeal.main_arg2))
      ∧ r.2.sem = fun _ => 0)

def quiescent_LastDownRefIdeal [hLastDownRefIdeal : Cert.LastDownRefIdeal.Facts] : Prop :=
  ∀ (m : (ℓ : Loc Cert.LastDownRefIdeal.nD Cert.LastDownRefIdeal.τ Cert.LastDownRefIdeal.sig) → Buf (Elt Ideal) ℓ) (g : Dev Cert.LastDownRefIdeal.nD → PrngReg), Pre_LastDownRefIdeal m →
    θ_run (Cert.LastDownRefIdeal.defs (F := Ideal)) (onTc (τ := Cert.LastDownRefIdeal.τ) (Cert.LastDownRefIdeal.main (F := Ideal))) ⟨m, fun _ => 0, g⟩ (fun r => (∀ c : Dev Cert.LastDownRefIdeal.nD,
      r.2.mem ((c.tc : Thread Cert.LastDownRefIdeal.nD Cert.LastDownRefIdeal.τ).loc Cert.LastDownRefIdeal.main_arg0) = m ((c.tc : Thread Cert.LastDownRefIdeal.nD Cert.LastDownRefIdeal.τ).loc Cert.LastDownRefIdeal.main_arg0)
      ∧ r.2.mem ((c.tc : Thread Cert.LastDownRefIdeal.nD Cert.LastDownRefIdeal.τ).loc Cert.LastDownRefIdeal.main_arg1) = m ((c.tc : Thread Cert.LastDownRefIdeal.nD Cert.LastDownRefIdeal.τ).loc Cert.LastDownRefIdeal.main_arg1)
      ∧ r.2.mem ((c.tc : Thread Cert.LastDownRefIdeal.nD Cert.LastDownRefIdeal.τ).loc Cert.LastDownRefIdeal.main_arg2) = m ((c.tc : Thread Cert.LastDownRefIdeal.nD Cert.LastDownRefIdeal.τ).loc Cert.LastDownRefIdeal.main_arg2))
      ∧ r.2.sem = fun _ => 0)

def quiescent_SwaIn [hSwaIn : Cert.SwaIn.Facts] : Prop :=
  ∀ (m : (ℓ : Loc Cert.SwaIn.nD Cert.SwaIn.τ Cert.SwaIn.sig) → Buf (Elt Bits) ℓ) (g : Dev Cert.SwaIn.nD → PrngReg), Pre_SwaIn m →
    θ_run (Cert.SwaIn.defs (F := Bits)) (onTc (τ := Cert.SwaIn.τ) (Cert.SwaIn.main (F := Bits))) ⟨m, fun _ => 0, g⟩ (fun r => (∀ c : Dev Cert.SwaIn.nD,
      r.2.mem ((c.tc : Thread Cert.SwaIn.nD Cert.SwaIn.τ).loc Cert.SwaIn.main_arg0) = m ((c.tc : Thread Cert.SwaIn.nD Cert.SwaIn.τ).loc Cert.SwaIn.main_arg0)
      ∧ r.2.mem ((c.tc : Thread Cert.SwaIn.nD Cert.SwaIn.τ).loc Cert.SwaIn.main_arg1) = m ((c.tc : Thread Cert.SwaIn.nD Cert.SwaIn.τ).loc Cert.SwaIn.main_arg1)
      ∧ r.2.mem ((c.tc : Thread Cert.SwaIn.nD Cert.SwaIn.τ).loc Cert.SwaIn.main_arg2) = m ((c.tc : Thread Cert.SwaIn.nD Cert.SwaIn.τ).loc Cert.SwaIn.main_arg2))
      ∧ r.2.sem = fun _ => 0)

def quiescent_SwaInIdeal [hSwaInIdeal : Cert.SwaInIdeal.Facts] : Prop :=
  ∀ (m : (ℓ : Loc Cert.SwaInIdeal.nD Cert.SwaInIdeal.τ Cert.SwaInIdeal.sig) → Buf (Elt Ideal) ℓ) (g : Dev Cert.SwaInIdeal.nD → PrngReg), Pre_SwaInIdeal m →
    θ_run (Cert.SwaInIdeal.defs (F := Ideal)) (onTc (τ := Cert.SwaInIdeal.τ) (Cert.SwaInIdeal.main (F := Ideal))) ⟨m, fun _ => 0, g⟩ (fun r => (∀ c : Dev Cert.SwaInIdeal.nD,
      r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
      ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
      ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2))
      ∧ r.2.sem = fun _ => 0)

def quiescent_SwaInRefIdeal [hSwaInRefIdeal : Cert.SwaInRefIdeal.Facts] : Prop :=
  ∀ (m : (ℓ : Loc Cert.SwaInRefIdeal.nD Cert.SwaInRefIdeal.τ Cert.SwaInRefIdeal.sig) → Buf (Elt Ideal) ℓ) (g : Dev Cert.SwaInRefIdeal.nD → PrngReg), Pre_SwaInRefIdeal m →
    θ_run (Cert.SwaInRefIdeal.defs (F := Ideal)) (onTc (τ := Cert.SwaInRefIdeal.τ) (Cert.SwaInRefIdeal.main (F := Ideal))) ⟨m, fun _ => 0, g⟩ (fun r => (∀ c : Dev Cert.SwaInRefIdeal.nD,
      r.2.mem ((c.tc : Thread Cert.SwaInRefIdeal.nD Cert.SwaInRefIdeal.τ).loc Cert.SwaInRefIdeal.main_arg0) = m ((c.tc : Thread Cert.SwaInRefIdeal.nD Cert.SwaInRefIdeal.τ).loc Cert.SwaInRefIdeal.main_arg0)
      ∧ r.2.mem ((c.tc : Thread Cert.SwaInRefIdeal.nD Cert.SwaInRefIdeal.τ).loc Cert.SwaInRefIdeal.main_arg1) = m ((c.tc : Thread Cert.SwaInRefIdeal.nD Cert.SwaInRefIdeal.τ).loc Cert.SwaInRefIdeal.main_arg1)
      ∧ r.2.mem ((c.tc : Thread Cert.SwaInRefIdeal.nD Cert.SwaInRefIdeal.τ).loc Cert.SwaInRefIdeal.main_arg2) = m ((c.tc : Thread Cert.SwaInRefIdeal.nD Cert.SwaInRefIdeal.τ).loc Cert.SwaInRefIdeal.main_arg2))
      ∧ r.2.sem = fun _ => 0)

def quiescent_DsaIn [hDsaIn : Cert.DsaIn.Facts] : Prop :=
  ∀ (m : (ℓ : Loc Cert.DsaIn.nD Cert.DsaIn.τ Cert.DsaIn.sig) → Buf (Elt Bits) ℓ) (g : Dev Cert.DsaIn.nD → PrngReg), Pre_DsaIn m →
    θ_run (Cert.DsaIn.defs (F := Bits)) (onTc (τ := Cert.DsaIn.τ) (Cert.DsaIn.main (F := Bits))) ⟨m, fun _ => 0, g⟩ (fun r => (∀ c : Dev Cert.DsaIn.nD,
      r.2.mem ((c.tc : Thread Cert.DsaIn.nD Cert.DsaIn.τ).loc Cert.DsaIn.main_arg0) = m ((c.tc : Thread Cert.DsaIn.nD Cert.DsaIn.τ).loc Cert.DsaIn.main_arg0)
      ∧ r.2.mem ((c.tc : Thread Cert.DsaIn.nD Cert.DsaIn.τ).loc Cert.DsaIn.main_arg1) = m ((c.tc : Thread Cert.DsaIn.nD Cert.DsaIn.τ).loc Cert.DsaIn.main_arg1))
      ∧ r.2.sem = fun _ => 0)

def quiescent_DsaInIdeal [hDsaInIdeal : Cert.DsaInIdeal.Facts] : Prop :=
  ∀ (m : (ℓ : Loc Cert.DsaInIdeal.nD Cert.DsaInIdeal.τ Cert.DsaInIdeal.sig) → Buf (Elt Ideal) ℓ) (g : Dev Cert.DsaInIdeal.nD → PrngReg), Pre_DsaInIdeal m →
    θ_run (Cert.DsaInIdeal.defs (F := Ideal)) (onTc (τ := Cert.DsaInIdeal.τ) (Cert.DsaInIdeal.main (F := Ideal))) ⟨m, fun _ => 0, g⟩ (fun r => (∀ c : Dev Cert.DsaInIdeal.nD,
      r.2.mem ((c.tc : Thread Cert.DsaInIdeal.nD Cert.DsaInIdeal.τ).loc Cert.DsaInIdeal.main_arg0) = m ((c.tc : Thread Cert.DsaInIdeal.nD Cert.DsaInIdeal.τ).loc Cert.DsaInIdeal.main_arg0)
      ∧ r.2.mem ((c.tc : Thread Cert.DsaInIdeal.nD Cert.DsaInIdeal.τ).loc Cert.DsaInIdeal.main_arg1) = m ((c.tc : Thread Cert.DsaInIdeal.nD Cert.DsaInIdeal.τ).loc Cert.DsaInIdeal.main_arg1))
      ∧ r.2.sem = fun _ => 0)

def quiescent_DsaInRefIdeal [hDsaInRefIdeal : Cert.DsaInRefIdeal.Facts] : Prop :=
  ∀ (m : (ℓ : Loc Cert.DsaInRefIdeal.nD Cert.DsaInRefIdeal.τ Cert.DsaInRefIdeal.sig) → Buf (Elt Ideal) ℓ) (g : Dev Cert.DsaInRefIdeal.nD → PrngReg), Pre_DsaInRefIdeal m →
    θ_run (Cert.DsaInRefIdeal.defs (F := Ideal)) (onTc (τ := Cert.DsaInRefIdeal.τ) (Cert.DsaInRefIdeal.main (F := Ideal))) ⟨m, fun _ => 0, g⟩ (fun r => (∀ c : Dev Cert.DsaInRefIdeal.nD,
      r.2.mem ((c.tc : Thread Cert.DsaInRefIdeal.nD Cert.DsaInRefIdeal.τ).loc Cert.DsaInRefIdeal.main_arg0) = m ((c.tc : Thread Cert.DsaInRefIdeal.nD Cert.DsaInRefIdeal.τ).loc Cert.DsaInRefIdeal.main_arg0)
      ∧ r.2.mem ((c.tc : Thread Cert.DsaInRefIdeal.nD Cert.DsaInRefIdeal.τ).loc Cert.DsaInRefIdeal.main_arg1) = m ((c.tc : Thread Cert.DsaInRefIdeal.nD Cert.DsaInRefIdeal.τ).loc Cert.DsaInRefIdeal.main_arg1))
      ∧ r.2.sem = fun _ => 0)

def quiescent_DsaIn2 [hDsaIn2 : Cert.DsaIn2.Facts] : Prop :=
  ∀ (m : (ℓ : Loc Cert.DsaIn2.nD Cert.DsaIn2.τ Cert.DsaIn2.sig) → Buf (Elt Bits) ℓ) (g : Dev Cert.DsaIn2.nD → PrngReg), Pre_DsaIn2 m →
    θ_run (Cert.DsaIn2.defs (F := Bits)) (onTc (τ := Cert.DsaIn2.τ) (Cert.DsaIn2.main (F := Bits))) ⟨m, fun _ => 0, g⟩ (fun r => (∀ c : Dev Cert.DsaIn2.nD,
      r.2.mem ((c.tc : Thread Cert.DsaIn2.nD Cert.DsaIn2.τ).loc Cert.DsaIn2.main_arg0) = m ((c.tc : Thread Cert.DsaIn2.nD Cert.DsaIn2.τ).loc Cert.DsaIn2.main_arg0)
      ∧ r.2.mem ((c.tc : Thread Cert.DsaIn2.nD Cert.DsaIn2.τ).loc Cert.DsaIn2.main_arg1) = m ((c.tc : Thread Cert.DsaIn2.nD Cert.DsaIn2.τ).loc Cert.DsaIn2.main_arg1)
      ∧ r.2.mem ((c.tc : Thread Cert.DsaIn2.nD Cert.DsaIn2.τ).loc Cert.DsaIn2.main_arg2) = m ((c.tc : Thread Cert.DsaIn2.nD Cert.DsaIn2.τ).loc Cert.DsaIn2.main_arg2))
      ∧ r.2.sem = fun _ => 0)

def quiescent_DsaIn2Ideal [hDsaIn2Ideal : Cert.DsaIn2Ideal.Facts] : Prop :=
  ∀ (m : (ℓ : Loc Cert.DsaIn2Ideal.nD Cert.DsaIn2Ideal.τ Cert.DsaIn2Ideal.sig) → Buf (Elt Ideal) ℓ) (g : Dev Cert.DsaIn2Ideal.nD → PrngReg), Pre_DsaIn2Ideal m →
    θ_run (Cert.DsaIn2Ideal.defs (F := Ideal)) (onTc (τ := Cert.DsaIn2Ideal.τ) (Cert.DsaIn2Ideal.main (F := Ideal))) ⟨m, fun _ => 0, g⟩ (fun r => (∀ c : Dev Cert.DsaIn2Ideal.nD,
      r.2.mem ((c.tc : Thread Cert.DsaIn2Ideal.nD Cert.DsaIn2Ideal.τ).loc Cert.DsaIn2Ideal.main_arg0) = m ((c.tc : Thread Cert.DsaIn2Ideal.nD Cert.DsaIn2Ideal.τ).loc Cert.DsaIn2Ideal.main_arg0)
      ∧ r.2.mem ((c.tc : Thread Cert.DsaIn2Ideal.nD Cert.DsaIn2Ideal.τ).loc Cert.DsaIn2Ideal.main_arg1) = m ((c.tc : Thread Cert.DsaIn2Ideal.nD Cert.DsaIn2Ideal.τ).loc Cert.DsaIn2Ideal.main_arg1)
      ∧ r.2.mem ((c.tc : Thread Cert.DsaIn2Ideal.nD Cert.DsaIn2Ideal.τ).loc Cert.DsaIn2Ideal.main_arg2) = m ((c.tc : Thread Cert.DsaIn2Ideal.nD Cert.DsaIn2Ideal.τ).loc Cert.DsaIn2Ideal.main_arg2))
      ∧ r.2.sem = fun _ => 0)

def quiescent_DsaIn2RefIdeal [hDsaIn2RefIdeal : Cert.DsaIn2RefIdeal.Facts] : Prop :=
  ∀ (m : (ℓ : Loc Cert.DsaIn2RefIdeal.nD Cert.DsaIn2RefIdeal.τ Cert.DsaIn2RefIdeal.sig) → Buf (Elt Ideal) ℓ) (g : Dev Cert.DsaIn2RefIdeal.nD → PrngReg), Pre_DsaIn2RefIdeal m →
    θ_run (Cert.DsaIn2RefIdeal.defs (F := Ideal)) (onTc (τ := Cert.DsaIn2RefIdeal.τ) (Cert.DsaIn2RefIdeal.main (F := Ideal))) ⟨m, fun _ => 0, g⟩ (fun r => (∀ c : Dev Cert.DsaIn2RefIdeal.nD,
      r.2.mem ((c.tc : Thread Cert.DsaIn2RefIdeal.nD Cert.DsaIn2RefIdeal.τ).loc Cert.DsaIn2RefIdeal.main_arg0) = m ((c.tc : Thread Cert.DsaIn2RefIdeal.nD Cert.DsaIn2RefIdeal.τ).loc Cert.DsaIn2RefIdeal.main_arg0)
      ∧ r.2.mem ((c.tc : Thread Cert.DsaIn2RefIdeal.nD Cert.DsaIn2RefIdeal.τ).loc Cert.DsaIn2RefIdeal.main_arg1) = m ((c.tc : Thread Cert.DsaIn2RefIdeal.nD Cert.DsaIn2RefIdeal.τ).loc Cert.DsaIn2RefIdeal.main_arg1)
      ∧ r.2.mem ((c.tc : Thread Cert.DsaIn2RefIdeal.nD Cert.DsaIn2RefIdeal.τ).loc Cert.DsaIn2RefIdeal.main_arg2) = m ((c.tc : Thread Cert.DsaIn2RefIdeal.nD Cert.DsaIn2RefIdeal.τ).loc Cert.DsaIn2RefIdeal.main_arg2))
      ∧ r.2.sem = fun _ => 0)

def preserves_Swa_SwaIdeal : Prop :=
  IdealRules.named_const.Statement Cert.SwaIdeal.κ "neg_inf" .f32 0xF149F2CA#32 ⊥

def algebraic_SwaIdeal_SwaRefIdeal_pre_swa_finite [hSwaIdeal : Cert.SwaIdeal.Facts] [hSwaRefIdeal : Cert.SwaRefIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v66) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_v7) = v1 c
          ∧ r.2.mem ((c.tc : Thread Cert.DownRefIdeal.nD Cert.DownRefIdeal.τ).loc Cert.DownRefIdeal.main_v10) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_FoxIn_FoxInIdeal : Prop :=
  True

def algebraic_FoxInIdeal_FoxInRefIdeal [hFoxInIdeal : Cert.FoxInIdeal.Facts] [hFoxInRefIdeal : Cert.FoxInRefIdeal.Facts] : Prop :=
  ∀ (m : (ℓ : Loc Cert.FoxInIdeal.nD Cert.FoxInIdeal.τ Cert.FoxInIdeal.sig) → Buf (Elt Ideal) ℓ) (g : Dev Cert.FoxInIdeal.nD → PrngReg)
    (m' : (ℓ : Loc Cert.FoxInRefIdeal.nD Cert.FoxInRefIdeal.τ Cert.FoxInRefIdeal.sig) → Buf (Elt Ideal) ℓ) (g' : Dev Cert.FoxInRefIdeal.nD → PrngReg), Pre_FoxInIdeal m →
    (∀ c : Dev Cert.FoxInIdeal.nD,
      m' ((c.tc : Thread Cert.FoxInRefIdeal.nD Cert.FoxInRefIdeal.τ).loc Cert.FoxInRefIdeal.main_arg0) = m ((c.tc : Thread Cert.FoxInIdeal.nD Cert.FoxInIdeal.τ).loc Cert.FoxInIdeal.main_arg0)
      ∧ m' ((c.tc : Thread Cert.FoxInRefIdeal.nD Cert.FoxInRefIdeal.τ).loc Cert.FoxInRefIdeal.main_arg1) = m ((c.tc : Thread Cert.FoxInIdeal.nD Cert.FoxInIdeal.τ).loc Cert.FoxInIdeal.main_arg1)
      ∧ m' ((c.tc : Thread Cert.FoxInRefIdeal.nD Cert.FoxInRefIdeal.τ).loc Cert.FoxInRefIdeal.main_arg2) = m ((c.tc : Thread Cert.FoxInIdeal.nD Cert.FoxInIdeal.τ).loc Cert.FoxInIdeal.main_arg2)) →
    ∃ (v0 : (c : Dev Cert.FoxInIdeal.nD) → Buf (Elt Ideal) ((c.tc : Thread Cert.FoxInIdeal.nD Cert.FoxInIdeal.τ).loc Cert.FoxInIdeal.main_v0)),
      θ_run (Cert.FoxInIdeal.defs (F := Ideal)) (onTc (τ := Cert.FoxInIdeal.τ) (Cert.FoxInIdeal.main (F := Ideal))) ⟨m, fun _ => 0, g⟩ (fun r => ∀ c : Dev Cert.FoxInIdeal.nD,
          r.2.mem ((c.tc : Thread Cert.FoxInIdeal.nD Cert.FoxInIdeal.τ).loc Cert.FoxInIdeal.main_v0) = v0 c
          ∧ r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
          ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1)
          ∧ r.2.mem ((c.tc : Thread Cert.FoxInIdeal.nD Cert.FoxInIdeal.τ).loc Cert.FoxInIdeal.main_arg2) = m ((c.tc : Thread Cert.FoxInIdeal.nD Cert.FoxInIdeal.τ).loc Cert.FoxInIdeal.main_arg2))
      ∧ θ_run (Cert.FoxInRefIdeal.defs (F := Ideal)) (onTc (τ := Cert.FoxInRefIdeal.τ) (Cert.FoxInRefIdeal.main (F := Ideal))) ⟨m', fun _ => 0, g'⟩ (fun r => ∀ c : Dev Cert.FoxInRefIdeal.nD,
          r.2.mem ((c.tc : Thread Cert.FoxInRefIdeal.nD Cert.FoxInRefIdeal.τ).loc Cert.FoxInRefIdeal.main_v12) = v0 c
          ∧ r.2.mem ((c.tc : Thread Cert.FoxInRefIdeal.nD Cert.FoxInRefIdeal.τ).loc Cert.FoxInRefIdeal.main_arg0) = m' ((c.tc : Thread Cert.FoxInRefIdeal.nD Cert.FoxInRefIdeal.τ).loc Cert.FoxInRefIdeal.main_arg0)
          ∧ r.2.mem ((c.tc : Thread Cert.FoxInRefIdeal.nD Cert.FoxInRefIdeal.τ).loc Cert.FoxInRefIdeal.main_arg1) = m' ((c.tc : Thread Cert.FoxInRefIdeal.nD Cert.FoxInRefIdeal.τ).loc Cert.FoxInRefIdeal.main_arg1)
          ∧ r.2.mem ((c.tc : Thread Cert.FoxInRefIdeal.nD Cert.FoxInRefIdeal.τ).loc Cert.FoxInRefIdeal.main_arg2) = m' ((c.tc : Thread Cert.FoxInRefIdeal.nD Cert.FoxInRefIdeal.τ).loc Cert.FoxInRefIdeal.main_arg2))

def preserves_Up_UpIdeal : Prop :=
  True

def algebraic_UpIdeal_UpRefIdeal_pre_up_finite [hUpIdeal : Cert.UpIdeal.Facts] [hUpRefIdeal : Cert.UpRefIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v38) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_LastDown_LastDownIdeal : Prop :=
  True

def algebraic_LastDownIdeal_LastDownRefIdeal [hLastDownIdeal : Cert.LastDownIdeal.Facts] [hLastDownRefIdeal : Cert.LastDownRefIdeal.Facts] : Prop :=
  ∀ (m : (ℓ : Loc Cert.LastDownIdeal.nD Cert.LastDownIdeal.τ Cert.LastDownIdeal.sig) → Buf (Elt Ideal) ℓ) (g : Dev Cert.LastDownIdeal.nD → PrngReg)
    (m' : (ℓ : Loc Cert.LastDownRefIdeal.nD Cert.LastDownRefIdeal.τ Cert.LastDownRefIdeal.sig) → Buf (Elt Ideal) ℓ) (g' : Dev Cert.LastDownRefIdeal.nD → PrngReg), Pre_LastDownIdeal m →
    (∀ c : Dev Cert.LastDownIdeal.nD,
      m' ((c.tc : Thread Cert.LastDownRefIdeal.nD Cert.LastDownRefIdeal.τ).loc Cert.LastDownRefIdeal.main_arg0) = m ((c.tc : Thread Cert.LastDownIdeal.nD Cert.LastDownIdeal.τ).loc Cert.LastDownIdeal.main_arg0)
      ∧ m' ((c.tc : Thread Cert.LastDownRefIdeal.nD Cert.LastDownRefIdeal.τ).loc Cert.LastDownRefIdeal.main_arg1) = m ((c.tc : Thread Cert.LastDownIdeal.nD Cert.LastDownIdeal.τ).loc Cert.LastDownIdeal.main_arg1)
      ∧ m' ((c.tc : Thread Cert.LastDownRefIdeal.nD Cert.LastDownRefIdeal.τ).loc Cert.LastDownRefIdeal.main_arg2) = m ((c.tc : Thread Cert.LastDownIdeal.nD Cert.LastDownIdeal.τ).loc Cert.LastDownIdeal.main_arg2)) →
    ∃ (v0 : (c : Dev Cert.LastDownIdeal.nD) → Buf (Elt Ideal) ((c.tc : Thread Cert.LastDownIdeal.nD Cert.LastDownIdeal.τ).loc Cert.LastDownIdeal.main_v0)),
      θ_run (Cert.LastDownIdeal.defs (F := Ideal)) (onTc (τ := Cert.LastDownIdeal.τ) (Cert.LastDownIdeal.main (F := Ideal))) ⟨m, fun _ => 0, g⟩ (fun r => ∀ c : Dev Cert.LastDownIdeal.nD,
          r.2.mem ((c.tc : Thread Cert.LastDownIdeal.nD Cert.LastDownIdeal.τ).loc Cert.LastDownIdeal.main_v0) = v0 c
          ∧ r.2.mem ((c.tc : Thread Cert.LastDownIdeal.nD Cert.LastDownIdeal.τ).loc Cert.LastDownIdeal.main_arg0) = m ((c.tc : Thread Cert.LastDownIdeal.nD Cert.LastDownIdeal.τ).loc Cert.LastDownIdeal.main_arg0)
          ∧ r.2.mem ((c.tc : Thread Cert.LastDownIdeal.nD Cert.LastDownIdeal.τ).loc Cert.LastDownIdeal.main_arg1) = m ((c.tc : Thread Cert.LastDownIdeal.nD Cert.LastDownIdeal.τ).loc Cert.LastDownIdeal.main_arg1)
          ∧ r.2.mem ((c.tc : Thread Cert.LastDownIdeal.nD Cert.LastDownIdeal.τ).loc Cert.LastDownIdeal.main_arg2) = m ((c.tc : Thread Cert.LastDownIdeal.nD Cert.LastDownIdeal.τ).loc Cert.LastDownIdeal.main_arg2))
      ∧ θ_run (Cert.LastDownRefIdeal.defs (F := Ideal)) (onTc (τ := Cert.LastDownRefIdeal.τ) (Cert.LastDownRefIdeal.main (F := Ideal))) ⟨m', fun _ => 0, g'⟩ (fun r => ∀ c : Dev Cert.LastDownRefIdeal.nD,
          r.2.mem ((c.tc : Thread Cert.LastDownRefIdeal.nD Cert.LastDownRefIdeal.τ).loc Cert.LastDownRefIdeal.main_v3) = v0 c
          ∧ r.2.mem ((c.tc : Thread Cert.LastDownRefIdeal.nD Cert.LastDownRefIdeal.τ).loc Cert.LastDownRefIdeal.main_arg0) = m' ((c.tc : Thread Cert.LastDownRefIdeal.nD Cert.LastDownRefIdeal.τ).loc Cert.LastDownRefIdeal.main_arg0)
          ∧ r.2.mem ((c.tc : Thread Cert.LastDownRefIdeal.nD Cert.LastDownRefIdeal.τ).loc Cert.LastDownRefIdeal.main_arg1) = m' ((c.tc : Thread Cert.LastDownRefIdeal.nD Cert.LastDownRefIdeal.τ).loc Cert.LastDownRefIdeal.main_arg1)
          ∧ r.2.mem ((c.tc : Thread Cert.LastDownRefIdeal.nD Cert.LastDownRefIdeal.τ).loc Cert.LastDownRefIdeal.main_arg2) = m' ((c.tc : Thread Cert.LastDownRefIdeal.nD Cert.LastDownRefIdeal.τ).loc Cert.LastDownRefIdeal.main_arg2))

def preserves_SwaIn_SwaInIdeal : Prop :=
  True

def algebraic_SwaInIdeal_SwaInRefIdeal [hSwaInIdeal : Cert.SwaInIdeal.Facts] [hSwaInRefIdeal : Cert.SwaInRefIdeal.Facts] : Prop :=
  ∀ (m : (ℓ : Loc Cert.SwaInIdeal.nD Cert.SwaInIdeal.τ Cert.SwaInIdeal.sig) → Buf (Elt Ideal) ℓ) (g : Dev Cert.SwaInIdeal.nD → PrngReg)
    (m' : (ℓ : Loc Cert.SwaInRefIdeal.nD Cert.SwaInRefIdeal.τ Cert.SwaInRefIdeal.sig) → Buf (Elt Ideal) ℓ) (g' : Dev Cert.SwaInRefIdeal.nD → PrngReg), Pre_SwaInIdeal m →
    (∀ c : Dev Cert.SwaInIdeal.nD,
      m' ((c.tc : Thread Cert.SwaInRefIdeal.nD Cert.SwaInRefIdeal.τ).loc Cert.SwaInRefIdeal.main_arg0) = m ((c.tc : Thread Cert.SwaInIdeal.nD Cert.SwaInIdeal.τ).loc Cert.SwaInIdeal.main_arg0)
      ∧ m' ((c.tc : Thread Cert.SwaInRefIdeal.nD Cert.SwaInRefIdeal.τ).loc Cert.SwaInRefIdeal.main_arg1) = m ((c.tc : Thread Cert.SwaInIdeal.nD Cert.SwaInIdeal.τ).loc Cert.SwaInIdeal.main_arg1)
      ∧ m' ((c.tc : Thread Cert.SwaInRefIdeal.nD Cert.SwaInRefIdeal.τ).loc Cert.SwaInRefIdeal.main_arg2) = m ((c.tc : Thread Cert.SwaInIdeal.nD Cert.SwaInIdeal.τ).loc Cert.SwaInIdeal.main_arg2)) →
    ∃ (v0 : (c : Dev Cert.SwaInIdeal.nD) → Buf (Elt Ideal) ((c.tc : Thread Cert.SwaInIdeal.nD Cert.SwaInIdeal.τ).loc Cert.SwaInIdeal.main_v31)),
      θ_run (Cert.SwaInIdeal.defs (F := Ideal)) (onTc (τ := Cert.SwaInIdeal.τ) (Cert.SwaInIdeal.main (F := Ideal))) ⟨m, fun _ => 0, g⟩ (fun r => ∀ c : Dev Cert.SwaInIdeal.nD,
          r.2.mem ((c.tc : Thread Cert.SwaInIdeal.nD Cert.SwaInIdeal.τ).loc Cert.SwaInIdeal.main_v31) = v0 c
          ∧ r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
          ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
          ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2))
      ∧ θ_run (Cert.SwaInRefIdeal.defs (F := Ideal)) (onTc (τ := Cert.SwaInRefIdeal.τ) (Cert.SwaInRefIdeal.main (F := Ideal))) ⟨m', fun _ => 0, g'⟩ (fun r => ∀ c : Dev Cert.SwaInRefIdeal.nD,
          r.2.mem ((c.tc : Thread Cert.SwaInRefIdeal.nD Cert.SwaInRefIdeal.τ).loc Cert.SwaInRefIdeal.main_v85) = v0 c
          ∧ r.2.mem ((c.tc : Thread Cert.SwaInRefIdeal.nD Cert.SwaInRefIdeal.τ).loc Cert.SwaInRefIdeal.main_arg0) = m' ((c.tc : Thread Cert.SwaInRefIdeal.nD Cert.SwaInRefIdeal.τ).loc Cert.SwaInRefIdeal.main_arg0)
          ∧ r.2.mem ((c.tc : Thread Cert.SwaInRefIdeal.nD Cert.SwaInRefIdeal.τ).loc Cert.SwaInRefIdeal.main_arg1) = m' ((c.tc : Thread Cert.SwaInRefIdeal.nD Cert.SwaInRefIdeal.τ).loc Cert.SwaInRefIdeal.main_arg1)
          ∧ r.2.mem ((c.tc : Thread Cert.SwaInRefIdeal.nD Cert.SwaInRefIdeal.τ).loc Cert.SwaInRefIdeal.main_arg2) = m' ((c.tc : Thread Cert.SwaInRefIdeal.nD Cert.SwaInRefIdeal.τ).loc Cert.SwaInRefIdeal.main_arg2))

def preserves_DsaIn_DsaInIdeal : Prop :=
  True

def algebraic_DsaInIdeal_DsaInRefIdeal [hDsaInIdeal : Cert.DsaInIdeal.Facts] [hDsaInRefIdeal : Cert.DsaInRefIdeal.Facts] : Prop :=
  ∀ (m : (ℓ : Loc Cert.DsaInIdeal.nD Cert.DsaInIdeal.τ Cert.DsaInIdeal.sig) → Buf (Elt Ideal) ℓ) (g : Dev Cert.DsaInIdeal.nD → PrngReg)
    (m' : (ℓ : Loc Cert.DsaInRefIdeal.nD Cert.DsaInRefIdeal.τ Cert.DsaInRefIdeal.sig) → Buf (Elt Ideal) ℓ) (g' : Dev Cert.DsaInRefIdeal.nD → PrngReg), Pre_DsaInIdeal m →
    (∀ c : Dev Cert.DsaInIdeal.nD,
      m' ((c.tc : Thread Cert.DsaInRefIdeal.nD Cert.DsaInRefIdeal.τ).loc Cert.DsaInRefIdeal.main_arg0) = m ((c.tc : Thread Cert.DsaInIdeal.nD Cert.DsaInIdeal.τ).loc Cert.DsaInIdeal.main_arg0)
      ∧ m' ((c.tc : Thread Cert.DsaInRefIdeal.nD Cert.DsaInRefIdeal.τ).loc Cert.DsaInRefIdeal.main_arg1) = m ((c.tc : Thread Cert.DsaInIdeal.nD Cert.DsaInIdeal.τ).loc Cert.DsaInIdeal.main_arg1)) →
    ∃ (v0 : (c : Dev Cert.DsaInIdeal.nD) → Buf (Elt Ideal) ((c.tc : Thread Cert.DsaInIdeal.nD Cert.DsaInIdeal.τ).loc Cert.DsaInIdeal.main_v31)),
      θ_run (Cert.DsaInIdeal.defs (F := Ideal)) (onTc (τ := Cert.DsaInIdeal.τ) (Cert.DsaInIdeal.main (F := Ideal))) ⟨m, fun _ => 0, g⟩ (fun r => ∀ c : Dev Cert.DsaInIdeal.nD,
          r.2.mem ((c.tc : Thread Cert.DsaInIdeal.nD Cert.DsaInIdeal.τ).loc Cert.DsaInIdeal.main_v31) = v0 c
          ∧ r.2.mem ((c.tc : Thread Cert.DsaInIdeal.nD Cert.DsaInIdeal.τ).loc Cert.DsaInIdeal.main_arg0) = m ((c.tc : Thread Cert.DsaInIdeal.nD Cert.DsaInIdeal.τ).loc Cert.DsaInIdeal.main_arg0)
          ∧ r.2.mem ((c.tc : Thread Cert.DsaInIdeal.nD Cert.DsaInIdeal.τ).loc Cert.DsaInIdeal.main_arg1) = m ((c.tc : Thread Cert.DsaInIdeal.nD Cert.DsaInIdeal.τ).loc Cert.DsaInIdeal.main_arg1))
      ∧ θ_run (Cert.DsaInRefIdeal.defs (F := Ideal)) (onTc (τ := Cert.DsaInRefIdeal.τ) (Cert.DsaInRefIdeal.main (F := Ideal))) ⟨m', fun _ => 0, g'⟩ (fun r => ∀ c : Dev Cert.DsaInRefIdeal.nD,
          r.2.mem ((c.tc : Thread Cert.DsaInRefIdeal.nD Cert.DsaInRefIdeal.τ).loc Cert.DsaInRefIdeal.main_v112) = v0 c
          ∧ r.2.mem ((c.tc : Thread Cert.DsaInRefIdeal.nD Cert.DsaInRefIdeal.τ).loc Cert.DsaInRefIdeal.main_arg0) = m' ((c.tc : Thread Cert.DsaInRefIdeal.nD Cert.DsaInRefIdeal.τ).loc Cert.DsaInRefIdeal.main_arg0)
          ∧ r.2.mem ((c.tc : Thread Cert.DsaInRefIdeal.nD Cert.DsaInRefIdeal.τ).loc Cert.DsaInRefIdeal.main_arg1) = m' ((c.tc : Thread Cert.DsaInRefIdeal.nD Cert.DsaInRefIdeal.τ).loc Cert.DsaInRefIdeal.main_arg1))

def preserves_DsaIn2_DsaIn2Ideal : Prop :=
  True

def algebraic_DsaIn2Ideal_DsaIn2RefIdeal [hDsaIn2Ideal : Cert.DsaIn2Ideal.Facts] [hDsaIn2RefIdeal : Cert.DsaIn2RefIdeal.Facts] : Prop :=
  ∀ (m : (ℓ : Loc Cert.DsaIn2Ideal.nD Cert.DsaIn2Ideal.τ Cert.DsaIn2Ideal.sig) → Buf (Elt Ideal) ℓ) (g : Dev Cert.DsaIn2Ideal.nD → PrngReg)
    (m' : (ℓ : Loc Cert.DsaIn2RefIdeal.nD Cert.DsaIn2RefIdeal.τ Cert.DsaIn2RefIdeal.sig) → Buf (Elt Ideal) ℓ) (g' : Dev Cert.DsaIn2RefIdeal.nD → PrngReg), Pre_DsaIn2Ideal m →
    (∀ c : Dev Cert.DsaIn2Ideal.nD,
      m' ((c.tc : Thread Cert.DsaIn2RefIdeal.nD Cert.DsaIn2RefIdeal.τ).loc Cert.DsaIn2RefIdeal.main_arg0) = m ((c.tc : Thread Cert.DsaIn2Ideal.nD Cert.DsaIn2Ideal.τ).loc Cert.DsaIn2Ideal.main_arg0)
      ∧ m' ((c.tc : Thread Cert.DsaIn2RefIdeal.nD Cert.DsaIn2RefIdeal.τ).loc Cert.DsaIn2RefIdeal.main_arg1) = m ((c.tc : Thread Cert.DsaIn2Ideal.nD Cert.DsaIn2Ideal.τ).loc Cert.DsaIn2Ideal.main_arg1)
      ∧ m' ((c.tc : Thread Cert.DsaIn2RefIdeal.nD Cert.DsaIn2RefIdeal.τ).loc Cert.DsaIn2RefIdeal.main_arg2) = m ((c.tc : Thread Cert.DsaIn2Ideal.nD Cert.DsaIn2Ideal.τ).loc Cert.DsaIn2Ideal.main_arg2)) →
    ∃ (v0 : (c : Dev Cert.DsaIn2Ideal.nD) → Buf (Elt Ideal) ((c.tc : Thread Cert.DsaIn2Ideal.nD Cert.DsaIn2Ideal.τ).loc Cert.DsaIn2Ideal.main_v31)),
      θ_run (Cert.DsaIn2Ideal.defs (F := Ideal)) (onTc (τ := Cert.DsaIn2Ideal.τ) (Cert.DsaIn2Ideal.main (F := Ideal))) ⟨m, fun _ => 0, g⟩ (fun r => ∀ c : Dev Cert.DsaIn2Ideal.nD,
          r.2.mem ((c.tc : Thread Cert.DsaIn2Ideal.nD Cert.DsaIn2Ideal.τ).loc Cert.DsaIn2Ideal.main_v31) = v0 c
          ∧ r.2.mem ((c.tc : Thread Cert.DsaIn2Ideal.nD Cert.DsaIn2Ideal.τ).loc Cert.DsaIn2Ideal.main_arg0) = m ((c.tc : Thread Cert.DsaIn2Ideal.nD Cert.DsaIn2Ideal.τ).loc Cert.DsaIn2Ideal.main_arg0)
          ∧ r.2.mem ((c.tc : Thread Cert.DsaIn2Ideal.nD Cert.DsaIn2Ideal.τ).loc Cert.DsaIn2Ideal.main_arg1) = m ((c.tc : Thread Cert.DsaIn2Ideal.nD Cert.DsaIn2Ideal.τ).loc Cert.DsaIn2Ideal.main_arg1)
          ∧ r.2.mem ((c.tc : Thread Cert.DsaIn2Ideal.nD Cert.DsaIn2Ideal.τ).loc Cert.DsaIn2Ideal.main_arg2) = m ((c.tc : Thread Cert.DsaIn2Ideal.nD Cert.DsaIn2Ideal.τ).loc Cert.DsaIn2Ideal.main_arg2))
      ∧ θ_run (Cert.DsaIn2RefIdeal.defs (F := Ideal)) (onTc (τ := Cert.DsaIn2RefIdeal.τ) (Cert.DsaIn2RefIdeal.main (F := Ideal))) ⟨m', fun _ => 0, g'⟩ (fun r => ∀ c : Dev Cert.DsaIn2RefIdeal.nD,
          r.2.mem ((c.tc : Thread Cert.DsaIn2RefIdeal.nD Cert.DsaIn2RefIdeal.τ).loc Cert.DsaIn2RefIdeal.main_v121) = v0 c
          ∧ r.2.mem ((c.tc : Thread Cert.DsaIn2RefIdeal.nD Cert.DsaIn2RefIdeal.τ).loc Cert.DsaIn2RefIdeal.main_arg0) = m' ((c.tc : Thread Cert.DsaIn2RefIdeal.nD Cert.DsaIn2RefIdeal.τ).loc Cert.DsaIn2RefIdeal.main_arg0)
          ∧ r.2.mem ((c.tc : Thread Cert.DsaIn2RefIdeal.nD Cert.DsaIn2RefIdeal.τ).loc Cert.DsaIn2RefIdeal.main_arg1) = m' ((c.tc : Thread Cert.DsaIn2RefIdeal.nD Cert.DsaIn2RefIdeal.τ).loc Cert.DsaIn2RefIdeal.main_arg1)
          ∧ r.2.mem ((c.tc : Thread Cert.DsaIn2RefIdeal.nD Cert.DsaIn2RefIdeal.τ).loc Cert.DsaIn2RefIdeal.main_arg2) = m' ((c.tc : Thread Cert.DsaIn2RefIdeal.nD Cert.DsaIn2RefIdeal.τ).loc Cert.DsaIn2RefIdeal.main_arg2))

def Claim : Prop :=
  ∃ (hSwa : Cert.Swa.Facts) (hSwaIdeal : Cert.SwaIdeal.Facts) (hSwaRefIdeal : Cert.SwaRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hFoxIn : Cert.FoxIn.Facts) (hFoxInIdeal : Cert.FoxInIdeal.Facts) (hFoxInRefIdeal : Cert.FoxInRefIdeal.Facts) (hUp : Cert.Up.Facts) (hUpIdeal : Cert.UpIdeal.Facts) (hUpRefIdeal : Cert.UpRefIdeal.Facts) (hLastDown : Cert.LastDown.Facts) (hLastDownIdeal : Cert.LastDownIdeal.Facts) (hLastDownRefIdeal : Cert.LastDownRefIdeal.Facts) (hSwaIn : Cert.SwaIn.Facts) (hSwaInIdeal : Cert.SwaInIdeal.Facts) (hSwaInRefIdeal : Cert.SwaInRefIdeal.Facts) (hDsaIn : Cert.DsaIn.Facts) (hDsaInIdeal : Cert.DsaInIdeal.Facts) (hDsaInRefIdeal : Cert.DsaInRefIdeal.Facts) (hDsaIn2 : Cert.DsaIn2.Facts) (hDsaIn2Ideal : Cert.DsaIn2Ideal.Facts) (hDsaIn2RefIdeal : Cert.DsaIn2RefIdeal.Facts) (hPre_swa_finite : Cert.Pre_swa_finite.Facts) (hPre_up_finite : Cert.Pre_up_finite.Facts),
    quiescent_Swa (hSwa := hSwa)
    ∧ quiescent_SwaIdeal (hSwaIdeal := hSwaIdeal)
    ∧ quiescent_SwaIdeal_pre_swa_finite (hSwaIdeal := hSwaIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_FoxIn (hFoxIn := hFoxIn)
    ∧ quiescent_FoxInIdeal (hFoxInIdeal := hFoxInIdeal)
    ∧ quiescent_FoxInRefIdeal (hFoxInRefIdeal := hFoxInRefIdeal)
    ∧ quiescent_Up (hUp := hUp)
    ∧ quiescent_UpIdeal (hUpIdeal := hUpIdeal)
    ∧ quiescent_UpIdeal_pre_up_finite (hUpIdeal := hUpIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_LastDown (hLastDown := hLastDown)
    ∧ quiescent_LastDownIdeal (hLastDownIdeal := hLastDownIdeal)
    ∧ quiescent_LastDownRefIdeal (hLastDownRefIdeal := hLastDownRefIdeal)
    ∧ quiescent_SwaIn (hSwaIn := hSwaIn)
    ∧ quiescent_SwaInIdeal (hSwaInIdeal := hSwaInIdeal)
    ∧ quiescent_SwaInRefIdeal (hSwaInRefIdeal := hSwaInRefIdeal)
    ∧ quiescent_DsaIn (hDsaIn := hDsaIn)
    ∧ quiescent_DsaInIdeal (hDsaInIdeal := hDsaInIdeal)
    ∧ quiescent_DsaInRefIdeal (hDsaInRefIdeal := hDsaInRefIdeal)
    ∧ quiescent_DsaIn2 (hDsaIn2 := hDsaIn2)
    ∧ quiescent_DsaIn2Ideal (hDsaIn2Ideal := hDsaIn2Ideal)
    ∧ quiescent_DsaIn2RefIdeal (hDsaIn2RefIdeal := hDsaIn2RefIdeal)
    ∧ preserves_Swa_SwaIdeal
    ∧ algebraic_SwaIdeal_SwaRefIdeal_pre_swa_finite (hSwaIdeal := hSwaIdeal) (hSwaRefIdeal := hSwaRefIdeal) (hPre_swa_finite := hPre_swa_finite)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_FoxIn_FoxInIdeal
    ∧ algebraic_FoxInIdeal_FoxInRefIdeal (hFoxInIdeal := hFoxInIdeal) (hFoxInRefIdeal := hFoxInRefIdeal)
    ∧ preserves_Up_UpIdeal
    ∧ algebraic_UpIdeal_UpRefIdeal_pre_up_finite (hUpIdeal := hUpIdeal) (hUpRefIdeal := hUpRefIdeal) (hPre_up_finite := hPre_up_finite)
    ∧ preserves_LastDown_LastDownIdeal
    ∧ algebraic_LastDownIdeal_LastDownRefIdeal (hLastDownIdeal := hLastDownIdeal) (hLastDownRefIdeal := hLastDownRefIdeal)
    ∧ preserves_SwaIn_SwaInIdeal
    ∧ algebraic_SwaInIdeal_SwaInRefIdeal (hSwaInIdeal := hSwaInIdeal) (hSwaInRefIdeal := hSwaInRefIdeal)
    ∧ preserves_DsaIn_DsaInIdeal
    ∧ algebraic_DsaInIdeal_DsaInRefIdeal (hDsaInIdeal := hDsaInIdeal) (hDsaInRefIdeal := hDsaInRefIdeal)
    ∧ preserves_DsaIn2_DsaIn2Ideal
    ∧ algebraic_DsaIn2Ideal_DsaIn2RefIdeal (hDsaIn2Ideal := hDsaIn2Ideal) (hDsaIn2RefIdeal := hDsaIn2RefIdeal)
-- ==== Pre_swa_finite.lean ====
abbrev S2x4096x5120 : Shape := ⟨3, ![2, 4096, 5120]⟩
abbrev S64 : Shape := ⟨1, ![64]⟩
abbrev S2x4096x4608 : Shape := ⟨3, ![2, 4096, 4608]⟩
abbrev S_ : Shape := ⟨0, ![]⟩

class Facts : Prop where
  slices_S2x4096x5120_S2x4096x4608_0_0_0 : S2x4096x5120.Slices ![0, 0, 0] S2x4096x4608
  bitsLt_bf16_f32 : FTy.bits .bf16 < FTy.bits .f32
  bcast_S_S2x4096x4608 : S_.BroadcastsInDim S2x4096x4608 (![] : Fin 0 → Fin S2x4096x4608.rank)
  bcast_S_S64 : S_.BroadcastsInDim S64 (![] : Fin 0 → Fin S64.rank)

variable [Facts]

def fn {F : FTy → Type} [FloatOps F] (main_arg0 : FVec F S2x4096x5120 .bf16) (main_arg1 : FVec F S64 .f32) : IVec S2x4096x4608 1 × IVec S64 1 :=
  let main_v0 : FVec F S2x4096x4608 .bf16 := (extractStridedSlice S2x4096x4608 ![0, 0, 0] · slices_S2x4096x5120_S2x4096x4608_0_0_0) main_arg0
  let main_v1 : FVec F S2x4096x4608 .f32 := (extf .f32 · bitsLt_bf16_f32) main_v0
  let main_v2 : FVec F S2x4096x4608 .f32 := Host.absf main_v1
  let main_cst : FVec F S_ .f32 := constant S_ .f32 0x7F800000#32
  let main_v3 : FVec F S2x4096x4608 .f32 := broadcastInDim S2x4096x4608 ![] bcast_S_S2x4096x4608 main_cst
  let main_v4 : IVec S2x4096x4608 1 := cmpf .olt main_v2 main_v3
  let main_cst_0 : FVec F S_ .f32 := constant S_ .f32 0x7F800000#32
  let main_v5 : FVec F S64 .f32 := broadcastInDim S64 ![] bcast_S_S64 main_cst_0
  let main_v6 : IVec S64 1 := cmpf .olt main_arg1 main_v5
  (main_v4, main_v6)
-- ==== Pre_up_finite.lean ====
abbrev S8192x4096 : Shape := ⟨2, ![8192, 4096]⟩
abbrev S4x4096x22016 : Shape := ⟨3, ![4, 4096, 22016]⟩
abbrev S4x3x22016 : Shape := ⟨3, ![4, 3, 22016]⟩
abbrev S4x22016 : Shape := ⟨2, ![4, 22016]⟩
abbrev S_ : Shape := ⟨0, ![]⟩

class Facts : Prop where
  bcast_S_S8192x4096 : S_.BroadcastsInDim S8192x4096 (![] : Fin 0 → Fin S8192x4096.rank)
  bcast_S_S4x4096x22016 : S_.BroadcastsInDim S4x4096x22016 (![] : Fin 0 → Fin S4x4096x22016.rank)
  bcast_S_S4x3x22016 : S_.BroadcastsInDim S4x3x22016 (![] : Fin 0 → Fin S4x3x22016.rank)
  bcast_S_S4x22016 : S_.BroadcastsInDim S4x22016 (![] : Fin 0 → Fin S4x22016.rank)

variable [Facts]

def fn {F : FTy → Type} [FloatOps F] (main_arg0 : FVec F S8192x4096 .bf16) (main_arg1 : FVec F S4x4096x22016 .f32) (main_arg2 : FVec F S4x3x22016 .f32) (main_arg3 : FVec F S4x22016 .f32) : IVec S8192x4096 1 × IVec S4x4096x22016 1 × IVec S4x3x22016 1 × IVec S4x22016 1 :=
  let main_v0 : FVec F S8192x4096 .bf16 := Host.absf main_arg0
  let main_cst : FVec F S_ .bf16 := constant S_ .bf16 0x7F80#16
  let main_v1 : FVec F S8192x4096 .bf16 := broadcastInDim S8192x4096 ![] bcast_S_S8192x4096 main_cst
  let main_v2 : IVec S8192x4096 1 := cmpf .olt main_v0 main_v1
  let main_v3 : FVec F S4x4096x22016 .f32 := Host.absf main_arg1
  let main_cst_0 : FVec F S_ .f32 := constant S_ .f32 0x7F800000#32
  let main_v4 : FVec F S4x4096x22016 .f32 := broadcastInDim S4x4096x22016 ![] bcast_S_S4x4096x22016 main_cst_0
  let main_v5 : IVec S4x4096x22016 1 := cmpf .olt main_v3 main_v4
  let main_v6 : FVec F S4x3x22016 .f32 := Host.absf main_arg2
  let main_cst_1 : FVec F S_ .f32 := constant S_ .f32 0x7F800000#32
  let main_v7 : FVec F S4x3x22016 .f32 := broadcastInDim S4x3x22016 ![] bcast_S_S4x3x22016 main_cst_1
  let main_v8 : IVec S4x3x22016 1 := cmpf .olt main_v6 main_v7
  let main_v9 : FVec F S4x22016 .f32 := Host.absf main_arg3
  let main_cst_2 : FVec F S_ .f32 := constant S_ .f32 0x7F800000#32
  let main_v10 : FVec F S4x22016 .f32 := broadcastInDim S4x22016 ![] bcast_S_S4x22016 main_cst_2
  let main_v11 : IVec S4x22016 1 := cmpf .olt main_v9 main_v10
  (main_v2, main_v5, main_v8, main_v11)
-- ==== Swa.lean ====
abbrev S2x4096x5120 : Shape := ⟨3, ![2, 4096, 5120]⟩
abbrev S64 : Shape := ⟨1, ![64]⟩
abbrev S2x4096x4096 : Shape := ⟨3, ![2, 4096, 4096]⟩
abbrev S1x128x1024 : Shape := ⟨3, ![1, 128, 1024]⟩
abbrev S1x128x128 : Shape := ⟨3, ![1, 128, 128]⟩
abbrev S128x1 : Shape := ⟨2, ![128, 1]⟩
abbrev S1x256 : Shape := ⟨2, ![1, 256]⟩
abbrev S128x256 : Shape := ⟨2, ![128, 256]⟩
abbrev S128x128 : Shape := ⟨2, ![128, 128]⟩
abbrev S256x128 : Shape := ⟨2, ![256, 128]⟩
abbrev S256x64 : Shape := ⟨2, ![256, 64]⟩
abbrev S1x128x64 : Shape := ⟨3, ![1, 128, 64]⟩
abbrev S128x64 : Shape := ⟨2, ![128, 64]⟩
abbrev S1 : Shape := ⟨1, ![1]⟩
abbrev S128 : Shape := ⟨1, ![128]⟩

abbrev nBuf : Space → Nat
  | .hbm => 3
  | .vmem => 12
  | .smem => 1
  | _ => 0

abbrev bufTy : (tb : Table) → Fin (tcTables nBuf tb) → BufTy
  | .hbm, ⟨0, _⟩ => ⟨S2x4096x5120, .bf16⟩
  | .hbm, ⟨1, _⟩ => ⟨S64, .f32⟩
  | .hbm, ⟨2, _⟩ => ⟨S2x4096x4096, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x1024, .bf16⟩
  | .local _ .vmem, ⟨11, _⟩ => ⟨S1x128x1024, .bf16⟩
  | .local _ .smem, ⟨0, _⟩ => ⟨S64, .f32⟩
  | _, _ => ⟨S2x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 32, 4], ![false, false, false]⟩

def k0_off1 (i : grid0.Coords) (c0_i32 : BitVec 32) (c0_i32_17 : BitVec 32) : Fin 1 → Nat :=
  let arg2 : BitVec 32 := BitVec.ofNat 32 (i 2).val
  let c2_i32 : BitVec 32 := 2#32
  let v35 : BitVec 32 := Scalar.muli arg2 c2_i32
  let v36 : BitVec 32 := Scalar.addi v35 c0_i32
  let c8_i32 : BitVec 32 := 8#32
  let v37 : BitVec 32 := Scalar.muli v36 c8_i32
  let v38 : BitVec 32 := Scalar.addi v37 c0_i32_17
  let v39 : Index := Scalar.indexCast v38
  ![v39.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c32_i32 : BitVec 32 := 32#32
  let v2 : BitVec 32 := Scalar.addi c32_i32 arg2
  let c0_i32_0 : BitVec 32 := 0#32
  ![arg0.toNat, v1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c36_i32 : BitVec 32 := 36#32
  let v2 : BitVec 32 := Scalar.addi c36_i32 arg2
  let c0_i32_0 : BitVec 32 := 0#32
  ![arg0.toNat, v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg2
  let c0_i32 : BitVec 32 := 0#32
  ![arg0.toNat, arg1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== SwaIdeal.lean ====
variable {F : FTy → Type} [FloatOps F] [Named F]
def κ : String → Option EReal := fun
  | "neg_inf" => some ⊥
  | _ => none
-- ==== SwaRefIdeal.lean ====
abbrev S2x4096x5120 : Shape := ⟨3, ![2, 4096, 5120]⟩
abbrev S64 : Shape := ⟨1, ![64]⟩
abbrev S2x4096x4096 : Shape := ⟨3, ![2, 4096, 4096]⟩
abbrev S2x4096x512 : Shape := ⟨3, ![2, 4096, 512]⟩
abbrev S64x128x8x8x64 : Shape := ⟨5, ![64, 128, 8, 8, 64]⟩
abbrev S2x32x128x512 : Shape := ⟨4, ![2, 32, 128, 512]⟩
abbrev S_ : Shape := ⟨0, ![]⟩
abbrev S2x33x128x512 : Shape := ⟨4, ![2, 33, 128, 512]⟩
abbrev S2x32x256x512 : Shape := ⟨4, ![2, 32, 256, 512]⟩
abbrev S64x256x8x64 : Shape := ⟨4, ![64, 256, 8, 64]⟩
abbrev S64x8x256x128x8 : Shape := ⟨5, ![64, 8, 256, 128, 8]⟩
abbrev S64x8x8x128x256 : Shape := ⟨5, ![64, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S32 : Shape := ⟨1, ![32]⟩
abbrev S32x1x1 : Shape := ⟨3, ![32, 1, 1]⟩
abbrev S128x256 : Shape := ⟨2, ![128, 256]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x128x256 : Shape := ⟨4, ![1, 32, 128, 256]⟩
abbrev S2x32x128x256 : Shape := ⟨4, ![2, 32, 128, 256]⟩
abbrev S64x1x1x128x256 : Shape := ⟨5, ![64, 1, 1, 128, 256]⟩
abbrev S1x8x8x1x1 : Shape := ⟨5, ![1, 8, 8, 1, 1]⟩
abbrev S64x8x8x128x1 : Shape := ⟨5, ![64, 8, 8, 128, 1]⟩
abbrev S64x8x8x128x257 : Shape := ⟨5, ![64, 8, 8, 128, 257]⟩
abbrev S64x8x8x128 : Shape := ⟨4, ![64, 8, 8, 128]⟩
abbrev S64x8x64x8x128 : Shape := ⟨5, ![64, 8, 64, 8, 128]⟩

abbrev nBuf : Space → Nat
  | .hbm => 83
  | .vmem => 0
  | .smem => 0
  | _ => 0

abbrev bufTy : (tb : Table) → Fin (tcTables nBuf tb) → BufTy
  | .hbm, ⟨0, _⟩ => ⟨S2x4096x5120, .bf16⟩
  | .hbm, ⟨1, _⟩ => ⟨S64, .f32⟩
  | .hbm, ⟨2, _⟩ => ⟨S2x4096x4096, .bf16⟩
  | .hbm, ⟨3, _⟩ => ⟨S2x4096x512, .bf16⟩
  | .hbm, ⟨4, _⟩ => ⟨S2x4096x512, .bf16⟩
  | .hbm, ⟨5, _⟩ => ⟨S64x128x8x8x64, .bf16⟩
  | .hbm, ⟨6, _⟩ => ⟨S2x32x128x512, .bf16⟩
  | .hbm, ⟨7, _⟩ => ⟨S_, .i32⟩
  | .hbm, ⟨8, _⟩ => ⟨S_, .bf16⟩
  | .hbm, ⟨9, _⟩ => ⟨S2x33x128x512, .bf16⟩
  | .hbm, ⟨10, _⟩ => ⟨S2x32x128x512, .bf16⟩
  | .hbm, ⟨11, _⟩ => ⟨S2x32x256x512, .bf16⟩
  | .hbm, ⟨12, _⟩ => ⟨S64x256x8x64, .bf16⟩
  | .hbm, ⟨13, _⟩ => ⟨S2x32x128x512, .bf16⟩
  | .hbm, ⟨14, _⟩ => ⟨S_, .i32⟩
  | .hbm, ⟨15, _⟩ => ⟨S_, .bf16⟩
  | .hbm, ⟨16, _⟩ => ⟨S2x33x128x512, .bf16⟩
  | .hbm, ⟨17, _⟩ => ⟨S2x32x128x512, .bf16⟩
  | .hbm, ⟨18, _⟩ => ⟨S2x32x256x512, .bf16⟩
  | .hbm, ⟨19, _⟩ => ⟨S64x256x8x64, .bf16⟩
  | .hbm, ⟨20, _⟩ => ⟨S64x8x256x128x8, .f32⟩
  | .hbm, ⟨21, _⟩ => ⟨S64x8x8x128x256, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S32, .i32⟩
  | .hbm, ⟨27, _⟩ => ⟨S32x1x1, .i32⟩
  | .hbm, ⟨28, _⟩ => ⟨S128x256, .i32⟩
  | .hbm, ⟨29, _⟩ => ⟨S128x256, .i32⟩
  | .hbm, ⟨30, _⟩ => ⟨S128x256, .i1⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x256, .i32⟩
  | .hbm, ⟨35, _⟩ => ⟨S128x256, .i32⟩
  | .hbm, ⟨36, _⟩ => ⟨S128x256, .i1⟩
  | .hbm, ⟨37, _⟩ => ⟨S128x256, .i1⟩
  | .hbm, ⟨38, _⟩ => ⟨S_, .i32⟩
  | .hbm, ⟨39, _⟩ => ⟨S32x1x1, .i32⟩
  | .hbm, ⟨40, _⟩ => ⟨S32x1x1, .i32⟩
  | .hbm, ⟨41, _⟩ => ⟨S1x1x256, .i32⟩
  | .hbm, ⟨42, _⟩ => ⟨S32x1x256, .i32⟩
  | .hbm, ⟨43, _⟩ => ⟨S32x1x256, .i32⟩
  | .hbm, ⟨44, _⟩ => ⟨S32x1x256, .i32⟩
  | .hbm, ⟨45, _⟩ => ⟨S_, .i32⟩
  | .hbm, ⟨46, _⟩ => ⟨S32x1x256, .i32⟩
  | .hbm, ⟨47, _⟩ => ⟨S32x1x256, .i1⟩
  | .hbm, ⟨48, _⟩ => ⟨S1x128x256, .i1⟩
  | .hbm, ⟨49, _⟩ => ⟨S32x128x256, .i1⟩
  | .hbm, ⟨50, _⟩ => ⟨S32x128x256, .i1⟩
  | .hbm, ⟨51, _⟩ => ⟨S32x128x256, .i1⟩
  | .hbm, ⟨52, _⟩ => ⟨S1x32x128x256, .i1⟩
  | .hbm, ⟨53, _⟩ => ⟨S2x32x128x256, .i1⟩
  | .hbm, ⟨54, _⟩ => ⟨S64x1x1x128x256, .i1⟩
  | .hbm, ⟨55, _⟩ => ⟨S_, .f32⟩
  | .hbm, ⟨56, _⟩ => ⟨S_, .f32⟩
  | .hbm, ⟨57, _⟩ => ⟨S64x8x8x128x256, .i1⟩
  | .hbm, ⟨58, _⟩ => ⟨S64x8x8x128x256, .f32⟩
  | .hbm, ⟨59, _⟩ => ⟨S64x8x8x128x256, .f32⟩
  | .hbm, ⟨60, _⟩ => ⟨S1x8x8x1x1, .f32⟩
  | .hbm, ⟨61, _⟩ => ⟨S64x8x8x128x1, .f32⟩
  | .hbm, ⟨62, _⟩ => ⟨S64x8x8x128x257, .f32⟩
  | .hbm, ⟨63, _⟩ => ⟨S_, .f32⟩
  | .hbm, ⟨64, _⟩ => ⟨S64x8x8x128, .f32⟩
  | .hbm, ⟨65, _⟩ => ⟨S_, .f32⟩
  | .hbm, ⟨66, _⟩ => ⟨S64x8x8x128, .f32⟩
  | .hbm, ⟨67, _⟩ => ⟨S64x8x8x128, .f32⟩
  | .hbm, ⟨68, _⟩ => ⟨S64x8x8x128x1, .f32⟩
  | .hbm, ⟨69, _⟩ => ⟨S64x8x8x128x257, .f32⟩
  | .hbm, ⟨70, _⟩ => ⟨S64x8x8x128x257, .f32⟩
  | .hbm, ⟨71, _⟩ => ⟨S64x8x8x128x257, .f32⟩
  | .hbm, ⟨72, _⟩ => ⟨S_, .f32⟩
  | .hbm, ⟨73, _⟩ => ⟨S64x8x8x128, .f32⟩
  | .hbm, ⟨74, _⟩ => ⟨S64x8x8x128x1, .f32⟩
  | .hbm, ⟨75, _⟩ => ⟨S64x8x8x128x257, .f32⟩
  | .hbm, ⟨76, _⟩ => ⟨S64x8x8x128x257, .f32⟩
  | .hbm, ⟨77, _⟩ => ⟨S64x8x8x128x256, .f32⟩
  | .hbm, ⟨78, _⟩ => ⟨S64x8x8x128x256, .bf16⟩
  | .hbm, ⟨79, _⟩ => ⟨S64x8x64x8x128, .f32⟩
  | .hbm, ⟨80, _⟩ => ⟨S64x128x8x8x64, .f32⟩
  | .hbm, ⟨81, _⟩ => ⟨S2x4096x4096, .f32⟩
  | .hbm, ⟨82, _⟩ => ⟨S2x4096x4096, .bf16⟩
  | _, _ => ⟨S2x4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== Down.lean ====
abbrev S8192x11008 : Shape := ⟨2, ![8192, 11008]⟩
abbrev S4x11008x4096 : Shape := ⟨3, ![4, 11008, 4096]⟩
abbrev S8192x4096 : Shape := ⟨2, ![8192, 4096]⟩
abbrev S4096 : Shape := ⟨1, ![4096]⟩
abbrev S1x4096 : Shape := ⟨2, ![1, 4096]⟩
abbrev S8192x128 : Shape := ⟨2, ![8192, 128]⟩
abbrev S512x11008 : Shape := ⟨2, ![512, 11008]⟩
abbrev S1x11008x512 : Shape := ⟨3, ![1, 11008, 512]⟩
abbrev S512x512 : Shape := ⟨2, ![512, 512]⟩
abbrev S1x512 : Shape := ⟨2, ![1, 512]⟩
abbrev S512x128 : Shape := ⟨2, ![512, 128]⟩
abbrev S11008x512 : Shape := ⟨2, ![11008, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x11008, .bf16⟩
  | .hbm, ⟨1, _⟩ => ⟨S4x11008x4096, .bf16⟩
  | .hbm, ⟨2, _⟩ => ⟨S8192x4096, .f32⟩
  | .hbm, ⟨3, _⟩ => ⟨S4096, .f32⟩
  | .hbm, ⟨4, _⟩ => ⟨S1x4096, .f32⟩
  | .hbm, ⟨5, _⟩ => ⟨S8192x4096, .f32⟩
  | .hbm, ⟨6, _⟩ => ⟨S8192x4096, .bf16⟩
  | .hbm, ⟨7, _⟩ => ⟨S8192x128, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x128, .f32⟩
  | .local _ .vmem, ⟨13, _⟩ => ⟨S512x128, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_12 : BitVec 32 := 0#32
  let v23 : BitVec 1 := Scalar.cmpi .ne v22 c0_i32_12
  v23

def k0_cond2 (i : grid0.Coords) : BitVec 1 :=
  let arg1 : BitVec 32 := BitVec.ofNat 32 (i 1).val
  let c0_i32_13 : BitVec 32 := 0#32
  let v24 : BitVec 1 := Scalar.cmpi .sgt arg1 c0_i32_13
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownRefIdeal.lean ====
abbrev S8192x11008 : Shape := ⟨2, ![8192, 11008]⟩
abbrev S4x11008x4096 : Shape := ⟨3, ![4, 11008, 4096]⟩
abbrev S8192x4096 : Shape := ⟨2, ![8192, 4096]⟩
abbrev S4096 : Shape := ⟨1, ![4096]⟩
abbrev S1x11008x4096 : Shape := ⟨3, ![1, 11008, 4096]⟩
abbrev S11008x4096 : Shape := ⟨2, ![11008, 4096]⟩
abbrev S1x4096 : Shape := ⟨2, ![1, 4096]⟩
abbrev S8192x32x128 : Shape := ⟨3, ![8192, 32, 128]⟩
abbrev S_ : Shape := ⟨0, ![]⟩
abbrev S8192x128 : Shape := ⟨2, ![8192, 128]⟩

abbrev nBuf : Space → Nat
  | .hbm => 16
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S4x11008x4096, .bf16⟩
  | .hbm, ⟨2, _⟩ => ⟨S8192x4096, .f32⟩
  | .hbm, ⟨3, _⟩ => ⟨S4096, .f32⟩
  | .hbm, ⟨4, _⟩ => ⟨S1x11008x4096, .bf16⟩
  | .hbm, ⟨5, _⟩ => ⟨S11008x4096, .bf16⟩
  | .hbm, ⟨6, _⟩ => ⟨S8192x4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | .hbm, ⟨12, _⟩ => ⟨S8192x4096, .f32⟩
  | .hbm, ⟨13, _⟩ => ⟨S8192x32x128, .f32⟩
  | .hbm, ⟨14, _⟩ => ⟨S_, .f32⟩
  | .hbm, ⟨15, _⟩ => ⟨S8192x128, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Out.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .bf16⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .bf16⟩
  | .hbm, ⟨2, _⟩ => ⟨S8192x4096, .f32⟩
  | .hbm, ⟨3, _⟩ => ⟨S1x4096x4096, .bf16⟩
  | .hbm, ⟨4, _⟩ => ⟨S4096x4096, .bf16⟩
  | .hbm, ⟨5, _⟩ => ⟨S8192x4096, .f32⟩
  | .hbm, ⟨6, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FoxIn.lean ====
abbrev S8192x4096 : Shape := ⟨2, ![8192, 4096]⟩
abbrev S1x12320x4096 : Shape := ⟨3, ![1, 12320, 4096]⟩
abbrev S8192x128 : Shape := ⟨2, ![8192, 128]⟩
abbrev S8192x12288 : Shape := ⟨2, ![8192, 12288]⟩
abbrev S1024x4096 : Shape := ⟨2, ![1024, 4096]⟩
abbrev S1x1024x4096 : Shape := ⟨3, ![1, 1024, 4096]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x12320x4096, .bf16⟩
  | .hbm, ⟨2, _⟩ => ⟨S8192x128, .f32⟩
  | .hbm, ⟨3, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x128, .f32⟩
  | .local _ .vmem, ⟨5, _⟩ => ⟨S1024x128, .f32⟩
  | .local _ .vmem, ⟨6, _⟩ => ⟨S1024x1024, .bf16⟩
  | .local _ .vmem, ⟨7, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FoxInRefIdeal.lean ====
abbrev S8192x4096 : Shape := ⟨2, ![8192, 4096]⟩
abbrev S1x12320x4096 : Shape := ⟨3, ![1, 12320, 4096]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x12288x4096 : Shape := ⟨3, ![1, 12288, 4096]⟩
abbrev S12288x4096 : Shape := ⟨2, ![12288, 4096]⟩
abbrev S8192x12288 : Shape := ⟨2, ![8192, 12288]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x12320x4096, .bf16⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S1x12288x4096, .bf16⟩
  | .hbm, ⟨13, _⟩ => ⟨S12288x4096, .bf16⟩
  | .hbm, ⟨14, _⟩ => ⟨S8192x12288, .f32⟩
  | .hbm, ⟨15, _⟩ => ⟨S8192x1, .f32⟩
  | .hbm, ⟨16, _⟩ => ⟨S8192x12288, .f32⟩
  | .hbm, ⟨17, _⟩ => ⟨S8192x12288, .f32⟩
  | .hbm, ⟨18, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Up.lean ====
abbrev S8192x4096 : Shape := ⟨2, ![8192, 4096]⟩
abbrev S4x4096x22016 : Shape := ⟨3, ![4, 4096, 22016]⟩
abbrev S4x3x22016 : Shape := ⟨3, ![4, 3, 22016]⟩
abbrev S4x22016 : Shape := ⟨2, ![4, 22016]⟩
abbrev S4x1x22016 : Shape := ⟨3, ![4, 1, 22016]⟩
abbrev S8192x11008 : Shape := ⟨2, ![8192, 11008]⟩
abbrev S2048x4096 : Shape := ⟨2, ![2048, 4096]⟩
abbrev S1x4096x256 : Shape := ⟨3, ![1, 4096, 256]⟩
abbrev S1x3x256 : Shape := ⟨3, ![1, 3, 256]⟩
abbrev S1x1x256 : Shape := ⟨3, ![1, 1, 256]⟩
abbrev S2048x256 : Shape := ⟨2, ![2048, 256]⟩
abbrev S4096x512 : Shape := ⟨2, ![4096, 512]⟩
abbrev S2056x512 : Shape := ⟨2, ![2056, 512]⟩
abbrev S43x8x512 : Shape := ⟨3, ![43, 8, 512]⟩
abbrev S8x512 : Shape := ⟨2, ![8, 512]⟩
abbrev S1x8x512 : Shape := ⟨3, ![1, 8, 512]⟩
abbrev S1x2048x256 : Shape := ⟨3, ![1, 2048, 256]⟩
abbrev S512x2048 : Shape := ⟨2, ![512, 2048]⟩
abbrev S2048x512 : Shape := ⟨2, ![2048, 512]⟩
abbrev S512x512 : Shape := ⟨2, ![512, 512]⟩
abbrev S512x4096 : Shape := ⟨2, ![512, 4096]⟩
abbrev S520x256 : Shape := ⟨2, ![520, 256]⟩
abbrev S1x256 : Shape := ⟨2, ![1, 256]⟩
abbrev S512x256 : Shape := ⟨2, ![512, 256]⟩

abbrev nBuf : Space → Nat
  | .hbm => 6
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S4x4096x22016, .f32⟩
  | .hbm, ⟨2, _⟩ => ⟨S4x3x22016, .f32⟩
  | .hbm, ⟨3, _⟩ => ⟨S4x22016, .f32⟩
  | .hbm, ⟨4, _⟩ => ⟨S4x1x22016, .f32⟩
  | .hbm, ⟨5, _⟩ => ⟨S8192x11008, .bf16⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S2048x256, .bf16⟩
  | .local _ .vmem, ⟨14, _⟩ => ⟨S2048x256, .bf16⟩
  | .local _ .vmem, ⟨15, _⟩ => ⟨S4096x512, .bf16⟩
  | .local _ .vmem, ⟨16, _⟩ => ⟨S2056x512, .f32⟩
  | .local _ .vmem, ⟨17, _⟩ => ⟨S43x8x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 43], ![false, false]⟩

def k0_cond1 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_off1 (i : grid0.Coords) : Fin 3 → Nat :=
  let arg1 : BitVec 32 := BitVec.ofNat 32 (i 1).val
  let v289 : Index := Scalar.indexCast arg1
  let c0_198 : Index := 0#32
  let c0_199 : Index := 0#32
  ![v289.toNat, 0, 0]
def k0_off2 (i : grid0.Coords) : Fin 3 → Nat :=
  let arg1 : BitVec 32 := BitVec.ofNat 32 (i 1).val
  let v13 : Index := Scalar.indexCast arg1
  let c0 : Index := 0#32
  let c0_5 : Index := 0#32
  ![v13.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S8192x4096 : Shape := ⟨2, ![8192, 4096]⟩
abbrev S4x4096x22016 : Shape := ⟨3, ![4, 4096, 22016]⟩
abbrev S4x3x22016 : Shape := ⟨3, ![4, 3, 22016]⟩
abbrev S4x22016 : Shape := ⟨2, ![4, 22016]⟩
abbrev S1x4096x22016 : Shape := ⟨3, ![1, 4096, 22016]⟩
abbrev S4096x22016 : Shape := ⟨2, ![4096, 22016]⟩
abbrev S8192x22016 : Shape := ⟨2, ![8192, 22016]⟩
abbrev S2x4096x22016 : Shape := ⟨3, ![2, 4096, 22016]⟩
abbrev S_ : Shape := ⟨0, ![]⟩
abbrev S2x4098x22016 : Shape := ⟨3, ![2, 4098, 22016]⟩
abbrev S1x22016 : Shape := ⟨2, ![1, 22016]⟩
abbrev S22016 : Shape := ⟨1, ![22016]⟩
abbrev S1x1x22016 : Shape := ⟨3, ![1, 1, 22016]⟩
abbrev S2x4096x11008 : Shape := ⟨3, ![2, 4096, 11008]⟩
abbrev S8192x11008 : Shape := ⟨2, ![8192, 11008]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x22016, .f32⟩
  | .hbm, ⟨2, _⟩ => ⟨S4x3x22016, .f32⟩
  | .hbm, ⟨3, _⟩ => ⟨S4x22016, .f32⟩
  | .hbm, ⟨4, _⟩ => ⟨S1x4096x22016, .f32⟩
  | .hbm, ⟨5, _⟩ => ⟨S4096x22016, .f32⟩
  | .hbm, ⟨6, _⟩ => ⟨S4096x22016, .bf16⟩
  | .hbm, ⟨7, _⟩ => ⟨S8192x22016, .f32⟩
  | .hbm, ⟨8, _⟩ => ⟨S2x4096x22016, .f32⟩
  | .hbm, ⟨9, _⟩ => ⟨S_, .i32⟩
  | .hbm, ⟨10, _⟩ => ⟨S_, .f32⟩
  | .hbm, ⟨11, _⟩ => ⟨S2x4098x22016, .f32⟩
  | .hbm, ⟨12, _⟩ => ⟨S1x22016, .f32⟩
  | .hbm, ⟨13, _⟩ => ⟨S22016, .f32⟩
  | .hbm, ⟨14, _⟩ => ⟨S2x4096x22016, .f32⟩
  | .hbm, ⟨15, _⟩ => ⟨S1x1x22016, .f32⟩
  | .hbm, ⟨16, _⟩ => ⟨S22016, .f32⟩
  | .hbm, ⟨17, _⟩ => ⟨S1x1x22016, .f32⟩
  | .hbm, ⟨18, _⟩ => ⟨S2x4096x22016, .f32⟩
  | .hbm, ⟨19, _⟩ => ⟨S2x4096x22016, .f32⟩
  | .hbm, ⟨20, _⟩ => ⟨S_, .f32⟩
  | .hbm, ⟨21, _⟩ => ⟨S2x4096x22016, .f32⟩
  | .hbm, ⟨22, _⟩ => ⟨S2x4096x22016, .f32⟩
  | .hbm, ⟨23, _⟩ => ⟨S2x4096x22016, .f32⟩
  | .hbm, ⟨24, _⟩ => ⟨S1x1x22016, .f32⟩
  | .hbm, ⟨25, _⟩ => ⟨S22016, .f32⟩
  | .hbm, ⟨26, _⟩ => ⟨S1x1x22016, .f32⟩
  | .hbm, ⟨27, _⟩ => ⟨S2x4096x22016, .f32⟩
  | .hbm, ⟨28, _⟩ => ⟨S2x4096x22016, .f32⟩
  | .hbm, ⟨29, _⟩ => ⟨S2x4096x22016, .f32⟩
  | .hbm, ⟨30, _⟩ => ⟨S2x4096x22016, .f32⟩
  | .hbm, ⟨31, _⟩ => ⟨S1x1x22016, .f32⟩
  | .hbm, ⟨32, _⟩ => ⟨S22016, .f32⟩
  | .hbm, ⟨33, _⟩ => ⟨S1x1x22016, .f32⟩
  | .hbm, ⟨34, _⟩ => ⟨S2x4096x22016, .f32⟩
  | .hbm, ⟨35, _⟩ => ⟨S2x4096x22016, .f32⟩
  | .hbm, ⟨36, _⟩ => ⟨S2x4096x22016, .f32⟩
  | .hbm, ⟨37, _⟩ => ⟨S1x1x22016, .f32⟩
  | .hbm, ⟨38, _⟩ => ⟨S2x4096x22016, .f32⟩
  | .hbm, ⟨39, _⟩ => ⟨S2x4096x22016, .f32⟩
  | .hbm, ⟨40, _⟩ => ⟨S2x4096x11008, .f32⟩
  | .hbm, ⟨41, _⟩ => ⟨S2x4096x11008, .f32⟩
  | .hbm, ⟨42, _⟩ => ⟨S2x4096x11008, .f32⟩
  | .hbm, ⟨43, _⟩ => ⟨S2x4096x11008, .f32⟩
  | .hbm, ⟨44, _⟩ => ⟨S_, .f32⟩
  | .hbm, ⟨45, _⟩ => ⟨S2x4096x11008, .f32⟩
  | .hbm, ⟨46, _⟩ => ⟨S2x4096x11008, .f32⟩
  | .hbm, ⟨47, _⟩ => ⟨S_, .f32⟩
  | .hbm, ⟨48, _⟩ => ⟨S2x4096x11008, .f32⟩
  | .hbm, ⟨49, _⟩ => ⟨S2x4096x11008, .f32⟩
  | .hbm, ⟨50, _⟩ => ⟨S2x4096x11008, .f32⟩
  | .hbm, ⟨51, _⟩ => ⟨S2x4096x11008, .f32⟩
  | .hbm, ⟨52, _⟩ => ⟨S2x4096x11008, .bf16⟩
  | .hbm, ⟨53, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== LastDown.lean ====
abbrev S8192x11008 : Shape := ⟨2, ![8192, 11008]⟩
abbrev S4x11008x4096 : Shape := ⟨3, ![4, 11008, 4096]⟩
abbrev S8192x4096 : Shape := ⟨2, ![8192, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x11008, .bf16⟩
  | .hbm, ⟨1, _⟩ => ⟨S4x11008x4096, .bf16⟩
  | .hbm, ⟨2, _⟩ => ⟨S8192x4096, .f32⟩
  | .hbm, ⟨3, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LastDownRefIdeal.lean ====
abbrev S8192x11008 : Shape := ⟨2, ![8192, 11008]⟩
abbrev S4x11008x4096 : Shape := ⟨3, ![4, 11008, 4096]⟩
abbrev S8192x4096 : Shape := ⟨2, ![8192, 4096]⟩
abbrev S1x11008x4096 : Shape := ⟨3, ![1, 11008, 4096]⟩
abbrev S11008x4096 : Shape := ⟨2, ![11008, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S4x11008x4096, .bf16⟩
  | .hbm, ⟨2, _⟩ => ⟨S8192x4096, .f32⟩
  | .hbm, ⟨3, _⟩ => ⟨S1x11008x4096, .bf16⟩
  | .hbm, ⟨4, _⟩ => ⟨S11008x4096, .bf16⟩
  | .hbm, ⟨5, _⟩ => ⟨S8192x4096, .f32⟩
  | .hbm, ⟨6, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SwaIn.lean ====
abbrev S8192x4096 : Shape := ⟨2, ![8192, 4096]⟩
abbrev S1x4096x5120 : Shape := ⟨3, ![1, 4096, 5120]⟩
abbrev S8192x128 : Shape := ⟨2, ![8192, 128]⟩
abbrev S128x128 : Shape := ⟨2, ![128, 128]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8192x5120 : Shape := ⟨2, ![8192, 5120]⟩
abbrev S1024x4096 : Shape := ⟨2, ![1024, 4096]⟩
abbrev S1x4096x512 : Shape := ⟨3, ![1, 4096, 512]⟩
abbrev S1024x128 : Shape := ⟨2, ![1024, 128]⟩
abbrev S1024x512 : Shape := ⟨2, ![1024, 512]⟩
abbrev S4096x512 : Shape := ⟨2, ![4096, 512]⟩
abbrev S1024 : Shape := ⟨1, ![1024]⟩
abbrev S1024x1 : Shape := ⟨2, ![1024, 1]⟩

abbrev nBuf : Space → Nat
  | .hbm => 41
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1x4096x5120, .bf16⟩
  | .hbm, ⟨2, _⟩ => ⟨S8192x128, .f32⟩
  | .hbm, ⟨3, _⟩ => ⟨S128x128, .bf16⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S4096, .f32⟩
  | .hbm, ⟨13, _⟩ => ⟨S4096x1, .f32⟩
  | .hbm, ⟨14, _⟩ => ⟨S1x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S4096x48, .f32⟩
  | .hbm, ⟨22, _⟩ => ⟨S_, .f32⟩
  | .hbm, ⟨23, _⟩ => ⟨S4096x8, .f32⟩
  | .hbm, ⟨24, _⟩ => ⟨S_, .f32⟩
  | .hbm, ⟨25, _⟩ => ⟨S4096x48, .f32⟩
  | .hbm, ⟨26, _⟩ => ⟨S4096x64, .f32⟩
  | .hbm, ⟨27, _⟩ => ⟨S4096x8, .f32⟩
  | .hbm, ⟨28, _⟩ => ⟨S4096x64, .f32⟩
  | .hbm, ⟨29, _⟩ => ⟨S4096x64, .f32⟩
  | .hbm, ⟨30, _⟩ => ⟨S1x4096x1x64, .f32⟩
  | .hbm, ⟨31, _⟩ => ⟨S1x4096x2x64, .f32⟩
  | .hbm, ⟨32, _⟩ => ⟨S4096x128, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S4096x128, .f32⟩
  | .hbm, ⟨40, _⟩ => ⟨S8192x5120, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S128x128, .bf16⟩
  | .local _ .vmem, ⟨11, _⟩ => ⟨S1024x512, .bf16⟩
  | .local _ .vmem, ⟨12, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 10], ![false, false]⟩

def k0_cond1 (i : grid0.Coords) : BitVec 1 :=
  let arg1 : BitVec 32 := BitVec.ofNat 32 (i 1).val
  let c9_i32 : BitVec 32 := 9#32
  let v15 : BitVec 1 := Scalar.cmpi .slt arg1 c9_i32
  let v16 : BitVec 32 := Scalar.extui v15
  let c0_i32 : BitVec 32 := 0#32
  let v17 : BitVec 1 := Scalar.cmpi .ne v16 c0_i32
  v17

def k0_cond2 (i : grid0.Coords) : BitVec 1 :=
  let arg1 : BitVec 32 := BitVec.ofNat 32 (i 1).val
  let c9_i32_9 : BitVec 32 := 9#32
  let v18 : BitVec 1 := Scalar.cmpi .sge arg1 c9_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaInRefIdeal.lean ====
abbrev S8192x4096 : Shape := ⟨2, ![8192, 4096]⟩
abbrev S1x4096x5120 : Shape := ⟨3, ![1, 4096, 5120]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S4096x5120 : Shape := ⟨2, ![4096, 5120]⟩
abbrev S8192x5120 : Shape := ⟨2, ![8192, 5120]⟩
abbrev S8192x512 : Shape := ⟨2, ![8192, 512]⟩
abbrev S2x4096x64x64 : Shape := ⟨4, ![2, 4096, 64, 64]⟩
abbrev S8 : Shape := ⟨1, ![8]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S2x4096x64x8 : Shape := ⟨4, ![2, 4096, 64, 8]⟩
abbrev S2x4096x64x48 : Shape := ⟨4, ![2, 4096, 64, 48]⟩
abbrev S2x4096x8x64 : Shape := ⟨4, ![2, 4096, 8, 64]⟩
abbrev S2x4096x8x8 : Shape := ⟨4, ![2, 4096, 8, 8]⟩
abbrev S2x4096x8x48 : Shape := ⟨4, ![2, 4096, 8, 48]⟩

abbrev nBuf : Space → Nat
  | .hbm => 97
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x5120, .bf16⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S4096x5120, .bf16⟩
  | .hbm, ⟨13, _⟩ => ⟨S8192x5120, .f32⟩
  | .hbm, ⟨14, _⟩ => ⟨S8192x1, .f32⟩
  | .hbm, ⟨15, _⟩ => ⟨S8192x5120, .f32⟩
  | .hbm, ⟨16, _⟩ => ⟨S8192x5120, .f32⟩
  | .hbm, ⟨17, _⟩ => ⟨S8192x5120, .bf16⟩
  | .hbm, ⟨18, _⟩ => ⟨S8192x4096, .bf16⟩
  | .hbm, ⟨19, _⟩ => ⟨S8192x512, .bf16⟩
  | .hbm, ⟨20, _⟩ => ⟨S8192x512, .bf16⟩
  | .hbm, ⟨21, _⟩ => ⟨S2x4096x64x64, .bf16⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S4096, .f32⟩
  | .hbm, ⟨31, _⟩ => ⟨S4096x1, .f32⟩
  | .hbm, ⟨32, _⟩ => ⟨S1x8, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S1x4096x1x8, .f32⟩
  | .hbm, ⟨38, _⟩ => ⟨S4096x8, .f32⟩
  | .hbm, ⟨39, _⟩ => ⟨S1x4096x1x8, .f32⟩
  | .hbm, ⟨40, _⟩ => ⟨S2x4096x64x64, .f32⟩
  | .hbm, ⟨41, _⟩ => ⟨S2x4096x64x8, .f32⟩
  | .hbm, ⟨42, _⟩ => ⟨S2x4096x64x8, .f32⟩
  | .hbm, ⟨43, _⟩ => ⟨S2x4096x64x8, .f32⟩
  | .hbm, ⟨44, _⟩ => ⟨S2x4096x64x8, .f32⟩
  | .hbm, ⟨45, _⟩ => ⟨S2x4096x64x8, .f32⟩
  | .hbm, ⟨46, _⟩ => ⟨S2x4096x64x8, .f32⟩
  | .hbm, ⟨47, _⟩ => ⟨S2x4096x64x8, .f32⟩
  | .hbm, ⟨48, _⟩ => ⟨S2x4096x64x8, .f32⟩
  | .hbm, ⟨49, _⟩ => ⟨S2x4096x64x8, .f32⟩
  | .hbm, ⟨50, _⟩ => ⟨S2x4096x64x8, .f32⟩
  | .hbm, ⟨51, _⟩ => ⟨S2x4096x64x8, .f32⟩
  | .hbm, ⟨52, _⟩ => ⟨S2x4096x64x8, .f32⟩
  | .hbm, ⟨53, _⟩ => ⟨S2x4096x64x48, .f32⟩
  | .hbm, ⟨54, _⟩ => ⟨S2x4096x64x64, .f32⟩
  | .hbm, ⟨55, _⟩ => ⟨S_, .f32⟩
  | .hbm, ⟨56, _⟩ => ⟨S2x4096x64x64, .f32⟩
  | .hbm, ⟨57, _⟩ => ⟨S2x4096x64x64, .f32⟩
  | .hbm, ⟨58, _⟩ => ⟨S2x4096x8x64, .bf16⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S4096, .f32⟩
  | .hbm, ⟨68, _⟩ => ⟨S4096x1, .f32⟩
  | .hbm, ⟨69, _⟩ => ⟨S1x8, .f32⟩
  | .hbm, ⟨70, _⟩ => ⟨S4096x8, .f32⟩
  | .hbm, ⟨71, _⟩ => ⟨S4096x8, .f32⟩
  | .hbm, ⟨72, _⟩ => ⟨S4096x8, .f32⟩
  | .hbm, ⟨73, _⟩ => ⟨S4096x8, .f32⟩
  | .hbm, ⟨74, _⟩ => ⟨S1x4096x1x8, .f32⟩
  | .hbm, ⟨75, _⟩ => ⟨S4096x8, .f32⟩
  | .hbm, ⟨76, _⟩ => ⟨S1x4096x1x8, .f32⟩
  | .hbm, ⟨77, _⟩ => ⟨S2x4096x8x64, .f32⟩
  | .hbm, ⟨78, _⟩ => ⟨S2x4096x8x8, .f32⟩
  | .hbm, ⟨79, _⟩ => ⟨S2x4096x8x8, .f32⟩
  | .hbm, ⟨80, _⟩ => ⟨S2x4096x8x8, .f32⟩
  | .hbm, ⟨81, _⟩ => ⟨S2x4096x8x8, .f32⟩
  | .hbm, ⟨82, _⟩ => ⟨S2x4096x8x8, .f32⟩
  | .hbm, ⟨83, _⟩ => ⟨S2x4096x8x8, .f32⟩
  | .hbm, ⟨84, _⟩ => ⟨S2x4096x8x8, .f32⟩
  | .hbm, ⟨85, _⟩ => ⟨S2x4096x8x8, .f32⟩
  | .hbm, ⟨86, _⟩ => ⟨S2x4096x8x8, .f32⟩
  | .hbm, ⟨87, _⟩ => ⟨S2x4096x8x8, .f32⟩
  | .hbm, ⟨88, _⟩ => ⟨S2x4096x8x8, .f32⟩
  | .hbm, ⟨89, _⟩ => ⟨S2x4096x8x8, .f32⟩
  | .hbm, ⟨90, _⟩ => ⟨S2x4096x8x48, .f32⟩
  | .hbm, ⟨91, _⟩ => ⟨S2x4096x8x64, .f32⟩
  | .hbm, ⟨92, _⟩ => ⟨S8192x4096, .f32⟩
  | .hbm, ⟨93, _⟩ => ⟨S8192x4096, .bf16⟩
  | .hbm, ⟨94, _⟩ => ⟨S8192x512, .f32⟩
  | .hbm, ⟨95, _⟩ => ⟨S8192x512, .bf16⟩
  | .hbm, ⟨96, _⟩ => ⟨S8192x5120, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_4 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩

abbrev nD : Nat := 1
abbrev τ : Topo := Topo.v7x

variable {F : FTy → Type} [FloatOps F]
-- ==== DsaIn.lean ====
abbrev S8192x4096 : Shape := ⟨2, ![8192, 4096]⟩
abbrev S2x8336x4096 : Shape := ⟨3, ![2, 8336, 4096]⟩
abbrev S128x128 : Shape := ⟨2, ![128, 128]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x4096x1x128 : Shape := ⟨4, ![1, 4096, 1, 128]⟩
abbrev S8192x8192 : Shape := ⟨2, ![8192, 8192]⟩
abbrev S1024x4096 : Shape := ⟨2, ![1024, 4096]⟩
abbrev S1x1024x4096 : Shape := ⟨3, ![1, 1024, 4096]⟩
abbrev S1024x128 : Shape := ⟨2, ![1024, 128]⟩
abbrev S1024x1024 : Shape := ⟨2, ![1024, 1024]⟩

abbrev nBuf : Space → Nat
  | .hbm => 40
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S2x8336x4096, .bf16⟩
  | .hbm, ⟨2, _⟩ => ⟨S128x128, .bf16⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S4096, .f32⟩
  | .hbm, ⟨12, _⟩ => ⟨S4096x1, .f32⟩
  | .hbm, ⟨13, _⟩ => ⟨S1x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S_, .f32⟩
  | .hbm, ⟨20, _⟩ => ⟨S4096x96, .f32⟩
  | .hbm, ⟨21, _⟩ => ⟨S_, .f32⟩
  | .hbm, ⟨22, _⟩ => ⟨S4096x16, .f32⟩
  | .hbm, ⟨23, _⟩ => ⟨S_, .f32⟩
  | .hbm, ⟨24, _⟩ => ⟨S4096x96, .f32⟩
  | .hbm, ⟨25, _⟩ => ⟨S4096x128, .f32⟩
  | .hbm, ⟨26, _⟩ => ⟨S4096x16, .f32⟩
  | .hbm, ⟨27, _⟩ => ⟨S4096x128, .f32⟩
  | .hbm, ⟨28, _⟩ => ⟨S4096x128, .f32⟩
  | .hbm, ⟨29, _⟩ => ⟨S1x4096x1x128, .f32⟩
  | .hbm, ⟨30, _⟩ => ⟨S1x4096x1x128, .f32⟩
  | .hbm, ⟨31, _⟩ => ⟨S4096x128, .f32⟩
  | .hbm, ⟨32, _⟩ => ⟨S1x4096x1x128, .f32⟩
  | .hbm, ⟨33, _⟩ => ⟨S1x4096x1x128, .f32⟩
  | .hbm, ⟨34, _⟩ => ⟨S4096x128, .f32⟩
  | .hbm, ⟨35, _⟩ => ⟨S1x4096x1x128, .f32⟩
  | .hbm, ⟨36, _⟩ => ⟨S1x4096x1x128, .f32⟩
  | .hbm, ⟨37, _⟩ => ⟨S4096x128, .f32⟩
  | .hbm, ⟨38, _⟩ => ⟨S4096x128, .f32⟩
  | .hbm, ⟨39, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S128x128, .bf16⟩
  | .local _ .vmem, ⟨9, _⟩ => ⟨S1024x1024, .bf16⟩
  | .local _ .vmem, ⟨10, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c7_i32 : BitVec 32 := 7#32
  let v5 : BitVec 1 := Scalar.cmpi .slt arg1 c7_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c7_i32_4 : BitVec 32 := 7#32
  let v8 : BitVec 1 := Scalar.cmpi .sge arg1 c7_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c6_i32 : BitVec 32 := 6#32
  let v1 : BitVec 1 := Scalar.cmpi .slt arg1 c6_i32
  let c2_i32 : BitVec 32 := 2#32
  let v2 : BitVec 32 := Scalar.addi arg1 c2_i32
  let c2_i32_0 : BitVec 32 := 2#32
  let v3 : BitVec 32 := Scalar.subi arg1 c2_i32_0
  let v4 : BitVec 32 := Scalar.select v1 v2 v3
  let v5 : BitVec 32 := Scalar.select v0 arg1 v4
  let c0_i32 : BitVec 32 := 0#32
  let c0_i32_1 : BitVec 32 := 0#32
  let c0_i32_2 : BitVec 32 := 0#32
  ![c0_i32.toNat, v5.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DsaInRefIdeal.lean ====
abbrev S8192x4096 : Shape := ⟨2, ![8192, 4096]⟩
abbrev S2x8336x4096 : Shape := ⟨3, ![2, 8336, 4096]⟩
abbrev S1x8192x4096 : Shape := ⟨3, ![1, 8192, 4096]⟩
abbrev S8192x8192 : Shape := ⟨2, ![8192, 8192]⟩
abbrev S8192x1024 : Shape := ⟨2, ![8192, 1024]⟩
abbrev S8192x2048 : Shape := ⟨2, ![8192, 2048]⟩
abbrev S2x4096x32x128 : Shape := ⟨4, ![2, 4096, 32, 128]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S2x4096x32x16 : Shape := ⟨4, ![2, 4096, 32, 16]⟩
abbrev S2x4096x32x96 : Shape := ⟨4, ![2, 4096, 32, 96]⟩
abbrev S2x4096x8x128 : Shape := ⟨4, ![2, 4096, 8, 128]⟩
abbrev S2x4096x8x16 : Shape := ⟨4, ![2, 4096, 8, 16]⟩
abbrev S2x4096x8x96 : Shape := ⟨4, ![2, 4096, 8, 96]⟩
abbrev S2x4096x16x128 : Shape := ⟨4, ![2, 4096, 16, 128]⟩
abbrev S2x4096x16x16 : Shape := ⟨4, ![2, 4096, 16, 16]⟩
abbrev S2x4096x16x96 : Shape := ⟨4, ![2, 4096, 16, 96]⟩

abbrev nBuf : Space → Nat
  | .hbm => 122
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x8336x4096, .bf16⟩
  | .hbm, ⟨2, _⟩ => ⟨S1x8192x4096, .bf16⟩
  | .hbm, ⟨3, _⟩ => ⟨S8192x4096, .bf16⟩
  | .hbm, ⟨4, _⟩ => ⟨S8192x8192, .f32⟩
  | .hbm, ⟨5, _⟩ => ⟨S8192x8192, .bf16⟩
  | .hbm, ⟨6, _⟩ => ⟨S8192x4096, .bf16⟩
  | .hbm, ⟨7, _⟩ => ⟨S8192x1024, .bf16⟩
  | .hbm, ⟨8, _⟩ => ⟨S8192x1024, .bf16⟩
  | .hbm, ⟨9, _⟩ => ⟨S8192x2048, .bf16⟩
  | .hbm, ⟨10, _⟩ => ⟨S2x4096x32x128, .bf16⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S4096, .f32⟩
  | .hbm, ⟨20, _⟩ => ⟨S4096x1, .f32⟩
  | .hbm, ⟨21, _⟩ => ⟨S1x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S1x4096x1x16, .f32⟩
  | .hbm, ⟨27, _⟩ => ⟨S4096x16, .f32⟩
  | .hbm, ⟨28, _⟩ => ⟨S1x4096x1x16, .f32⟩
  | .hbm, ⟨29, _⟩ => ⟨S2x4096x32x128, .f32⟩
  | .hbm, ⟨30, _⟩ => ⟨S2x4096x32x16, .f32⟩
  | .hbm, ⟨31, _⟩ => ⟨S2x4096x32x16, .f32⟩
  | .hbm, ⟨32, _⟩ => ⟨S2x4096x32x16, .f32⟩
  | .hbm, ⟨33, _⟩ => ⟨S2x4096x32x16, .f32⟩
  | .hbm, ⟨34, _⟩ => ⟨S2x4096x32x16, .f32⟩
  | .hbm, ⟨35, _⟩ => ⟨S2x4096x32x16, .f32⟩
  | .hbm, ⟨36, _⟩ => ⟨S2x4096x32x16, .f32⟩
  | .hbm, ⟨37, _⟩ => ⟨S2x4096x32x16, .f32⟩
  | .hbm, ⟨38, _⟩ => ⟨S2x4096x32x16, .f32⟩
  | .hbm, ⟨39, _⟩ => ⟨S2x4096x32x16, .f32⟩
  | .hbm, ⟨40, _⟩ => ⟨S2x4096x32x16, .f32⟩
  | .hbm, ⟨41, _⟩ => ⟨S2x4096x32x16, .f32⟩
  | .hbm, ⟨42, _⟩ => ⟨S2x4096x32x96, .f32⟩
  | .hbm, ⟨43, _⟩ => ⟨S2x4096x32x128, .f32⟩
  | .hbm, ⟨44, _⟩ => ⟨S_, .f32⟩
  | .hbm, ⟨45, _⟩ => ⟨S2x4096x32x128, .f32⟩
  | .hbm, ⟨46, _⟩ => ⟨S2x4096x32x128, .f32⟩
  | .hbm, ⟨47, _⟩ => ⟨S2x4096x8x128, .bf16⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S4096, .f32⟩
  | .hbm, ⟨57, _⟩ => ⟨S4096x1, .f32⟩
  | .hbm, ⟨58, _⟩ => ⟨S1x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S1x4096x1x16, .f32⟩
  | .hbm, ⟨64, _⟩ => ⟨S4096x16, .f32⟩
  | .hbm, ⟨65, _⟩ => ⟨S1x4096x1x16, .f32⟩
  | .hbm, ⟨66, _⟩ => ⟨S2x4096x8x128, .f32⟩
  | .hbm, ⟨67, _⟩ => ⟨S2x4096x8x16, .f32⟩
  | .hbm, ⟨68, _⟩ => ⟨S2x4096x8x16, .f32⟩
  | .hbm, ⟨69, _⟩ => ⟨S2x4096x8x16, .f32⟩
  | .hbm, ⟨70, _⟩ => ⟨S2x4096x8x16, .f32⟩
  | .hbm, ⟨71, _⟩ => ⟨S2x4096x8x16, .f32⟩
  | .hbm, ⟨72, _⟩ => ⟨S2x4096x8x16, .f32⟩
  | .hbm, ⟨73, _⟩ => ⟨S2x4096x8x16, .f32⟩
  | .hbm, ⟨74, _⟩ => ⟨S2x4096x8x16, .f32⟩
  | .hbm, ⟨75, _⟩ => ⟨S2x4096x8x16, .f32⟩
  | .hbm, ⟨76, _⟩ => ⟨S2x4096x8x16, .f32⟩
  | .hbm, ⟨77, _⟩ => ⟨S2x4096x8x16, .f32⟩
  | .hbm, ⟨78, _⟩ => ⟨S2x4096x8x16, .f32⟩
  | .hbm, ⟨79, _⟩ => ⟨S2x4096x8x96, .f32⟩
  | .hbm, ⟨80, _⟩ => ⟨S2x4096x8x128, .f32⟩
  | .hbm, ⟨81, _⟩ => ⟨S2x4096x16x128, .bf16⟩
  | .hbm, ⟨82, _⟩ => ⟨S16, .f32⟩
  | .hbm, ⟨83, _⟩ => ⟨S16, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S_, .f32⟩
  | .hbm, ⟨88, _⟩ => ⟨S16, .f32⟩
  | .hbm, ⟨89, _⟩ => ⟨S16, .f32⟩
  | .hbm, ⟨90, _⟩ => ⟨S4096, .f32⟩
  | .hbm, ⟨91, _⟩ => ⟨S4096x1, .f32⟩
  | .hbm, ⟨92, _⟩ => ⟨S1x16, .f32⟩
  | .hbm, ⟨93, _⟩ => ⟨S4096x16, .f32⟩
  | .hbm, ⟨94, _⟩ => ⟨S4096x16, .f32⟩
  | .hbm, ⟨95, _⟩ => ⟨S4096x16, .f32⟩
  | .hbm, ⟨96, _⟩ => ⟨S4096x16, .f32⟩
  | .hbm, ⟨97, _⟩ => ⟨S1x4096x1x16, .f32⟩
  | .hbm, ⟨98, _⟩ => ⟨S4096x16, .f32⟩
  | .hbm, ⟨99, _⟩ => ⟨S1x4096x1x16, .f32⟩
  | .hbm, ⟨100, _⟩ => ⟨S2x4096x16x128, .f32⟩
  | .hbm, ⟨101, _⟩ => ⟨S2x4096x16x16, .f32⟩
  | .hbm, ⟨102, _⟩ => ⟨S2x4096x16x16, .f32⟩
  | .hbm, ⟨103, _⟩ => ⟨S2x4096x16x16, .f32⟩
  | .hbm, ⟨104, _⟩ => ⟨S2x4096x16x16, .f32⟩
  | .hbm, ⟨105, _⟩ => ⟨S2x4096x16x16, .f32⟩
  | .hbm, ⟨106, _⟩ => ⟨S2x4096x16x16, .f32⟩
  | .hbm, ⟨107, _⟩ => ⟨S2x4096x16x16, .f32⟩
  | .hbm, ⟨108, _⟩ => ⟨S2x4096x16x16, .f32⟩
  | .hbm, ⟨109, _⟩ => ⟨S2x4096x16x16, .f32⟩
  | .hbm, ⟨110, _⟩ => ⟨S2x4096x16x16, .f32⟩
  | .hbm, ⟨111, _⟩ => ⟨S2x4096x16x16, .f32⟩
  | .hbm, ⟨112, _⟩ => ⟨S2x4096x16x16, .f32⟩
  | .hbm, ⟨113, _⟩ => ⟨S2x4096x16x96, .f32⟩
  | .hbm, ⟨114, _⟩ => ⟨S2x4096x16x128, .f32⟩
  | .hbm, ⟨115, _⟩ => ⟨S8192x4096, .f32⟩
  | .hbm, ⟨116, _⟩ => ⟨S8192x4096, .bf16⟩
  | .hbm, ⟨117, _⟩ => ⟨S8192x1024, .f32⟩
  | .hbm, ⟨118, _⟩ => ⟨S8192x1024, .bf16⟩
  | .hbm, ⟨119, _⟩ => ⟨S8192x2048, .f32⟩
  | .hbm, ⟨120, _⟩ => ⟨S8192x2048, .bf16⟩
  | .hbm, ⟨121, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_cst_1 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_cst_3 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_cst_4 : Ref sig .tc := ⟨.hbm, 84, rfl⟩
abbrev main_v77 : Ref sig .tc := ⟨.hbm, 85, rfl⟩
abbrev main_v78 : Ref sig .tc := ⟨.hbm, 86, rfl⟩
abbrev main_cst_5 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩

abbrev nD : Nat := 1
abbrev τ : Topo := Topo.v7x

variable {F : FTy → Type} [FloatOps F]
-- ==== DsaIn2.lean ====
abbrev S8192x4096 : Shape := ⟨2, ![8192, 4096]⟩
abbrev S2x8336x4096 : Shape := ⟨3, ![2, 8336, 4096]⟩
abbrev S8192x128 : Shape := ⟨2, ![8192, 128]⟩
abbrev S128x128 : Shape := ⟨2, ![128, 128]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x4096x1x128 : Shape := ⟨4, ![1, 4096, 1, 128]⟩
abbrev S8192x8192 : Shape := ⟨2, ![8192, 8192]⟩
abbrev S1024x4096 : Shape := ⟨2, ![1024, 4096]⟩
abbrev S1x1024x4096 : Shape := ⟨3, ![1, 1024, 4096]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 41
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S2x8336x4096, .bf16⟩
  | .hbm, ⟨2, _⟩ => ⟨S8192x128, .f32⟩
  | .hbm, ⟨3, _⟩ => ⟨S128x128, .bf16⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S4096, .f32⟩
  | .hbm, ⟨13, _⟩ => ⟨S4096x1, .f32⟩
  | .hbm, ⟨14, _⟩ => ⟨S1x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S_, .f32⟩
  | .hbm, ⟨21, _⟩ => ⟨S4096x96, .f32⟩
  | .hbm, ⟨22, _⟩ => ⟨S_, .f32⟩
  | .hbm, ⟨23, _⟩ => ⟨S4096x16, .f32⟩
  | .hbm, ⟨24, _⟩ => ⟨S_, .f32⟩
  | .hbm, ⟨25, _⟩ => ⟨S4096x96, .f32⟩
  | .hbm, ⟨26, _⟩ => ⟨S4096x128, .f32⟩
  | .hbm, ⟨27, _⟩ => ⟨S4096x16, .f32⟩
  | .hbm, ⟨28, _⟩ => ⟨S4096x128, .f32⟩
  | .hbm, ⟨29, _⟩ => ⟨S4096x128, .f32⟩
  | .hbm, ⟨30, _⟩ => ⟨S1x4096x1x128, .f32⟩
  | .hbm, ⟨31, _⟩ => ⟨S1x4096x1x128, .f32⟩
  | .hbm, ⟨32, _⟩ => ⟨S4096x128, .f32⟩
  | .hbm, ⟨33, _⟩ => ⟨S1x4096x1x128, .f32⟩
  | .hbm, ⟨34, _⟩ => ⟨S1x4096x1x128, .f32⟩
  | .hbm, ⟨35, _⟩ => ⟨S4096x128, .f32⟩
  | .hbm, ⟨36, _⟩ => ⟨S1x4096x1x128, .f32⟩
  | .hbm, ⟨37, _⟩ => ⟨S1x4096x1x128, .f32⟩
  | .hbm, ⟨38, _⟩ => ⟨S4096x128, .f32⟩
  | .hbm, ⟨39, _⟩ => ⟨S4096x128, .f32⟩
  | .hbm, ⟨40, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S128x128, .bf16⟩
  | .local _ .vmem, ⟨11, _⟩ => ⟨S1024x1024, .bf16⟩
  | .local _ .vmem, ⟨12, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c7_i32 : BitVec 32 := 7#32
  let v15 : BitVec 1 := Scalar.cmpi .slt arg1 c7_i32
  let v16 : BitVec 32 := Scalar.extui v15
  let c0_i32 : BitVec 32 := 0#32
  let v17 : BitVec 1 := Scalar.cmpi .ne v16 c0_i32
  v17

def k0_cond2 (i : grid0.Coords) : BitVec 1 :=
  let arg1 : BitVec 32 := BitVec.ofNat 32 (i 1).val
  let c7_i32_9 : BitVec 32 := 7#32
  let v18 : BitVec 1 := Scalar.cmpi .sge arg1 c7_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c6_i32 : BitVec 32 := 6#32
  let v1 : BitVec 1 := Scalar.cmpi .slt arg1 c6_i32
  let c2_i32 : BitVec 32 := 2#32
  let v2 : BitVec 32 := Scalar.addi arg1 c2_i32
  let c2_i32_0 : BitVec 32 := 2#32
  let v3 : BitVec 32 := Scalar.subi arg1 c2_i32_0
  let v4 : BitVec 32 := Scalar.select v1 v2 v3
  let v5 : BitVec 32 := Scalar.select v0 arg1 v4
  let c1_i32 : BitVec 32 := 1#32
  let c0_i32 : BitVec 32 := 0#32
  let c0_i32_1 : BitVec 32 := 0#32
  ![c1_i32.toNat, v5.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DsaIn2RefIdeal.lean ====
abbrev S8192x4096 : Shape := ⟨2, ![8192, 4096]⟩
abbrev S2x8336x4096 : Shape := ⟨3, ![2, 8336, 4096]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192x4096 : Shape := ⟨3, ![1, 8192, 4096]⟩
abbrev S8192x8192 : Shape := ⟨2, ![8192, 8192]⟩
abbrev S8192x1024 : Shape := ⟨2, ![8192, 1024]⟩
abbrev S8192x2048 : Shape := ⟨2, ![8192, 2048]⟩
abbrev S2x4096x32x128 : Shape := ⟨4, ![2, 4096, 32, 128]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S2x4096x32x16 : Shape := ⟨4, ![2, 4096, 32, 16]⟩
abbrev S2x4096x32x96 : Shape := ⟨4, ![2, 4096, 32, 96]⟩
abbrev S2x4096x8x128 : Shape := ⟨4, ![2, 4096, 8, 128]⟩
abbrev S2x4096x8x16 : Shape := ⟨4, ![2, 4096, 8, 16]⟩
abbrev S2x4096x8x96 : Shape := ⟨4, ![2, 4096, 8, 96]⟩
abbrev S2x4096x16x128 : Shape := ⟨4, ![2, 4096, 16, 128]⟩
abbrev S2x4096x16x16 : Shape := ⟨4, ![2, 4096, 16, 16]⟩
abbrev S2x4096x16x96 : Shape := ⟨4, ![2, 4096, 16, 96]⟩

abbrev nBuf : Space → Nat
  | .hbm => 135
  | .vmem => 0
  | .smem => 0
  | _ => 0

abbrev hbmTy0_0 (i : Nat) : BufTy := match i % 128 with
  | 0 => ⟨S8192x4096, .bf16⟩
  | 1 => ⟨S2x8336x4096, .bf16⟩
  | 2 => ⟨S8192x128, .f32⟩
  | 3 => ⟨S_, .f32⟩
  | 4 => ⟨S8192, .f32⟩
  | 5 => ⟨S8192x1, .f32⟩
  | 6 => ⟨S_, .f32⟩
  | 7 => ⟨S8192x1, .f32⟩
  | 8 => ⟨S8192x1, .f32⟩
  | 9 => ⟨S_, .f32⟩
  | 10 => ⟨S8192x1, .f32⟩
  | 11 => ⟨S8192x1, .f32⟩
  | 12 => ⟨S1x8192x4096, .bf16⟩
  | 13 => ⟨S8192x4096, .bf16⟩
  | 14 => ⟨S8192x8192, .f32⟩
  | 15 => ⟨S8192x1, .f32⟩
  | 16 => ⟨S8192x8192, .f32⟩
  | 17 => ⟨S8192x8192, .f32⟩
  | 18 => ⟨S8192x8192, .bf16⟩
  | 19 => ⟨S8192x4096, .bf16⟩
  | 20 => ⟨S8192x1024, .bf16⟩
  | 21 => ⟨S8192x1024, .bf16⟩
  | 22 => ⟨S8192x2048, .bf16⟩
  | 23 => ⟨S2x4096x32x128, .bf16⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S4096, .f32⟩
  | 33 => ⟨S4096x1, .f32⟩
  | 34 => ⟨S1x16, .f32⟩
  | 35 => ⟨S4096x16, .f32⟩
  | 36 => ⟨S4096x16, .f32⟩
  | 37 => ⟨S4096x16, .f32⟩
  | 38 => ⟨S4096x16, .f32⟩
  | 39 => ⟨S1x4096x1x16, .f32⟩
  | 40 => ⟨S4096x16, .f32⟩
  | 41 => ⟨S1x4096x1x16, .f32⟩
  | 42 => ⟨S2x4096x32x128, .f32⟩
  | 43 => ⟨S2x4096x32x16, .f32⟩
  | 44 => ⟨S2x4096x32x16, .f32⟩
  | 45 => ⟨S2x4096x32x16, .f32⟩
  | 46 => ⟨S2x4096x32x16, .f32⟩
  | 47 => ⟨S2x4096x32x16, .f32⟩
  | 48 => ⟨S2x4096x32x16, .f32⟩
  | 49 => ⟨S2x4096x32x16, .f32⟩
  | 50 => ⟨S2x4096x32x16, .f32⟩
  | 51 => ⟨S2x4096x32x16, .f32⟩
  | 52 => ⟨S2x4096x32x16, .f32⟩
  | 53 => ⟨S2x4096x32x16, .f32⟩
  | 54 => ⟨S2x4096x32x16, .f32⟩
  | 55 => ⟨S2x4096x32x96, .f32⟩
  | 56 => ⟨S2x4096x32x128, .f32⟩
  | 57 => ⟨S_, .f32⟩
  | 58 => ⟨S2x4096x32x128, .f32⟩
  | 59 => ⟨S2x4096x32x128, .f32⟩
  | 60 => ⟨S2x4096x8x128, .bf16⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S4096, .f32⟩
  | 70 => ⟨S4096x1, .f32⟩
  | 71 => ⟨S1x16, .f32⟩
  | 72 => ⟨S4096x16, .f32⟩
  | 73 => ⟨S4096x16, .f32⟩
  | 74 => ⟨S4096x16, .f32⟩
  | 75 => ⟨S4096x16, .f32⟩
  | 76 => ⟨S1x4096x1x16, .f32⟩
  | 77 => ⟨S4096x16, .f32⟩
  | 78 => ⟨S1x4096x1x16, .f32⟩
  | 79 => ⟨S2x4096x8x128, .f32⟩
  | 80 => ⟨S2x4096x8x16, .f32⟩
  | 81 => ⟨S2x4096x8x16, .f32⟩
  | 82 => ⟨S2x4096x8x16, .f32⟩
  | 83 => ⟨S2x4096x8x16, .f32⟩
  | 84 => ⟨S2x4096x8x16, .f32⟩
  | 85 => ⟨S2x4096x8x16, .f32⟩
  | 86 => ⟨S2x4096x8x16, .f32⟩
  | 87 => ⟨S2x4096x8x16, .f32⟩
  | 88 => ⟨S2x4096x8x16, .f32⟩
  | 89 => ⟨S2x4096x8x16, .f32⟩
  | 90 => ⟨S2x4096x8x16, .f32⟩
  | 91 => ⟨S2x4096x8x16, .f32⟩
  | 92 => ⟨S2x4096x8x96, .f32⟩
  | 93 => ⟨S2x4096x8x128, .f32⟩
  | 94 => ⟨S2x4096x16x128, .bf16⟩
  | 95 => ⟨S16, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S4096, .f32⟩
  | 104 => ⟨S4096x1, .f32⟩
  | 105 => ⟨S1x16, .f32⟩
  | 106 => ⟨S4096x16, .f32⟩
  | 107 => ⟨S4096x16, .f32⟩
  | 108 => ⟨S4096x16, .f32⟩
  | 109 => ⟨S4096x16, .f32⟩
  | 110 => ⟨S1x4096x1x16, .f32⟩
  | 111 => ⟨S4096x16, .f32⟩
  | 112 => ⟨S1x4096x1x16, .f32⟩
  | 113 => ⟨S2x4096x16x128, .f32⟩
  | 114 => ⟨S2x4096x16x16, .f32⟩
  | 115 => ⟨S2x4096x16x16, .f32⟩
  | 116 => ⟨S2x4096x16x16, .f32⟩
  | 117 => ⟨S2x4096x16x16, .f32⟩
  | 118 => ⟨S2x4096x16x16, .f32⟩
  | 119 => ⟨S2x4096x16x16, .f32⟩
  | 120 => ⟨S2x4096x16x16, .f32⟩
  | 121 => ⟨S2x4096x16x16, .f32⟩
  | 122 => ⟨S2x4096x16x16, .f32⟩
  | 123 => ⟨S2x4096x16x16, .f32⟩
  | 124 => ⟨S2x4096x16x16, .f32⟩
  | 125 => ⟨S2x4096x16x16, .f32⟩
  | 126 => ⟨S2x4096x16x96, .f32⟩
  | 127 => ⟨S2x4096x16x128, .f32⟩
  | _ => ⟨S8192x4096, .bf16⟩

abbrev hbmTy0_1 (i : Nat) : BufTy := match i % 128 with
  | 0 => ⟨S8192x4096, .f32⟩
  | 1 => ⟨S8192x4096, .bf16⟩
  | 2 => ⟨S8192x1024, .f32⟩
  | 3 => ⟨S8192x1024, .bf16⟩
  | 4 => ⟨S8192x2048, .f32⟩
  | 5 => ⟨S8192x2048, .bf16⟩
  | 6 => ⟨S8192x8192, .bf16⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_cst_7 : Ref sig .tc := ⟨.hbm, 97, rfl⟩
abbrev main_v86 : Ref sig .tc := ⟨.hbm, 98, rfl⟩
abbrev main_v87 : Ref sig .tc := ⟨.hbm, 99, rfl⟩
abbrev main_cst_8 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩

abbrev nD : Nat := 1
abbrev τ : Topo := Topo.v7x

variable {F : FTy → Type} [FloatOps F]
-- ==== Proof.DownPoint.lean ====
module
public import proofs.«01_k».proof.Proof.Gen.DownIdeal.Value
public import proofs.«01_k».proof.Proof.Gen.DownRefIdeal.Read
public import Idealize.ShloMosaic.Lib.Pipeline.ValueKit
@[expose] public section
set_option maxRecDepth 16384
noncomputable section
namespace Cert.DownIdeal.Point
open Idealize.ShloMosaic Idealize.ShloMosaic.TcCoe Idealize.SL.Sem
open Cert.DownIdeal Cert.DownIdeal.Gen
variable (m : (ℓ : Loc nD τ sig) → Buf (Elt Ideal) ℓ)

/-- The blocks the windows stage at a point, in closed form. -/
theorem idx : ∀ t : Fin cfg0.N, win0_0.index t = ![t.val / 8, 0] ∧ win0_1.index t = ![0, 0, t.val % 8]
    ∧ win0_2.index t = ![t.val / 8, t.val % 8] ∧ win0_3.index t = ![0, t.val % 8] ∧ win0_4.index t = ![t.val / 8, t.val % 8]
    ∧ win0_5.index t = ![t.val / 8, t.val % 8] ∧ win0_6.index t = ![t.val / 8, 0] :=
  (by decide +kernel : ∀ t : Fin grid0.N, _)

/-- The new residual at a row and a column: the old one plus the row of activations against the column of weights. -/
def res (x0 : Vec Ideal S8192x11008 .bf16) (x1 : Vec Ideal S4x11008x4096 .bf16) (x2 : Vec Ideal S8192x4096 .f32)
    (a : Fin 8192) (b : Fin 4096) : EReal :=
  x2 (ix2 a b) + ∑ k : Fin 11008, x0 (ix2 a k) * x1 (ix3 0 k b)

/-- The reference's first result at an index. -/
theorem ref3_at (x0 x1 x2) (i : S8192x4096.Idx) :
    Cert.DownRefIdeal.Read.val_main_v3 (F := Ideal) x0 x1 x2 i = res x0 x1 x2 (i 0) (i 1) := by
  unfold res
  rw [← eq_ix2 i]
  pointwise [Cert.DownRefIdeal.Read.val_main_v3, Cert.DownRefIdeal.Read.val_main_v2, Cert.DownRefIdeal.Read.val_main_v1,
    Cert.DownRefIdeal.Read.val_main_v0]

/-- The reference's second result at an index: the new residual times the next norm's gain. -/
theorem ref7_at (x0 x1 x2 x3) (i : S8192x4096.Idx) :
    Cert.DownRefIdeal.Read.val_main_v7 (F := Ideal) x0 x1 x2 x3 i = res x0 x1 x2 (i 0) (i 1) * x3 (ix1 (i 1)) := by
  rw [← ref3_at x0 x1 x2 i]
  unfold Cert.DownRefIdeal.Read.val_main_v7 Cert.DownRefIdeal.Read.val_main_v6
  generalize Cert.DownRefIdeal.Read.val_main_v3 (F := Ideal) x0 x1 x2 = y
  pointwise [Cert.DownRefIdeal.Read.val_main_v5, Cert.DownRefIdeal.Read.val_main_v4]

/-- The reference's third result at an index: the squares of the new residual, summed lane by lane over the row's 32 lane blocks. -/
theorem ref10_at (x0 x1 x2) (i : S8192x128.Idx) :
    Cert.DownRefIdeal.Read.val_main_v10 (F := Ideal) x0 x1 x2 i
      = ∑ q : Fin 32, res x0 x1 x2 (i 0) ⟨q * 128 + (i 1 : ℕ), by have : (i 1 : ℕ) < 128 := (i 1).isLt; omega⟩
          * res x0 x1 x2 (i 0) ⟨q * 128 + (i 1 : ℕ), by have : (i 1 : ℕ) < 128 := (i 1).isLt; omega⟩ := by
  have e : ∀ q : Fin 32, res x0 x1 x2 (i 0) ⟨q * 128 + (i 1 : ℕ), by have : (i 1 : ℕ) < 128 := (i 1).isLt; omega⟩
      = Cert.DownRefIdeal.Read.val_main_v3 (F := Ideal) x0 x1 x2 (ix2 (i 0) ⟨q * 128 + (i 1 : ℕ), by have : (i 1 : ℕ) < 128 := (i 1).isLt; omega⟩) :=
    fun q => (ref3_at x0 x1 x2 (ix2 (i 0) ⟨q * 128 + (i 1 : ℕ), by have : (i 1 : ℕ) < 128 := (i 1).isLt; omega⟩)).symm
  simp only [e]
  unfold Cert.DownRefIdeal.Read.val_main_v10 Cert.DownRefIdeal.Read.val_main_v9 Cert.DownRefIdeal.Read.val_main_v8
  generalize Cert.DownRefIdeal.Read.val_main_v3 (F := Ideal) x0 x1 x2 = y
  pointwise [Cert.DownRefIdeal.Read.val_main_cst]

/-- The new residual's block, at an index. -/
theorem pay1_at (v0 v1 v4) (i : S512x512.Idx) : k0_pay1 (F := Ideal) v0 v1 v4 i
    = v4 i + ∑ k : Fin 11008, v0 (ix2 (i 0) k) * v1 (ix3 0 k (i 1)) := by
  rw [add_comm]
  pointwise [k0_pay1]

/-- The scaled block, at an index. -/
theorem pay2_at (v0 v1 v4 v7) (i : S512x512.Idx) : k0_pay2 (F := Ideal) v0 v1 v4 v7 i
    = k0_pay1 (F := Ideal) v0 v1 v4 i * v7 (ix2 0 (i 1)) := by
  unfold k0_pay2
  generalize k0_pay1 (F := Ideal) v0 v1 v4 = y
  pointwise

/-- A point's lane sums of squares, at an index. -/
theorem pay3_at (v0 v1 v4) (i : S512x128.Idx) : k0_pay3 (F := Ideal) v0 v1 v4 i
    = ∑ k : Fin 4, k0_pay1 (F := Ideal) v0 v1 v4 (ix2 (i 0) ⟨k * 128 + (i 1 : ℕ), by have : (i 1 : ℕ) < 128 := (i 1).isLt; omega⟩)
        * k0_pay1 (F := Ideal) v0 v1 v4 (ix2 (i 0) ⟨k * 128 + (i 1 : ℕ), by have : (i 1 : ℕ) < 128 := (i 1).isLt; omega⟩) := by
  unfold k0_pay3
  generalize k0_pay1 (F := Ideal) v0 v1 v4 = y
  rw [Fin.sum_univ_four]
  pointwise

/-- Adding a point's lane sums to the running ones. -/
theorem pay4_at (v0 v1 v4 v27) (i : S512x128.Idx) : k0_pay4 (F := Ideal) v0 v1 v4 v27 i
    = v27 i + k0_pay3 (F := Ideal) v0 v1 v4 i := by
  unfold k0_pay4
  generalize k0_pay3 (F := Ideal) v0 v1 v4 = y
  pointwise

variable (c : Dev nD)

/-- The new residual on device `c`, from its arguments. -/
abbrev resAt (a : Fin 8192) (b : Fin 4096) : EReal :=
  res (m ((c.tc : Thread nD τ).loc main_arg0)) (m ((c.tc : Thread nD τ).loc main_arg1)) (m ((c.tc : Thread nD τ).loc main_arg2)) a b

/-- The block of the new residual computed at point `t`. -/
theorem pay1_iblk (t : Fin cfg0.N) (i : S512x512.Idx) (a : Fin 8192) (b : Fin 4096) (ha : (a : ℕ) = t.val / 8 * 512 + (i 0 : ℕ))
    (hb : (b : ℕ) = t.val % 8 * 512 + (i 1 : ℕ)) :
    k0_pay1 (F := Ideal) (iblk m c 0 t) (iblk m c 1 t) (iblk m c 2 t) i = resAt m c a b := by
  rw [pay1_at]
  unfold resAt res
  blk_point [iblk, V, idx t]

/-- What each point leaves in the first output's block. -/
theorem outs4 (t : Fin cfg0.N) (y : S512x512.Idx) :
    (outsAt0 m c t.val t.isLt).1 y = k0_pay1 (F := Ideal) (iblk m c 0 t) (iblk m c 1 t) (iblk m c 2 t) y := by
  by_cases h : t.val % 8 = 0
  · rw [outsAt0_A m c t h (by omega)]; frame_out
  · rw [outsAt0_B m c t h (by omega)]; frame_out

/-- What each point leaves in the second output's block. -/
theorem outs5 (t : Fin cfg0.N) (y : S512x512.Idx) :
    (outsAt0 m c t.val t.isLt).2.1 y = k0_pay2 (F := Ideal) (iblk m c 0 t) (iblk m c 1 t) (iblk m c 2 t) (iblk m c 3 t) y := by
  by_cases h : t.val % 8 = 0
  · rw [outsAt0_A m c t h (by omega)]; frame_out
  · rw [outsAt0_B m c t h (by omega)]; frame_out

/-- The first output is the reference's. -/
theorem final4 : (dats m 0 c).arrAt 4 (cfgs 0).N = Cert.DownRefIdeal.Read.val_main_v3 (F := Ideal)
    (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4, outs4, ref3_at]
  refine pay1_iblk m c t y _ _ ?_ ?_ <;> (blk_simp [idx t] <;> try omega)

/-- The second output is the reference's. -/
theorem final5 : (dats m 0 c).arrAt 5 (cfgs 0).N = Cert.DownRefIdeal.Read.val_main_v7 (F := Ideal)
    (m ((c.tc : Thread nD τ).loc main_arg0)) (m ((c.tc : Thread nD τ).loc main_arg1)) (m ((c.tc : Thread nD τ).loc main_arg2))
    (m ((c.tc : Thread nD τ).loc main_arg3)) := by
  refine (dats m 0 c).arrAt_eq_of_covers 5 _ (by decide +kernel) fun t _ y => ?_
  blk_simp
  rw [after0_5, outs5, ref7_at, pay2_at]
  congr 1
  · refine pay1_iblk m c t y _ _ ?_ ?_ <;> (blk_simp [idx t] <;> try omega)
  · blk_point [iblk, V, idx t]

/-- The third output is the reference's: the eight points of a row tile add up its 32 lane blocks. -/
theorem final6 : (dats m 0 c).arrAt 6 (cfgs 0).N = Cert.DownRefIdeal.Read.val_main_v10 (F := Ideal)
    (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0)
    (fun p j => k0_pay3 (F := Ideal) (iblk m c 0 p) (iblk m c 1 p) (iblk m c 2 p) j)
    (fun t h j => by rw [outsAt0_A m c t h (by omega)]; frame_out; rw [zero_add])
    (fun t h j => by rw [outsAt0_B m c t h (by omega)]; frame_out; rw [pay4_at])
    t ((flush0_6 t).mp hf) _, zero_add, ref10_at]
  simp only [pay3_at]
  refine Fin.sum_mul_add_congr fun s k hl => ?_
  have key : ∀ (i : S512x512.Idx) (a : Fin 8192) (b : Fin 4096), (a : ℕ) = t.val / 8 * 512 + (i 0 : ℕ) →
      (b : ℕ) = s.val * 512 + (i 1 : ℕ) → _ := fun i a b ha hb =>
    pay1_iblk m c ⟨_, Pipeline.run_point_lt_of_flush t ((flush0_6 t).mp hf) s⟩ i a b (by simp only []; omega) (by simp only []; omega)
  refine congrArg₂ (· * ·) (key _ _ _ ?_ ?_) (key _ _ _ ?_ ?_) <;> (blk_simp [idx t] <;> try (simp only []; omega))
end Cert.DownIdeal.Point
-- ==== Proof.OutPoint.lean ====
module
public import proofs.«01_k».proof.Proof.Gen.OutIdeal.Value
public import proofs.«01_k».proof.Proof.Gen.OutRefIdeal.Read
public import Idealize.ShloMosaic.Lib.Pipeline.ValueKit
@[expose] public section
set_option maxRecDepth 16384
noncomputable section
namespace Cert.OutIdeal.Point
open Idealize.ShloMosaic Idealize.ShloMosaic.TcCoe Idealize.SL.Sem
open Cert.OutIdeal Cert.OutIdeal.Gen
variable (m : (ℓ : Loc nD τ sig) → Buf (Elt Ideal) ℓ)

/-- The blocks the windows stage at a point, in closed form. -/
theorem idx : ∀ t : Fin cfg0.N, win0_0.index t = ![t.val / 8, 0] ∧ win0_1.index t = ![0, 0, t.val % 8]
    ∧ win0_2.index t = ![t.val / 8, t.val % 8] ∧ win0_3.index t = ![t.val / 8, t.val % 8] :=
  (by decide +kernel : ∀ t : Fin grid0.N, _)

/-- The reference at an index: the residual plus the row of the heads against the column of the weights. -/
theorem ref_at (x0 x1 x2) (i : S8192x4096.Idx) : Cert.OutRefIdeal.Read.val_main_v3 (F := Ideal) x0 x1 x2 i
    = x2 i + ∑ k : Fin 4096, x0 (ix2 (i 0) k) * x1 (ix3 0 k (i 1)) := by
  pointwise [Cert.OutRefIdeal.Read.val_main_v3, Cert.OutRefIdeal.Read.val_main_v2, Cert.OutRefIdeal.Read.val_main_v1,
    Cert.OutRefIdeal.Read.val_main_v0]

/-- The kernel's output is the reference's. -/
theorem final (c : Dev nD) : (dats m 0 c).arrAt 3 (cfgs 0).N = Cert.OutRefIdeal.Read.val_main_v3 (F := Ideal)
    (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  frame_out
  rw [ref_at]
  rw [add_comm]
  blk_point [iblk, V, idx t]
end Cert.OutIdeal.Point
-- ==== Proof.LastDownPoint.lean ====
module
public import proofs.«01_k».proof.Proof.Gen.LastDownIdeal.Value
public import proofs.«01_k».proof.Proof.Gen.LastDownRefIdeal.Read
public import Idealize.ShloMosaic.Lib.Pipeline.ValueKit
@[expose] public section
set_option maxRecDepth 16384
noncomputable section
namespace Cert.LastDownIdeal.Point
open Idealize.ShloMosaic Idealize.ShloMosaic.TcCoe Idealize.SL.Sem
open Cert.LastDownIdeal Cert.LastDownIdeal.Gen
variable (m : (ℓ : Loc nD τ sig) → Buf (Elt Ideal) ℓ)

/-- The blocks the windows stage at a point, in closed form. -/
theorem idx : ∀ t : Fin cfg0.N, win0_0.index t = ![t.val / 8, 0] ∧ win0_1.index t = ![3, 0, t.val % 8]
    ∧ win0_2.index t = ![t.val / 8, t.val % 8] ∧ win0_3.index t = ![t.val / 8, t.val % 8] :=
  (by decide +kernel : ∀ t : Fin grid0.N, _)

/-- The reference at an index: the residual plus the row of the activations against the column of the weights. -/
theorem ref_at (x0 x1 x2) (i : S8192x4096.Idx) : Cert.LastDownRefIdeal.Read.val_main_v3 (F := Ideal) x0 x1 x2 i
    = x2 i + ∑ k : Fin 11008, x0 (ix2 (i 0) k) * x1 (ix3 3 k (i 1)) := by
  pointwise [Cert.LastDownRefIdeal.Read.val_main_v3, Cert.LastDownRefIdeal.Read.val_main_v2, Cert.LastDownRefIdeal.Read.val_main_v1,
    Cert.LastDownRefIdeal.Read.val_main_v0]

/-- The kernel's output is the reference's. -/
theorem final (c : Dev nD) : (dats m 0 c).arrAt 3 (cfgs 0).N = Cert.LastDownRefIdeal.Read.val_main_v3 (F := Ideal)
    (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  frame_out
  rw [ref_at]
  rw [add_comm]
  blk_point [iblk, V, idx t]
end Cert.LastDownIdeal.Point
-- ==== Proof.FoxInPoint.lean ====
module
public import proofs.«01_k».proof.Proof.Gen.FoxInIdeal.Value
public import proofs.«01_k».proof.Proof.Gen.FoxInRefIdeal.Read
public import Idealize.ShloMosaic.Lib.Pipeline.ValueKit
@[expose] public section
set_option maxRecDepth 16384
noncomputable section
namespace Cert.FoxInIdeal.Point
open Idealize.ShloMosaic Idealize.ShloMosaic.TcCoe Idealize.SL.Sem
open Cert.FoxInIdeal Cert.FoxInIdeal.Gen
variable (m : (ℓ : Loc nD τ sig) → Buf (Elt Ideal) ℓ)

/-- The blocks the windows stage at a point, in closed form. -/
theorem idx : ∀ t : Fin cfg0.N, win0_0.index t = ![t.val / 12, 0] ∧ win0_1.index t = ![0, t.val % 12, 0]
    ∧ win0_2.index t = ![t.val / 12, 0] ∧ win0_3.index t = ![t.val / 12, t.val % 12] :=
  (by decide +kernel : ∀ t : Fin grid0.N, _)

/-- One stored element: the dot product of a row and a column, times the row's reciprocal root mean square. -/
def entry (s : EReal) (n : EReal) : EReal :=
  n * FloatOps.rsqrt (F := Ideal) (φ := .f32) (s * FloatOps.ofBits (F := Ideal) .f32 0x39800000#32 + FloatOps.ofBits (F := Ideal) .f32 0x358637BD#32)

/-- The block stored at a point, at an index. -/
theorem pay_at (v0 v1 v4) (i : S1024x1024.Idx) : k0_pay1 (F := Ideal) v0 v1 v4 i =
    entry (∑ k : Fin 128, v4 (ix2 (i 0) k)) (∑ k : Fin 4096, v0 (ix2 (i 0) k) * v1 (ix3 0 (i 1) k)) := by
  pointwise [k0_pay1]
  rfl

/-- The reference at an index. -/
theorem ref_at (x0 x1 x2) (i : S8192x12288.Idx) : Cert.FoxInRefIdeal.Read.val_main_v12 (F := Ideal) x0 x1 x2 i =
    entry (∑ k : Fin 128, x2 (ix2 (i 0) k))
      (∑ k : Fin 4096, x0 (ix2 (i 0) k) * x1 (ix3 0 ⟨(i 1 : ℕ), by have : (i 1 : ℕ) < 12288 := (i 1).isLt; omega⟩ k)) := by
  pointwise [Cert.FoxInRefIdeal.Read.val_main_v12, Cert.FoxInRefIdeal.Read.val_main_v11, Cert.FoxInRefIdeal.Read.val_main_v10,
    Cert.FoxInRefIdeal.Read.val_main_v9, Cert.FoxInRefIdeal.Read.val_main_v8, Cert.FoxInRefIdeal.Read.val_main_v7,
    Cert.FoxInRefIdeal.Read.val_main_v6, Cert.FoxInRefIdeal.Read.val_main_v5, Cert.FoxInRefIdeal.Read.val_main_v4,
    Cert.FoxInRefIdeal.Read.val_main_v3, Cert.FoxInRefIdeal.Read.val_main_v2, Cert.FoxInRefIdeal.Read.val_main_v1,
    Cert.FoxInRefIdeal.Read.val_main_v0, Cert.FoxInRefIdeal.Read.val_main_cst, Cert.FoxInRefIdeal.Read.val_main_cst_0,
    Cert.FoxInRefIdeal.Read.val_main_cst_1]
  rfl

/-- No block of the weights that a point stages reaches past the array's end. -/
theorem uncut : ∀ t : Fin cfg0.N, ∀ a, (cfg0.win 1).clip (grid0.coords t) a = none :=
  (by decide +kernel : ∀ t : Fin grid0.N, ∀ a, (cfg0.win 1).clip (grid0.coords t) a = none)

/-- The staged block of the weights at an index. -/
theorem weight_at (c : Dev nD) (t : Fin cfg0.N) (b : Fin 1024) (k : Fin 4096) (n : Fin 12320) (hn : (n : ℕ) = t.val % 12 * 1024 + b) :
    X0_1 m c t (ix3 0 b k) = m ((c.tc : Thread nD τ).loc main_arg1) (ix3 0 n k) := by
  have hm : (cfg0.win 1).moved (grid0.coords t) (ix3 0 b k) = true :=
    ((cfg0.win 1).moved_iff _ _).mpr fun a => by
      have := ((ix3 0 b k : S1x1024x4096.Idx) a).isLt
      unfold Pipeline.Window.xsize
      rw [uncut t a]
      exact this
  unfold X0_1 Pipeline.Window.fill
  refine (dif_pos hm).trans ?_
  unfold iblk V
  rw [View.read_apply]
  refine congrArg (m ((c.tc : Thread nD τ).loc main_arg1)) (funext fun a => Fin.ext ?_)
  fin_cases a <;> blk_simp [idx t]
  · rfl
  · exact hn.symm
  · rfl

/-- The kernel's output is the reference's. -/
theorem final (c : Dev nD) : (dats m 0 c).arrAt 3 (cfgs 0).N = Cert.FoxInRefIdeal.Read.val_main_v12 (F := Ideal)
    (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  unfold outsAt0
  frame_out
  rw [ref_at, pay_at]
  congr 1
  · blk_point [iblk, V, idx t]
  · refine Finset.sum_congr rfl fun k _ => congrArg₂ (· * ·) ?_ (weight_at m c t _ k _ ?_)
    · blk_point [iblk, V, idx t]
    · blk_simp [idx t]
      try omega
end Cert.FoxInIdeal.Point
-- ==== Proof.SwaMath.lean ====
module
public import Idealize.ShloMosaic.Lib.Pipeline.ValueKit
@[expose] public section
noncomputable section
namespace Cert.SwaMath
open Idealize.ShloMosaic

/-! One row of softmax attention with a sink, over the extended reals. -/

/-- The largest logit of a row, the sink counted. -/
def top (L : Fin 256 → EReal) (s : EReal) : EReal := max (Finset.univ.fold max ⊥ L) s

/-- The sum of the row's exponentials, the sink's counted. -/
def den (L : Fin 256 → EReal) (s : EReal) : EReal := (∑ x, Ideal.exp (L x - top L s)) + Ideal.exp (s - top L s)

/-- One row of attention with a sink: the weights are the exponentials of the logits over `den`. -/
def row (L : Fin 256 → EReal) (s : EReal) (v : Fin 256 → EReal) : EReal :=
  ∑ k, Ideal.div (Ideal.exp (L k - top L s)) (den L s) * v k

/-- The word of minus infinity is the least extended real. -/
theorem ofBits_negInf : Ideal.ofBits .f32 0xFF800000#32 = ⊥ := EReal.neg_eq_top_iff.mp rfl

/-- An exponential is not negative. -/
theorem exp_nonneg (x : EReal) : 0 ≤ Ideal.exp x := by
  induction x with
  | bot => exact le_refl _
  | top => exact le_top
  | coe r => exact EReal.coe_nonneg.2 (Real.exp_pos r).le

/-- The exponential of a real number is positive. -/
theorem exp_pos {x : EReal} (hb : x ≠ ⊥) : 0 < Ideal.exp x := by
  induction x with
  | bot => exact absurd rfl hb
  | top => exact EReal.zero_lt_top
  | coe r => exact EReal.coe_pos.2 (Real.exp_pos r)

/-- A logit is at most the largest. -/
theorem le_top' (L : Fin 256 → EReal) (s : EReal) (k : Fin 256) : L k ≤ top L s :=
  le_max_of_le_left (Finset.le_fold_max (b := ⊥) (L k) |>.2 (.inr ⟨k, Finset.mem_univ k, le_refl _⟩))

/-- When no logit and no sink is plus infinity, the largest is not. -/
theorem top_ne_top {L : Fin 256 → EReal} {s : EReal} (hL : ∀ k, L k ≠ ⊤) (hs : s ≠ ⊤) : top L s ≠ ⊤ :=
  ne_of_lt (max_lt (Finset.fold_max_lt (c := ⊤) |>.2 ⟨bot_lt_top, fun k _ => lt_top_iff_ne_top.2 (hL k)⟩) (lt_top_iff_ne_top.2 hs))

/-- With one real logit and none plus infinity the sum of exponentials is not zero. -/
theorem den_ne_zero {L : Fin 256 → EReal} {s : EReal} (hL : ∀ k, L k ≠ ⊤) (hs : s ≠ ⊤) (k₀ : Fin 256) (h₀ : L k₀ ≠ ⊥) :
    den L s ≠ 0 := by
  have hne : L k₀ - top L s ≠ ⊥ := by
    rw [sub_eq_add_neg]
    exact EReal.add_ne_bot_iff.2 ⟨h₀, fun h => top_ne_top hL hs (EReal.neg_eq_bot_iff.1 h)⟩
  have h1 : Ideal.exp (L k₀ - top L s) ≤ ∑ x, Ideal.exp (L x - top L s) :=
    Finset.single_le_sum (f := fun x => Ideal.exp (L x - top L s)) (fun x _ => exp_nonneg _) (Finset.mem_univ k₀)
  exact ne_of_gt (lt_of_lt_of_le (exp_pos hne) (h1.trans (le_add_of_nonneg_right (exp_nonneg _))))

/-- Two rows with the same logits agree when their values agree where the logit is not minus infinity: a masked
    position has weight zero. -/
theorem row_congr {L : Fin 256 → EReal} {s : EReal} (hL : ∀ k, L k ≠ ⊤) (hs : s ≠ ⊤) (k₀ : Fin 256) (h₀ : L k₀ ≠ ⊥)
    {v v' : Fin 256 → EReal} (h : ∀ k, L k ≠ ⊥ → v k = v' k) : row L s v = row L s v' := by
  refine Finset.sum_congr rfl fun k _ => ?_
  by_cases hk : L k = ⊥
  · have : Ideal.div (Ideal.exp (L k - top L s)) (den L s) = 0 := by
      rw [hk, EReal.bot_sub]
      show Ideal.div 0 _ = 0
      rw [Ideal.div, if_neg (den_ne_zero hL hs k₀ h₀), zero_mul]
    rw [this, zero_mul, zero_mul]
  · rw [h k hk]

/-- The largest of a row with the sink put last. -/
theorem fold_last (w : Fin 257 → EReal) :
    Finset.univ.fold max ⊥ w = top (fun k => w k.castSucc) (w (Fin.last 256)) := by
  rw [Fin.univ_castSuccEmb, Finset.fold_cons, Finset.fold_map, max_comm]
  rfl

/-- Softmax of a row with the sink put last, the sink's weight dropped, is `row`. -/
theorem row_of_concat (w : Fin 257 → EReal) (v : Fin 256 → EReal) :
    ∑ k : Fin 256, v k * Ideal.div (Ideal.exp (w k.castSucc - max ⊥ (Finset.univ.fold max ⊥ w)))
        (∑ x, Ideal.exp (w x - max ⊥ (Finset.univ.fold max ⊥ w)))
      = row (fun k => w k.castSucc) (w (Fin.last 256)) v := by
  rw [max_eq_right bot_le, fold_last]
  refine Finset.sum_congr rfl fun k _ => ?_
  rw [mul_comm, Fin.sum_univ_castSucc]
  rfl

end Cert.SwaMath
-- ==== Proof.SwaSpec.lean ====
module
public import proofs.«01_k».proof.Proof.SwaMath
public import Idealize.ShloMosaic.Lib.WordCmp
@[expose] public section
noncomputable section
namespace Cert.SwaSpec
open Idealize.ShloMosaic Cert.SwaMath

/-! Sliding-window attention with sinks, index by index: the projected rows `X` hold 64 heads of queries, then 8 heads
    of keys, then 8 of values, each 64 wide; `S` holds the 64 sinks. A row is `n * 128 + a`: row `a` of block `n`. -/

/-- The projected rows. -/
abbrev Rows := (⟨3, ![2, 4096, 5120]⟩ : Shape).Idx → EReal
/-- The sinks. -/
abbrev Sinks := (⟨1, ![64]⟩ : Shape).Idx → EReal

/-- The row of the `j`-th key of block `n`: the block before, then the block itself (block 0 stands for the block
    before itself; those positions are masked). -/
def src (n : Fin 32) (j : Fin 256) : Fin 4096 :=
  if h : (j : ℕ) < 128 then ⟨((n : ℕ) - 1) * 128 + j, by omega⟩ else ⟨(n : ℕ) * 128 + ((j : ℕ) - 128), by omega⟩

/-- Row `a` of block `n` sees the `j`-th key: it is one of the 128 up to the row itself, and not before the sequence. -/
abbrev sees (n : Fin 32) (a : Fin 128) (j : Fin 256) : Prop :=
  (a : ℕ) < j ∧ (j : ℕ) ≤ a + 128 ∧ 128 ≤ (n : ℕ) * 128 + j

/-- The masked logit of row `a` of block `n` and its `j`-th key, in head `h`. -/
def logit (X : Rows) (b : Fin 2) (n : Fin 32) (h : Fin 64) (a : Fin 128) (j : Fin 256) : EReal :=
  if sees n a j then
    ∑ d : Fin 64, X (ix3 b ⟨(n : ℕ) * 128 + a, by omega⟩ ⟨(h : ℕ) * 64 + d, by omega⟩)
      * X (ix3 b (src n j) ⟨4096 + ((h : ℕ) / 8 * 64 + d), by omega⟩)
  else ⊥

/-- The `j`-th value of block `n` at lane `d` of head `h`. -/
def val (X : Rows) (b : Fin 2) (n : Fin 32) (h d : Fin 64) (j : Fin 256) : EReal :=
  X (ix3 b (src n j) ⟨4608 + ((h : ℕ) / 8 * 64 + d), by omega⟩)

/-- The attention's output at row `a` of block `n`, lane `d` of head `h`. -/
def attn (X : Rows) (S : Sinks) (b : Fin 2) (n : Fin 32) (a : Fin 128) (h d : Fin 64) : EReal :=
  row (logit X b n h a) (S (ix1 h)) (val X b n h d)

/-- The mask both programs compute in 32-bit words is `sees`. -/
theorem mask_eq (n : Fin 32) (a : Fin 128) (j : Fin 256) (x y : EReal) :
    Scalar.select (IntOp.andi (IntOp.andi (IntOp.cmpi .sgt (BitVec.ofNat 32 j) (BitVec.ofNat 32 a))
        (IntOp.cmpi .sle (BitVec.ofNat 32 j) (IntOp.addi (BitVec.ofNat 32 a) 128#32)))
      (IntOp.cmpi .sge (IntOp.addi (Scalar.muli (BitVec.ofNat 32 n) 128#32) (BitVec.ofNat 32 j)) 128#32)) x y
      = if sees n a j then x else y := by
  have e : IntOp.addi (Scalar.muli (BitVec.ofNat 32 n) 128#32) (BitVec.ofNat 32 j) = BitVec.ofNat 32 ((n : ℕ) * 128 + j) := by
    simp only [IntOp.addi, IntOp.muli, Scalar.muli, BitVec.ofNat_add, BitVec.ofNat_mul]
  have e' : IntOp.addi (BitVec.ofNat 32 a) 128#32 = BitVec.ofNat 32 ((a : ℕ) + 128) := by
    simp only [IntOp.addi, BitVec.ofNat_add]
  rw [e, e']
  simp (disch := word_cmp_side) only [hlo_ix]
  simp only [sees, and_assoc]
end Cert.SwaSpec
-- ==== Proof.SwaPoint.lean ====
module
public import proofs.«01_k».proof.Proof.Gen.SwaIdeal.Value
public import proofs.«01_k».proof.Proof.SwaSpec
@[expose] public section
set_option maxRecDepth 16384
noncomputable section
namespace Cert.SwaIdeal.Point
open Idealize.ShloMosaic Idealize.ShloMosaic.TcCoe Idealize.SL.Sem
open Cert.SwaIdeal Cert.SwaIdeal.Gen Cert.SwaSpec Cert.SwaMath
variable (m : (ℓ : Loc nD τ sig) → Buf (Elt Ideal) ℓ)

/-- The named mask constant is minus infinity. -/
theorem named_negInf : (Named.named (F := Ideal) (φ := .f32) κ "neg_inf" 0xF149F2CA#32 : EReal) = ⊥ :=
  IdealRules.named_const.ideal_named_scalar _ _ _ _ rfl

/-- One head's stored block at an index: a row of attention over the masked logits of that head. -/
theorem pay_at (i : grid0.Coords) (kg vg : FVec Ideal S256x64 .bf16) (q : Vec Ideal S1x128x64 .bf16) (s : EReal)
    (n : Fin 32) (hn : (i 1 : ℕ) = n) (a : Fin 128) (d : Fin 64) :
    k0_pay18 (F := Ideal) (k0_pay2 i) kg vg q s (ix3 0 a d)
      = row (fun j => if sees n a j then ∑ e : Fin 64, q (ix3 0 a e) * kg (ix2 j e) else ⊥) s (fun j => vg (ix2 j d)) := by
  pointwise [k0_pay18, k0_pay2, named_negInf, ofBits_negInf, hn, mask_eq]
  rfl

/-- The two staged blocks of keys (or values), stacked, at the lanes of key head `g` of the pair. -/
theorem stack_at (x y : Vec Ideal S1x128x128 .bf16) (g : Fin 2) (hs) (j : Fin 256) (e : Fin 64) :
    extractStridedSlice S256x64 ![0, (g : ℕ) * 64] (k0_pay3 (F := Ideal) x y) hs (ix2 j e)
      = if h : (j : ℕ) < 128 then x (ix3 0 ⟨j, h⟩ ⟨(g : ℕ) * 64 + e, by omega⟩)
        else y (ix3 0 ⟨(j : ℕ) - 128, by omega⟩ ⟨(g : ℕ) * 64 + e, by omega⟩) := by
  pointwise [k0_pay3]

/-- The blocks the windows stage at a point and the point's coordinates, in closed form. -/
theorem idx : ∀ t : Fin cfg0.N, win0_1.index t = ![t.val / 128, t.val / 4 % 32, t.val % 4]
    ∧ win0_2.index t = ![t.val / 128, t.val / 4 % 32 - 1, 32 + t.val % 4]
    ∧ win0_3.index t = ![t.val / 128, t.val / 4 % 32, 32 + t.val % 4]
    ∧ win0_4.index t = ![t.val / 128, t.val / 4 % 32 - 1, 36 + t.val % 4]
    ∧ win0_5.index t = ![t.val / 128, t.val / 4 % 32, 36 + t.val % 4]
    ∧ win0_6.index t = ![t.val / 128, t.val / 4 % 32, t.val % 4]
    ∧ win0_0.index t = ![0]
    ∧ (grid0.coords t 1).val = t.val / 4 % 32 ∧ (grid0.coords t 2).val = t.val % 4 :=
  (by decide +kernel : ∀ t : Fin grid0.N, _)

variable (c : Dev nD) (t : Fin cfg0.N)

/-- The projected rows on device `c`. -/
abbrev X : Rows := m ((c.tc : Thread nD τ).loc main_arg0)
/-- The sinks on device `c`. -/
abbrev S : Sinks := m ((c.tc : Thread nD τ).loc main_arg1)

/-- The keys staged at point `t`, stacked, for key head `g` of the pair. -/
theorem key_at (g : Fin 2) (hs) (j : Fin 256) (e : Fin 64) (b : Fin 2) (n : Fin 32) (hb : (b : ℕ) = t.val / 128)
    (hn : (n : ℕ) = t.val / 4 % 32) :
    extractStridedSlice S256x64 ![0, (g : ℕ) * 64] (k0_pay3 (F := Ideal) (iblk m c 2 t) (iblk m c 3 t)) hs (ix2 j e)
      = X m c (ix3 b (src n j) ⟨4096 + ((t.val % 4 * 2 + g) * 64 + e), by omega⟩) := by
  rw [stack_at]
  unfold src
  split <;> blk_point [iblk, V, idx t]

/-- The values staged at point `t`, stacked, for key head `g` of the pair. -/
theorem val_at (g : Fin 2) (hs) (j : Fin 256) (e : Fin 64) (b : Fin 2) (n : Fin 32) (hb : (b : ℕ) = t.val / 128)
    (hn : (n : ℕ) = t.val / 4 % 32) :
    extractStridedSlice S256x64 ![0, (g : ℕ) * 64] (k0_pay3 (F := Ideal) (iblk m c 4 t) (iblk m c 5 t)) hs (ix2 j e)
      = X m c (ix3 b (src n j) ⟨4608 + ((t.val % 4 * 2 + g) * 64 + e), by omega⟩) := by
  rw [stack_at]
  unfold src
  split <;> blk_point [iblk, V, idx t]

/-- The rectangle of head `r` of group `g` in the staged queries is inside. -/
theorem inb : ∀ (g : Fin 2) (r : Fin 8) (a : Fin 3),
    (![0, 0, ((g : ℕ) * 8 + r) * 64] : Fin 3 → ℕ) a + (![1, 128, 64] : Fin 3 → ℕ) a ≤ S1x128x1024.size a := by
  decide +kernel

/-- What point `t` stores for head `r` of group `g` of its pair of key heads. -/
def headPay (g : Fin 2) (r : Fin 8) (hs : S256x128.Slices ![0, (g : ℕ) * 64] S256x64) : FVec Ideal S1x128x64 .bf16 :=
  k0_pay18 (F := Ideal) (k0_pay2 (grid0.coords t))
    (extractStridedSlice S256x64 ![0, (g : ℕ) * 64] (k0_pay3 (F := Ideal) (iblk m c 2 t) (iblk m c 3 t)) hs)
    (extractStridedSlice S256x64 ![0, (g : ℕ) * 64] (k0_pay3 (F := Ideal) (iblk m c 4 t) (iblk m c 5 t)) hs)
    (View.ld (iblk m c 1 t) (Rect.unit (s := S1x128x1024) ![0, 0, ((g : ℕ) * 8 + r) * 64] ![1, 128, 64] (inb g r)))
    (View.ld (iblk m c 0 t) (Rect.unit (s := S64) (k0_off1 (grid0.coords t) (BitVec.ofNat 32 g) (BitVec.ofNat 32 r)) ![1] (k0_off1_inb _ g r))
      (Shape.Idx.first Nat.one_pos))

/-- What point `t` stores for one head, at an index: the attention of that head. -/
theorem headPay_at (g : Fin 2) (r : Fin 8) (hs) (a : Fin 128) (d : Fin 64) (b : Fin 2) (n : Fin 32) (h : Fin 64)
    (hb : (b : ℕ) = t.val / 128) (hn : (n : ℕ) = t.val / 4 % 32) (hh : (h : ℕ) = t.val % 4 * 16 + (g * 8 + r)) :
    headPay m c t g r hs (ix3 0 a d) = attn (X m c) (S m c) b n a h d := by
  unfold headPay attn
  rw [pay_at (grid0.coords t) _ _ _ _ n ((idx t).2.2.2.2.2.2.2.1.trans hn.symm)]
  congr 1
  · funext j
    unfold logit
    simp only [key_at m c t g hs j _ b n hb hn]
    split
    · refine Finset.sum_congr rfl fun e _ => congrArg₂ (· * ·) ?_ (congrArg (X m c) ?_)
      · pointwise
        blk_point [iblk, V, idx t]
      · exact (ix3_inj ..).2 ⟨rfl, rfl, Fin.ext (by show 4096 + _ = 4096 + _; omega)⟩
    · rfl
  · have h2 := (idx t).2.2.2.2.2.2.2.2
    pointwise
    blk_point [iblk, V, idx t]
    rw [k0_off1_eq]
    show 16 * (grid0.coords t 2 : ℕ) + 8 * (g : ℕ) + (r : ℕ) = (h : ℕ)
    omega
  · funext j
    rw [val_at m c t g hs j d b n hb hn]
    exact congrArg (X m c) ((ix3_inj ..).2 ⟨rfl, rfl, Fin.ext (by show 4608 + _ = 4608 + _; omega)⟩)

/-- What the body leaves in the output's block at point `t`. -/
theorem out_at (y : S1x128x1024.Idx) (a : Fin 128) (d : Fin 64) (b : Fin 2) (n : Fin 32) (h : Fin 64)
    (hb : (b : ℕ) = t.val / 128) (hn : (n : ℕ) = t.val / 4 % 32) (hh : (h : ℕ) = t.val % 4 * 16 + (y 2 : ℕ) / 64)
    (ha : (a : ℕ) = y 1) (hd : (d : ℕ) = (y 2 : ℕ) % 64) :
    outsAt0 m c t y = attn (X m c) (S m c) b n a h d := by
  have key : ∀ (g : Fin 2) (r : Fin 8) (hs) (x : S1x128x64.Idx), (y 1 : ℕ) = x 1 → (y 2 : ℕ) = (g * 8 + r) * 64 + x 2 →
      headPay m c t g r hs x = attn (X m c) (S m c) b n a h d := by
    intro g r hs x h1 h2
    have hx2 : (x 2 : ℕ) < 64 := (x 2).isLt
    have hx0 : (x 0 : ℕ) < 1 := (x 0).isLt
    have : x = ix3 0 a d := by
      rw [eq_ix3 x]
      exact (ix3_inj ..).2 ⟨Fin.ext (by show (x 0 : ℕ) = 0; omega), Fin.ext (by omega), Fin.ext (by omega)⟩
    rw [this]
    exact headPay_at m c t g r hs a d b n h hb hn (by omega)
  unfold outsAt0
  frame_out
  canon_tiles x h
  case piece0 => exact key 1 7 slices_S256x128_o0_64_S256x64 x h1 h2
  case piece1 => exact key 1 6 slices_S256x128_o0_64_S256x64 x h1 h2
  case piece2 => exact key 1 5 slices_S256x128_o0_64_S256x64 x h1 h2
  case piece3 => exact key 1 4 slices_S256x128_o0_64_S256x64 x h1 h2
  case piece4 => exact key 1 3 slices_S256x128_o0_64_S256x64 x h1 h2
  case piece5 => exact key 1 2 slices_S256x128_o0_64_S256x64 x h1 h2
  case piece6 => exact key 1 1 slices_S256x128_o0_64_S256x64 x h1 h2
  case piece7 => exact key 1 0 slices_S256x128_o0_64_S256x64 x h1 h2
  case piece8 => exact key 0 7 slices_S256x128_o0_0_S256x64 x h1 h2
  case piece9 => exact key 0 6 slices_S256x128_o0_0_S256x64 x h1 h2
  case piece10 => exact key 0 5 slices_S256x128_o0_0_S256x64 x h1 h2
  case piece11 => exact key 0 4 slices_S256x128_o0_0_S256x64 x h1 h2
  case piece12 => exact key 0 3 slices_S256x128_o0_0_S256x64 x h1 h2
  case piece13 => exact key 0 2 slices_S256x128_o0_0_S256x64 x h1 h2
  case piece14 => exact key 0 1 slices_S256x128_o0_0_S256x64 x h1 h2
  case piece15 => exact key 0 0 slices_S256x128_o0_0_S256x64 x h1 (by simpa using h2)

/-- The kernel's output, index by index: the attention of each head. -/
theorem final : (dats m 0 c).arrAt 6 (cfgs 0).N = fun i => attn (X m c) (S m c) ⟨(i 0 : ℕ), (i 0).isLt⟩
    ⟨(i 1 : ℕ) / 128, by have : (i 1 : ℕ) < 4096 := (i 1).isLt; omega⟩ ⟨(i 1 : ℕ) % 128, by omega⟩
    ⟨(i 2 : ℕ) / 64, by have : (i 2 : ℕ) < 4096 := (i 2).isLt; omega⟩ ⟨(i 2 : ℕ) % 64, by omega⟩ := by
  refine (dats m 0 c).arrAt_eq_of_covers 6 _ (by decide +kernel) fun t _ y => ?_
  blk_simp
  rw [after0_6]
  have hy1 : (y 1 : ℕ) < 128 := (y 1).isLt
  have hy2 : (y 2 : ℕ) < 1024 := (y 2).isLt
  have hy0 : (y 0 : ℕ) < 1 := (y 0).isLt
  refine out_at m c t y _ _ _ _ _ ?_ ?_ ?_ ?_ ?_ <;> (blk_simp [idx t] <;> try (simp only []; omega))
end Cert.SwaIdeal.Point
-- ==== Proof.Real.lean ====
module
public import Idealize.ShloMosaic.Lib.Pipeline.ValueKit
@[expose] public section
noncomputable section
namespace Cert.RealMath
open Idealize.ShloMosaic

/-! Extended reals that are real numbers. -/

/-- The value is a real number. -/
abbrev IsReal (x : EReal) : Prop := x ≠ ⊥ ∧ x ≠ ⊤

/-- A product of real numbers is one. -/
theorem IsReal.mul {x y : EReal} (hx : IsReal x) (hy : IsReal y) : IsReal (x * y) := by
  lift x to ℝ using ⟨hx.2, hx.1⟩
  lift y to ℝ using ⟨hy.2, hy.1⟩
  rw [← EReal.coe_mul]
  exact ⟨EReal.coe_ne_bot _, EReal.coe_ne_top _⟩

/-- A sum of two real numbers is one. -/
theorem IsReal.add {x y : EReal} (hx : IsReal x) (hy : IsReal y) : IsReal (x + y) := by
  lift x to ℝ using ⟨hx.2, hx.1⟩
  lift y to ℝ using ⟨hy.2, hy.1⟩
  rw [← EReal.coe_add]
  exact ⟨EReal.coe_ne_bot _, EReal.coe_ne_top _⟩

/-- A finite sum of real numbers is one. -/
theorem IsReal.sum {ι : Type} (s : Finset ι) {f : ι → EReal} (hf : ∀ i ∈ s, IsReal (f i)) : IsReal (∑ i ∈ s, f i) :=
  Finset.sum_induction f IsReal (fun _ _ => IsReal.add) ⟨EReal.zero_ne_bot, EReal.zero_ne_top⟩ hf

/-- The test `|x| < +∞` says that `x` is a real number. -/
theorem isReal_of_abs_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  refine ⟨?_, ?_⟩ <;> rintro rfl <;> simp [Ideal.cmp] at h

/-- The test `x < +∞` says that `x` is not plus infinity. -/
theorem ne_top_of_lt {x : EReal} (h : Ideal.cmp .olt x (Ideal.ofBits .f32 0x7F800000#32) = 1#1) : x ≠ ⊤ := by
  have htop : Ideal.ofBits .f32 0x7F800000#32 = ⊤ := by simp [Ideal.ofBits, Ideal.ieee]
  rw [htop] at h
  rintro rfl
  simp [Ideal.cmp] at h
end Cert.RealMath
-- ==== Proof.SwaRef.lean ====
module
public import proofs.«01_k».proof.Proof.Gen.SwaRefIdeal.Read
public import proofs.«01_k».proof.Proof.SwaSpec
public import proofs.«01_k».proof.Proof.Real
@[expose] public section
set_option maxRecDepth 16384
noncomputable section
namespace Cert.SwaRefIdeal.Point
open Idealize.ShloMosaic Idealize.ShloMosaic.TcCoe Idealize.SL.Sem
open Cert.SwaRefIdeal Cert.SwaRefIdeal.Read Cert.SwaMath Cert.SwaSpec Cert.RealMath
variable (X : FVec Ideal S2x4096x5120 .bf16) (S : FVec Ideal S64 .f32)

/-! The reference, read index by index: block `bn` is block `bn % 32` of sequence `bn / 32`, and `kv`, `r` are query
    head `r` of key head `kv`. -/

/-- The keys of block `bn`, the block before first: where the position is in the sequence, the row it stands for. -/
theorem key_at (b : Fin 2) (n : Fin 32) (j : Fin 256) (kv : Fin 8) (d : Fin 64) (hj : 128 ≤ (n : ℕ) * 128 + j) :
    val_main_v8 (F := Ideal) X (ix4 ⟨(b : ℕ) * 32 + n, by omega⟩ j kv d) = X (ix3 b (src n j) ⟨4096 + ((kv : ℕ) * 64 + d), by omega⟩) := by
  pointwise [val_main_v8, val_main_v7, val_main_v6, val_main_v5, val_main_v4, val_main_v1, val_main_call0_v0, val_main_c]
  unfold src
  split
  · rw [dif_pos (by omega)]
  · rfl

/-- The values of block `bn`, likewise. -/
theorem val_at (b : Fin 2) (n : Fin 32) (j : Fin 256) (kv : Fin 8) (d : Fin 64) (hj : 128 ≤ (n : ℕ) * 128 + j) :
    val_main_v13 (F := Ideal) X (ix4 ⟨(b : ℕ) * 32 + n, by omega⟩ j kv d) = X (ix3 b (src n j) ⟨4608 + ((kv : ℕ) * 64 + d), by omega⟩) := by
  pointwise [val_main_v13, val_main_v12, val_main_v11, val_main_v10, val_main_v9, val_main_v2, val_main_call1_v0, val_main_c_0]
  unfold src
  split
  · rw [dif_pos (by omega)]
  · rfl

/-- The products of queries and keys. -/
theorem dot_at (b : Fin 2) (n : Fin 32) (h : Fin 64) (a : Fin 128) (j : Fin 256) (hj : 128 ≤ (n : ℕ) * 128 + j) :
    val_main_v15 (F := Ideal) X (ix5 ⟨(b : ℕ) * 32 + n, by omega⟩ ⟨(h : ℕ) / 8, by omega⟩ ⟨(h : ℕ) % 8, by omega⟩ a j)
      = ∑ d : Fin 64, X (ix3 b ⟨(n : ℕ) * 128 + a, by omega⟩ ⟨(h : ℕ) * 64 + d, by omega⟩)
          * X (ix3 b (src n j) ⟨4096 + ((h : ℕ) / 8 * 64 + d), by omega⟩) := by
  pointwise [val_main_v15, val_main_v14, val_main_v3, val_main_v0]
  refine Finset.sum_congr rfl fun d _ => ?_
  rw [key_at X b n j _ d hj, mul_comm]
  exact congrArg (· * _) (congrArg X ((ix3_inj ..).2 ⟨rfl, Fin.ext (by show ((b : ℕ) * 32 + n) % 32 * 128 + (a : ℕ) = n * 128 + a; omega),
    Fin.ext (by show (h : ℕ) / 8 * 512 + (h : ℕ) % 8 * 64 + (d : ℕ) = h * 64 + d; omega)⟩))

/-- The masked logits. -/
theorem mask_at (b : Fin 2) (n : Fin 32) (h : Fin 64) (a : Fin 128) (j : Fin 256) :
    val_main_v46 (F := Ideal) X (ix5 ⟨(b : ℕ) * 32 + n, by omega⟩ ⟨(h : ℕ) / 8, by omega⟩ ⟨(h : ℕ) % 8, by omega⟩ a j)
      = logit X b n h a j := by
  pointwise [val_main_v46, val_main_call2_v1, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_c_1, val_main_c_2, val_main_c_3, val_main_call2_v2, val_main_call2_v0, val_main_cst]
  refine (mask_eq n a j _ _).trans ?_
  unfold logit
  split
  · rename_i hs
    exact dot_at X b n h a j hs.2.2
  · exact ofBits_negInf

/-- The masked logits with the sink behind them. -/
theorem cat_at (bn : Fin 64) (kv r : Fin 8) (a : Fin 128) (j : Fin 257) : val_main_v49 (F := Ideal) X S (ix5 bn kv r a j)
    = if h : (j : ℕ) < 256 then val_main_v46 (F := Ideal) X (ix5 bn kv r a ⟨j, h⟩) else S (ix1 ⟨(kv : ℕ) * 8 + r, by omega⟩) := by
  unfold val_main_v49
  generalize val_main_v46 (F := Ideal) X = y
  pointwise [val_main_v48, val_main_v47]

/-- The largest of a row, counted from minus infinity. -/
theorem fold_at (bn : Fin 64) (kv r : Fin 8) (a : Fin 128) : val_main_v50 (F := Ideal) X S (ix4 bn kv r a)
    = Finset.univ.fold max ⊥ (fun x => val_main_v49 (F := Ideal) X S (ix5 bn kv r a x)) := by
  unfold val_main_v50
  generalize val_main_v49 (F := Ideal) X S = y
  rw [← ofBits_negInf]
  pointwise [val_main_cst_4]

/-- The largest of a row, against minus infinity. -/
theorem max_at (bn : Fin 64) (kv r : Fin 8) (a : Fin 128) : val_main_v52 (F := Ideal) X S (ix4 bn kv r a)
    = max ⊥ (Finset.univ.fold max ⊥ (fun x => val_main_v49 (F := Ideal) X S (ix5 bn kv r a x))) := by
  rw [val_main_v52_apply, fold_at, ← ofBits_negInf]
  rfl

/-- The exponentials. -/
theorem exp_at (bn : Fin 64) (kv r : Fin 8) (a : Fin 128) (j : Fin 257) : val_main_v56 (F := Ideal) X S (ix5 bn kv r a j)
    = Ideal.exp (val_main_v49 (F := Ideal) X S (ix5 bn kv r a j) - val_main_v52 (F := Ideal) X S (ix4 bn kv r a)) := by
  unfold val_main_v56 val_main_v55 val_main_v54 val_main_v53
  generalize val_main_v49 (F := Ideal) X S = y
  generalize val_main_v52 (F := Ideal) X S = z
  pointwise

/-- The weights. -/
theorem prob_at (bn : Fin 64) (kv r : Fin 8) (a : Fin 128) (j : Fin 256) : val_main_v62 (F := Ideal) X S (ix5 bn kv r a j)
    = Ideal.div (val_main_v56 (F := Ideal) X S (ix5 bn kv r a j.castSucc)) (∑ x : Fin 257, val_main_v56 (F := Ideal) X S (ix5 bn kv r a x)) := by
  unfold val_main_v62 val_main_v61 val_main_v60 val_main_v59 val_main_v58 val_main_v57
  generalize val_main_v56 (F := Ideal) X S = y
  pointwise [val_main_cst_6]
  rfl

/-- What the two programs are compared under: the queries and keys are real numbers and no sink is plus infinity. -/
def Fit : Prop := (∀ (b : Fin 2) (s : Fin 4096) (e : Fin 5120), (e : ℕ) < 4608 → IsReal (X (ix3 b s e))) ∧ ∀ h : Fin 64, S (ix1 h) ≠ ⊤

/-- Where the position is seen the logit is a real number. -/
theorem logit_real (hfit : Fit X S) (b : Fin 2) (n : Fin 32) (h : Fin 64) (a : Fin 128) (j : Fin 256) (hs : sees n a j) :
    IsReal (logit X b n h a j) := by
  rw [logit, if_pos hs]
  exact IsReal.sum _ fun d _ => (hfit.1 _ _ _ (by show (h : ℕ) * 64 + d < 4608; omega)).mul
    (hfit.1 _ _ _ (by show 4096 + ((h : ℕ) / 8 * 64 + d) < 4608; omega))

/-- The weighted sum of the values is the attention of one head. -/
theorem head_at (hfit : Fit X S) (b : Fin 2) (n : Fin 32) (a : Fin 128) (h d : Fin 64) :
    ∑ x : Fin 256, val_main_v13 (F := Ideal) X (ix4 ⟨(b : ℕ) * 32 + n, by omega⟩ x ⟨(h : ℕ) / 8, by omega⟩ d)
        * val_main_v62 (F := Ideal) X S (ix5 ⟨(b : ℕ) * 32 + n, by omega⟩ ⟨(h : ℕ) / 8, by omega⟩ ⟨(h : ℕ) % 8, by omega⟩ a x)
      = attn X S b n a h d := by
  simp only [prob_at, exp_at, max_at]
  refine (row_of_concat (fun x => val_main_v49 (F := Ideal) X S (ix5 _ _ _ a x)) _).trans ?_
  have hL : (fun k : Fin 256 => val_main_v49 (F := Ideal) X S (ix5 ⟨(b : ℕ) * 32 + n, by omega⟩ ⟨(h : ℕ) / 8, by omega⟩
      ⟨(h : ℕ) % 8, by omega⟩ a k.castSucc)) = logit X b n h a := by
    funext k
    rw [cat_at, dif_pos (show (k.castSucc : ℕ) < 256 from k.isLt)]
    exact mask_at X b n h a k
  have hS : val_main_v49 (F := Ideal) X S (ix5 ⟨(b : ℕ) * 32 + n, by omega⟩ ⟨(h : ℕ) / 8, by omega⟩
      ⟨(h : ℕ) % 8, by omega⟩ a (Fin.last 256)) = S (ix1 h) := by
    rw [cat_at, dif_neg (by simp)]
    exact congrArg (fun q : Fin 64 => S (ix1 q)) (Fin.ext (by show (h : ℕ) / 8 * 8 + (h : ℕ) % 8 = h; omega))
  rw [hL, hS]
  refine row_congr (fun k => ?_) (hfit.2 h) ⟨(a : ℕ) + 128, by omega⟩ ?_ fun k hk => ?_
  · by_cases hs : sees n a k
    · exact (logit_real X S hfit b n h a k hs).2
    · rw [logit, if_neg hs]; exact bot_ne_top
  · exact (logit_real X S hfit b n h a _ (by simp only [sees]; omega)).1
  · have hs : sees n a k := by
      by_contra hs
      exact hk (by rw [logit, if_neg hs])
    exact val_at X b n k _ d hs.2.2

/-- The reference's output is the attention of each head. -/
theorem out_at (hfit : Fit X S) (i : S2x4096x4096.Idx) : val_main_v66 (F := Ideal) X S i = attn X S ⟨(i 0 : ℕ), (i 0).isLt⟩
    ⟨(i 1 : ℕ) / 128, by have : (i 1 : ℕ) < 4096 := (i 1).isLt; omega⟩ ⟨(i 1 : ℕ) % 128, by omega⟩
    ⟨(i 2 : ℕ) / 64, by have : (i 2 : ℕ) < 4096 := (i 2).isLt; omega⟩ ⟨(i 2 : ℕ) % 64, by omega⟩ := by
  rw [← head_at X S hfit]
  pointwise [val_main_v66, val_main_v65, val_main_v64, val_main_v63]
  have e8 : (i 2 : ℕ) / 512 = (i 2 : ℕ) / 64 / 8 := by omega
  simp only [e8]
end Cert.SwaRefIdeal.Point
-- ==== Proof.RopeMath.lean ====
module
public import Idealize.ShloMosaic.Lib.Pipeline.ValueKit
@[expose] public section
noncomputable section
namespace Cert.RopeMath

open Idealize.ShloMosaic

/-- A row of `N` columns read at any number, zero past its end. -/
def nat {N : ℕ} (f : Fin N → EReal) (n : ℕ) : EReal := if h : n < N then f ⟨n, h⟩ else 0

/-- A row at a column is the row read at the column's number. -/
theorem nat_of {N : ℕ} (f : Fin N → EReal) (n : ℕ) (h : n < N) : f ⟨n, h⟩ = nat f n := by rw [nat, dif_pos h]

/-- The angle of position `s` in plane `l`: the position times the base to the power of minus `l` times `w`. -/
def angle (w : EReal) (s l : ℕ) : EReal :=
  FloatOps.sitofp (F := Ideal) .f32 (BitVec.ofNat 32 s)
    * Ideal.pow (Ideal.ofBits .f32 0x48F42400#32) (-FloatOps.sitofp (F := Ideal) .f32 (BitVec.ofNat 32 l) * w)

/-- Column `b` of a row `y` whose heads have `head` columns: the first `half` columns of a head and the `half` after them are the two coordinates of
    planes turned by the angles whose cosines and sines are `co` and `si`; the other columns of the head stay. -/
def turned (head half : ℕ) (co si y : ℕ → EReal) (b : ℕ) : EReal :=
  if b % head < half then y b * co (b % head) - y (b + half) * si (b % head)
  else if b % head < 2 * half then y b * co (b % head - half) + y (b - half) * si (b % head - half)
  else y b

/-- Column `q` of the table that a row is multiplied with: the cosines twice, then ones. -/
def cosRow (head half : ℕ) (co : ℕ → EReal) (q : ℕ) : EReal :=
  if q % head < half then co (q % head) else if q % head < 2 * half then co (q % head - half) else 1

/-- Column `q` of the table that the partner columns are multiplied with: the sines with a minus sign, the sines, then zeros. -/
def sinRow (head half : ℕ) (si : ℕ → EReal) (q : ℕ) : EReal :=
  if q % head < half then -si (q % head) + 0 else if q % head < 2 * half then 0 + si (q % head - half) else 0 + 0

/-- Entry `(k, q)` of the matrix that exchanges the two halves of a head's turned columns. -/
def swap (head half k q : ℕ) : EReal :=
  if q % head < half ∧ k = q + half ∨ half ≤ q % head ∧ q % head < 2 * half ∧ k + half = q then 1 else 0

/-- A row times the exchanging matrix: the partner column's value where there is a partner, zero elsewhere. -/
theorem swap_sum (head half : ℕ) (x : ℕ → EReal) (q : ℕ) (hq : q < 128) (hp : q % head < half → q + half < 128) :
    ∑ k : Fin 128, x k * swap head half k q
      = if q % head < half then x (q + half) else if q % head < 2 * half then x (q - half) else 0 := by
  split
  · next h =>
    rw [Finset.sum_eq_single (⟨q + half, hp h⟩ : Fin 128) (fun k _ hk => ?_) (by simp)]
    · rw [swap, if_pos (Or.inl ⟨h, rfl⟩), mul_one]
    · rw [swap, if_neg, mul_zero]
      rintro (⟨-, e⟩ | ⟨e, -⟩)
      · exact hk (Fin.ext e)
      · omega
  · next h =>
    split
    · next h2 =>
      have hle : q % head ≤ q := Nat.mod_le _ _
      rw [Finset.sum_eq_single (⟨q - half, by omega⟩ : Fin 128) (fun k _ hk => ?_) (by simp)]
      · rw [swap, if_pos (Or.inr ⟨by omega, h2, by show q - half + half = q; omega⟩), mul_one]
      · rw [swap, if_neg, mul_zero]
        rintro (⟨e, -⟩ | ⟨-, -, e⟩)
        · exact h e
        · exact hk (Fin.ext (by show (k : ℕ) = q - half; omega))
    · next h2 =>
      refine Finset.sum_eq_zero fun k _ => ?_
      rw [swap, if_neg, mul_zero]
      rintro (⟨e, -⟩ | ⟨-, e, -⟩)
      · exact h e
      · exact h2 e

/-- The row times the first table plus the partner columns times the second is the turned row. -/
theorem spun (head half : ℕ) (co si x : ℕ → EReal) (q : ℕ) (hq : q < 128) (hp : q % head < half → q + half < 128) :
    x q * cosRow head half co q + (∑ k : Fin 128, x k * swap head half k q) * sinRow head half si q
      = turned head half co si x q := by
  rw [swap_sum head half x q hq hp]
  unfold cosRow sinRow turned
  split
  · rw [add_zero, mul_neg, sub_eq_add_neg]
  · split
    · rw [zero_add]
    · rw [mul_one, zero_mul, add_zero]

/-- A value that is the first coordinate, the second, or unturned according to its place `d` in head `h`, is the turned row there. -/
theorem turned_of (head half w : ℕ) (co si y : ℕ → EReal) (h d : ℕ) (v : EReal) (hw : w = 2 * half) (hd : d < head)
    (h1 : d < half → v = y (h * head + d) * co d - y (h * head + (half + d)) * si d)
    (h2 : ¬d < half → d - half < half → v = y (h * head + (half + (d - half))) * co (d - half) + y (h * head + (d - half)) * si (d - half))
    (h3 : ¬d < half → ¬d - half < half → v = y (h * head + (w + (d - half - half)))) :
    v = turned head half co si y (h * head + d) := by
  have hm : (h * head + d) % head = d := by rw [Nat.mul_add_mod', Nat.mod_eq_of_lt hd]
  unfold turned
  rw [hm]
  split
  · next e => rw [h1 e, Nat.add_comm half d, Nat.add_assoc]
  · next e =>
    split
    · next e2 =>
      rw [h2 e (by omega), Nat.add_sub_assoc (by omega), show half + (d - half) = d by omega]
    · next e2 =>
      rw [h3 e (by omega), show w + (d - half - half) = d by omega]

/-- Turning commutes with a shift of the columns by whole heads. -/
theorem turned_shift (head half : ℕ) (co si y : ℕ → EReal) (j q : ℕ) (hq : half ≤ q % head → half ≤ q) :
    turned head half co si (fun k => y (head * j + k)) q = turned head half co si y (head * j + q) := by
  unfold turned
  rw [Nat.mul_add_mod]
  split
  · rw [Nat.add_assoc]
  · next h =>
    rw [Nat.add_sub_assoc (hq (by omega))]

end Cert.RopeMath
-- ==== Proof.SwaInRef.lean ====
module
public import proofs.«01_k».proof.Proof.Gen.SwaInRefIdeal.Read
public import proofs.«01_k».proof.Proof.RopeMath
@[expose] public section
set_option maxRecDepth 16384
noncomputable section
namespace Cert.SwaInRefIdeal.Point
open Idealize.ShloMosaic Idealize.ShloMosaic.TcCoe Idealize.SL.Sem
open Cert.SwaInRefIdeal Cert.SwaInRefIdeal.Read Cert.RopeMath
variable (x0 : FVec Ideal S8192x4096 .bf16) (x1 : FVec Ideal S1x4096x5120 .bf16) (x2 : FVec Ideal S8192x128 .f32)

/-- The cosines of position `s`. -/
def co (s l : ℕ) : EReal := Ideal.cos (angle (Ideal.ofBits .f32 0x3E000000#32) s l)

/-- The sines of position `s`. -/
def si (s l : ℕ) : EReal := Ideal.sin (angle (Ideal.ofBits .f32 0x3E000000#32) s l)

/-- One projected element: the dot product of a row and a column, times the row's reciprocal root mean square. -/
def proj (a : Fin 8192) (n : Fin 5120) : EReal :=
  (∑ k : Fin 4096, x0 (ix2 a k) * x1 (ix3 0 k n))
    * Ideal.rsqrt ((∑ k : Fin 128, x2 (ix2 a k)) * Ideal.ofBits .f32 0x39800000#32 + Ideal.ofBits .f32 0x358637BD#32)

/-- What the output holds: the queries turned and scaled, the keys turned, the values. -/
def out (a : Fin 8192) (n : ℕ) : EReal :=
  if n < 4096 then turned 64 8 (co (a % 4096)) (si (a % 4096)) (nat (proj x0 x1 x2 a)) n * Ideal.ofBits .f32 0x3E000000#32
  else if n < 4608 then turned 64 8 (co (a % 4096)) (si (a % 4096)) (nat (proj x0 x1 x2 a)) n
  else nat (proj x0 x1 x2 a) n

/-- The reference's projected columns at an index. -/
theorem proj_at (a : Fin 8192) (n : Fin 5120) : val_main_v11 (F := Ideal) x0 x1 x2 (ix2 a n) = proj x0 x1 x2 a n := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl

/-- The same, with the column a number. -/
theorem proj_nat (a : Fin 8192) (n : ℕ) (h : n < 5120) :
    val_main_v11 (F := Ideal) x0 x1 x2 (ix2 a ⟨n, h⟩) = nat (proj x0 x1 x2 a) n := by
  rw [proj_at, nat_of (proj x0 x1 x2 a)]

/-- The cosines of the queries. -/
theorem cos_q (s : Fin 4096) (l : Fin 8) : val_main_v28 (F := Ideal) (ix2 s l) = co s l := by
  pointwise [val_main_v28, val_main_v27, val_main_v26, val_main_v25, val_main_v24, val_main_v23, val_main_v22, val_main_v21,
    val_main_v20, val_main_v19, val_main_v18, val_main_v17, val_main_v16, val_main_cst_2, val_main_cst_3]
  rfl

/-- The sines of the queries. -/
theorem sin_q (s : Fin 4096) (l : Fin 8) : val_main_v30 (F := Ideal) (ix2 s l) = si s l := by
  pointwise [val_main_v30, val_main_v27, val_main_v26, val_main_v25, val_main_v24, val_main_v23, val_main_v22, val_main_v21,
    val_main_v20, val_main_v19, val_main_v18, val_main_v17, val_main_v16, val_main_cst_2, val_main_cst_3]
  rfl

/-- The cosines of the keys. -/
theorem cos_k (s : Fin 4096) (l : Fin 8) : val_main_v62 (F := Ideal) (ix2 s l) = co s l := by
  pointwise [val_main_v62, val_main_v61, val_main_v60, val_main_v59, val_main_v58, val_main_v57, val_main_v56, val_main_v55,
    val_main_v54, val_main_v53, val_main_v52, val_main_v51, val_main_v50, val_main_cst_5, val_main_cst_6]
  rfl

/-- The sines of the keys. -/
theorem sin_k (s : Fin 4096) (l : Fin 8) : val_main_v64 (F := Ideal) (ix2 s l) = si s l := by
  pointwise [val_main_v64, val_main_v61, val_main_v60, val_main_v59, val_main_v58, val_main_v57, val_main_v56, val_main_v55,
    val_main_v54, val_main_v53, val_main_v52, val_main_v51, val_main_v50, val_main_cst_5, val_main_cst_6]
  rfl

/-- The turned queries. -/
theorem q_at (b : Fin 2) (s : Fin 4096) (h d : Fin 64) (a : Fin 8192) (ha : (a : ℕ) = b * 4096 + s) :
    val_main_v46 (F := Ideal) x0 x1 x2 (ix4 b s h d) = turned 64 8 (co s) (si s) (nat (proj x0 x1 x2 a)) (h * 64 + d) := by
  have hb : (b : ℕ) * 4096 + s < 8192 := by omega
  obtain rfl : a = ⟨_, hb⟩ := Fin.ext ha
  have hy := proj_nat x0 x1 x2
  have hc := cos_q
  have hs := sin_q
  unfold val_main_v46 val_main_v45 val_main_v44 val_main_v43 val_main_v42 val_main_v41 val_main_v40 val_main_v39 val_main_v38
    val_main_v37 val_main_v36 val_main_v35 val_main_v34 val_main_v33 val_main_v32 val_main_v31 val_main_v29 val_main_v15 val_main_v12
  generalize val_main_v11 (F := Ideal) x0 x1 x2 = y at hy ⊢
  generalize val_main_v28 (F := Ideal) = c at hc ⊢
  generalize val_main_v30 (F := Ideal) = r at hs ⊢
  pointwise
  refine turned_of 64 8 16 _ _ _ h d _ rfl d.isLt (fun e => ?_) (fun e e2 => ?_) (fun e e2 => ?_)
  · rw [dif_pos e]
    simp only [hy, hc, hs]
  · rw [dif_neg e, dif_pos e2]
    simp only [hy, hc, hs]
  · rw [dif_neg e, dif_neg e2]
    simp only [hy]

/-- The turned keys. -/
theorem k_at (b : Fin 2) (s : Fin 4096) (h : Fin 8) (d : Fin 64) (a : Fin 8192) (ha : (a : ℕ) = b * 4096 + s) :
    val_main_v80 (F := Ideal) x0 x1 x2 (ix4 b s h d)
      = turned 64 8 (co s) (si s) (fun n => nat (proj x0 x1 x2 a) (64 * 64 + n)) (h * 64 + d) := by
  have hb : (b : ℕ) * 4096 + s < 8192 := by omega
  obtain rfl : a = ⟨_, hb⟩ := Fin.ext ha
  have hy := proj_nat x0 x1 x2
  have hc := cos_k
  have hs := sin_k
  unfold val_main_v80 val_main_v79 val_main_v78 val_main_v77 val_main_v76 val_main_v75 val_main_v74 val_main_v73 val_main_v72
    val_main_v71 val_main_v70 val_main_v69 val_main_v68 val_main_v67 val_main_v66 val_main_v65 val_main_v63 val_main_v49 val_main_v13
  generalize val_main_v11 (F := Ideal) x0 x1 x2 = y at hy ⊢
  generalize val_main_v62 (F := Ideal) = c at hc ⊢
  generalize val_main_v64 (F := Ideal) = r at hs ⊢
  pointwise
  refine turned_of 64 8 16 _ _ _ h d _ rfl d.isLt (fun e => ?_) (fun e e2 => ?_) (fun e e2 => ?_)
  · rw [dif_pos e]
    simp only [hy, hc, hs]
  · rw [dif_neg e, dif_pos e2]
    simp only [hy, hc, hs]
  · rw [dif_neg e, dif_neg e2]
    simp only [hy]

/-- The reference at an index. -/
theorem out_at (a : Fin 8192) (n : Fin 5120) : val_main_v85 (F := Ideal) x0 x1 x2 (ix2 a n) = out x0 x1 x2 a n := by
  have hy := proj_nat x0 x1 x2
  have hq := fun h d => q_at x0 x1 x2 ⟨(a : ℕ) / 4096, by omega⟩ ⟨(a : ℕ) % 4096, by omega⟩ h d a (by show (a : ℕ) = a / 4096 * 4096 + a % 4096; omega)
  have hk := fun h d => k_at x0 x1 x2 ⟨(a : ℕ) / 4096, by omega⟩ ⟨(a : ℕ) % 4096, by omega⟩ h d a (by show (a : ℕ) = a / 4096 * 4096 + a % 4096; omega)
  unfold val_main_v85 val_main_v84 val_main_v83 val_main_v82 val_main_v81 val_main_v48 val_main_v47 val_main_v14
  generalize val_main_v11 (F := Ideal) x0 x1 x2 = y at hy ⊢
  generalize val_main_v46 (F := Ideal) x0 x1 x2 = q at hq ⊢
  generalize val_main_v80 (F := Ideal) x0 x1 x2 = k at hk ⊢
  pointwise [val_main_cst_4]
  unfold out
  split
  · next e =>
    rw [hq]
    show turned _ _ _ _ _ ((n : ℕ) / 64 * 64 + n % 64) * _ = _
    rw [show (n : ℕ) / 64 * 64 + n % 64 = n by omega]
  · next e =>
    split
    · next e2 =>
      rw [hk, if_pos (show (n : ℕ) < 4608 by omega), turned_shift 64 8 _ _ _ 64 _ (by omega)]
      exact congrArg _ (by show 64 * 64 + (((n : ℕ) - 4096) / 64 * 64 + ((n : ℕ) - 4096) % 64) = n; omega)
    · next e2 =>
      rw [if_neg (show ¬(n : ℕ) < 4608 by omega), hy]
      exact congrArg _ (by omega)
end Cert.SwaInRefIdeal.Point
-- ==== Proof.SwaInLit.lean ====
module
public import proofs.«01_k».proof.SwaInIdeal
@[expose] public section
set_option maxRecDepth 16384
noncomputable section
namespace Cert.SwaInIdeal.Point
open Cert.SwaInIdeal

/-- The constant's entries: the bits of one where column `q` of a head is exchanged with row `k`, zero elsewhere. -/
theorem lit_at : ∀ k q : Fin 128, lit0 ⟨(k : ℕ) * 128 + q, by omega⟩
    = if (q : ℕ) % 64 < 8 ∧ (k : ℕ) = q + 8 ∨ 8 ≤ (q : ℕ) % 64 ∧ (q : ℕ) % 64 < 2 * 8 ∧ (k : ℕ) + 8 = q
      then 0x3F80#16 else 0#16 := by
  decide +kernel

end Cert.SwaInIdeal.Point
-- ==== Proof.SwaInTab.lean ====
module
public import proofs.«01_k».proof.Proof.Gen.SwaInIdeal.Value
public import proofs.«01_k».proof.Proof.SwaInRef
public import proofs.«01_k».proof.Proof.SwaInLit
public import Idealize.ShloMosaic.Lib.StableHlo.RunRead
public import Idealize.ShloMosaic.Lib.IdealHost
@[expose] public section
set_option maxRecDepth 16384
noncomputable section
namespace Cert.SwaInIdeal.Point
open Idealize.ShloMosaic Idealize.ShloMosaic.TcCoe Idealize.SL.Sem
open Cert.SwaInIdeal Cert.SwaInIdeal.Gen Cert.RopeMath
open Cert.SwaInRefIdeal.Point (co si)
variable (m : (ℓ : Loc nD τ sig) → Buf (Elt Ideal) ℓ)

/-- The blocks the windows stage at a point, in closed form. -/
theorem idx : ∀ t : Fin cfg0.N, win0_0.index t = ![t.val / 10, 0] ∧ win0_1.index t = ![0, 0, t.val % 10]
    ∧ win0_2.index t = ![t.val / 10, 0] ∧ win0_3.index t = ![t.val / 10 % 4, 0] ∧ win0_4.index t = ![t.val / 10 % 4, 0]
    ∧ win0_5.index t = ![0, 0] ∧ win0_6.index t = ![t.val / 10, t.val % 10] :=
  (by decide +kernel : ∀ t : Fin grid0.N, _)

/-- Three arrays side by side, one head, repeated for two heads. -/
def heads (A B : FVec Ideal S4096x8 .f32) (C : FVec Ideal S4096x48 .f32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x8, A⟩, ⟨S4096x8, B⟩, ⟨S4096x48, C⟩]
      concatenates_S4096x8_S4096x8_S4096x48_S4096x64_d1) shapeCasts_S4096x64_S1x4096x1x64)) shapeCasts_S1x4096x2x64_S4096x128

/-- The three arrays side by side, at an index. -/
theorem heads_at (A B : FVec Ideal S4096x8 .f32) (C : FVec Ideal S4096x48 .f32) (f g : ℕ → EReal) (z : EReal) (s : Fin 4096) (q : Fin 128)
    (hA : ∀ l, A (ix2 s l) = f l) (hB : ∀ l, B (ix2 s l) = g l) (hC : ∀ l, C (ix2 s l) = z) :
    heads A B C (ix2 s q) = if (q : ℕ) % 64 < 8 then f (q % 64) else if (q : ℕ) % 64 < 2 * 8 then g (q % 64 - 8) else z := by
  unfold heads
  pointwise
  split
  · exact hA _
  · next e =>
    split
    · next e2 => rw [if_pos (show (q : ℕ) % 64 < 2 * 8 by omega)]; exact hB _
    · next e2 => rw [if_neg (show ¬(q : ℕ) % 64 < 2 * 8 by omega)]; exact hC _

/-- The table of cosines: cosines twice, then ones. -/
theorem cos_term (c : Dev nD) : (V m c main_v23 : FVec Ideal S4096x128 .f32) = heads (V m c main_v12) (V m c main_v12) (V m c main_v14) := by
  unfold_abbrev_sides
  after_reads_simp
  dsimp only [Matrix.cons_val]
  rfl

/-- The table of sines: minus the sines and zeros, plus zeros and the sines. -/
theorem sin_term (c : Dev nD) : (V m c main_v30 : FVec Ideal S4096x128 .f32)
    = addf (heads (V m c main_v18) (V m c main_v15) (V m c main_v16)) (heads (V m c main_v15) (V m c main_v13) (V m c main_v16)) := by
  unfold_abbrev_sides
  after_reads_simp
  dsimp only [Matrix.cons_val]
  rfl

/-- The cosines computed before the launch. -/
theorem cos_half (c : Dev nD) (s : Fin 4096) (l : Fin 8) : (V m c main_v12 : FVec Ideal S4096x8 .f32) (ix2 s l) = co s l := by
  unfold_abbrev_sides
  after_reads_simp
  pointwise
  rfl

/-- The sines computed before the launch. -/
theorem sin_half (c : Dev nD) (s : Fin 4096) (l : Fin 8) : (V m c main_v13 : FVec Ideal S4096x8 .f32) (ix2 s l) = si s l := by
  unfold_abbrev_sides
  after_reads_simp
  pointwise
  rfl

/-- The sines with a minus sign. -/
theorem neg_half (c : Dev nD) (s : Fin 4096) (l : Fin 8) : (V m c main_v18 : FVec Ideal S4096x8 .f32) (ix2 s l) = -si s l := by
  unfold_abbrev_sides
  after_reads_simp
  pointwise
  rfl

/-- The ones. -/
theorem one_rest (c : Dev nD) (s : Fin 4096) (l : Fin 48) : (V m c main_v14 : FVec Ideal S4096x48 .f32) (ix2 s l) = (1 : EReal) := by
  unfold_abbrev_sides
  after_reads_simp
  exact Ideal.ofBits_one_f32

/-- The zeros beside the sines. -/
theorem zero_half (c : Dev nD) (s : Fin 4096) (l : Fin 8) : (V m c main_v15 : FVec Ideal S4096x8 .f32) (ix2 s l) = (0 : EReal) := by
  unfold_abbrev_sides
  after_reads_simp
  exact Ideal.ofBits_zero_f32

/-- The zeros of the unturned columns. -/
theorem zero_rest (c : Dev nD) (s : Fin 4096) (l : Fin 48) : (V m c main_v16 : FVec Ideal S4096x48 .f32) (ix2 s l) = (0 : EReal) := by
  unfold_abbrev_sides
  after_reads_simp
  exact Ideal.ofBits_zero_f32

/-- The table of cosines, two heads wide. -/
theorem cos_at (c : Dev nD) (s : Fin 4096) (q : Fin 128) :
    (V m c main_v23 : FVec Ideal S4096x128 .f32) (ix2 s q) = cosRow 64 8 (co s) q := by
  rw [cos_term]
  exact heads_at _ _ _ _ _ _ s q (cos_half m c s) (cos_half m c s) (one_rest m c s)

/-- The table of sines, two heads wide. -/
theorem sin_at (c : Dev nD) (s : Fin 4096) (q : Fin 128) :
    (V m c main_v30 : FVec Ideal S4096x128 .f32) (ix2 s q) = sinRow 64 8 (si s) q := by
  rw [sin_term]
  refine (congrArg₂ (· + ·) (heads_at _ _ _ (fun l => -si s l) (fun _ => 0) 0 s q (neg_half m c s) (zero_half m c s) (zero_rest m c s))
    (heads_at _ _ _ (fun _ => 0) (si s) 0 s q (zero_half m c s) (sin_half m c s) (zero_rest m c s))).trans ?_
  unfold sinRow
  split
  · rfl
  · split
    · rfl
    · rfl

/-- The matrix that exchanges the halves. -/
theorem swap_at (c : Dev nD) (k q : Fin 128) :
    (V m c main_cst : FVec Ideal S128x128 .bf16) (ix2 k q) = swap 64 8 k q := by
  unfold_abbrev_sides
  after_reads_simp
  show Ideal.ofBits .bf16 (lit0 _) = _
  refine (congrArg (fun x => Ideal.ofBits .bf16 (lit0 x)) (Fin.ext ?_ : _ = ⟨(k : ℕ) * 128 + q, by omega⟩)).trans ?_
  · exact Shape.rowMajor_val_two (ix2 k q : S128x128.Idx)
  · show Ideal.ofBits .bf16 (lit0 _) = _
    rw [lit_at]
    unfold swap
    split
    · exact Ideal.ofBits_one_bf16
    · exact Ideal.ofBits_zero_bf16

/-- The staged block of the cosines. -/
theorem cos_blk (c : Dev nD) (t : Fin cfg0.N) (p : Fin 1024) (q : Fin 128) :
    iblk m c 3 t (ix2 p q) = cosRow 64 8 (co (t.val / 10 % 4 * 1024 + p)) q := by
  refine Eq.trans ?_ (cos_at m c ⟨t.val / 10 % 4 * 1024 + p, by omega⟩ q)
  unfold iblk
  rw [View.read_apply]
  refine congrArg (V m c main_v23) (funext fun a => Fin.ext ?_)
  fin_cases a <;> blk_simp [idx t] <;> rfl

/-- The staged block of the sines. -/
theorem sin_blk (c : Dev nD) (t : Fin cfg0.N) (p : Fin 1024) (q : Fin 128) :
    iblk m c 4 t (ix2 p q) = sinRow 64 8 (si (t.val / 10 % 4 * 1024 + p)) q := by
  refine Eq.trans ?_ (sin_at m c ⟨t.val / 10 % 4 * 1024 + p, by omega⟩ q)
  unfold iblk
  rw [View.read_apply]
  refine congrArg (V m c main_v30) (funext fun a => Fin.ext ?_)
  fin_cases a <;> blk_simp [idx t] <;> rfl

/-- The staged block of the exchanging matrix. -/
theorem swap_blk (c : Dev nD) (t : Fin cfg0.N) (k q : Fin 128) : iblk m c 5 t (ix2 k q) = swap 64 8 k q := by
  refine Eq.trans ?_ (swap_at m c k q)
  unfold iblk
  rw [View.read_apply]
  refine congrArg (V m c main_cst) (funext fun a => Fin.ext ?_)
  fin_cases a <;> blk_simp [idx t] <;> rfl

end Cert.SwaInIdeal.Point
-- ==== Proof.SwaInPoint.lean ====
module
public import proofs.«01_k».proof.Proof.SwaInTab
@[expose] public section
set_option maxRecDepth 16384
noncomputable section
namespace Cert.SwaInIdeal.Point
open Idealize.ShloMosaic Idealize.ShloMosaic.TcCoe Idealize.SL.Sem
open Cert.SwaInIdeal Cert.SwaInIdeal.Gen Cert.RopeMath
open Cert.SwaInRefIdeal.Point (co si proj out)
variable (m : (ℓ : Loc nD τ sig) → Buf (Elt Ideal) ℓ)

/-- The arguments. -/
abbrev A0 (c : Dev nD) : FVec Ideal S8192x4096 .bf16 := m ((c.tc : Thread nD τ).loc main_arg0)
abbrev A1 (c : Dev nD) : FVec Ideal S1x4096x5120 .bf16 := m ((c.tc : Thread nD τ).loc main_arg1)
abbrev A2 (c : Dev nD) : FVec Ideal S8192x128 .f32 := m ((c.tc : Thread nD τ).loc main_arg2)

/-- The projected block of a point, at an index. -/
theorem proj_blk (c : Dev nD) (t : Fin cfg0.N) (p : Fin 1024) (q : Fin 512) (a : Fin 8192) (ha : (a : ℕ) = t.val / 10 * 1024 + p) :
    k0_pay1 (F := Ideal) (iblk m c 0 t) (iblk m c 1 t) (iblk m c 2 t) (ix2 p q)
      = nat (proj (A0 m c) (A1 m c) (A2 m c) a) (t.val % 10 * 512 + q) := by
  rw [← nat_of (proj (A0 m c) (A1 m c) (A2 m c) a) _ (by omega : t.val % 10 * 512 + q < 5120)]
  have h0 : ∀ k : Fin 4096, iblk m c 0 t (ix2 p k) = A0 m c (ix2 a k) := fun k => by
    unfold iblk
    rw [View.read_apply]
    refine congrArg (A0 m c) (funext fun x => Fin.ext ?_)
    fin_cases x <;> blk_simp [idx t]
    · exact ha.symm
    · rfl
  have h1 : ∀ k : Fin 4096, iblk m c 1 t (ix3 0 k q) = A1 m c (ix3 0 k ⟨t.val % 10 * 512 + q, by omega⟩) := fun k => by
    unfold iblk
    rw [View.read_apply]
    refine congrArg (A1 m c) (funext fun x => Fin.ext ?_)
    fin_cases x <;> blk_simp [idx t] <;> rfl
  have h2 : ∀ k : Fin 128, iblk m c 2 t (ix2 p k) = A2 m c (ix2 a k) := fun k => by
    unfold iblk
    rw [View.read_apply]
    refine congrArg (A2 m c) (funext fun x => Fin.ext ?_)
    fin_cases x <;> blk_simp [idx t]
    · exact ha.symm
    · rfl
  unfold proj
  simp only [← h0, ← h1, ← h2]
  generalize iblk m c 0 t = v0
  generalize iblk m c 1 t = v1
  generalize iblk m c 2 t = v4
  pointwise [k0_pay1]

/-- The scale of a point. -/
theorem scale_at (t : Fin cfg0.N) : k0_pay5 (F := Ideal) (BitVec.ofNat 32 (grid0.coords t 1))
    = if t.val % 10 < 8 then Ideal.ofBits .f32 0x3E000000#32 else 1 := by
  have h : ∀ t : Fin grid0.N, Scalar.cmpi .slt (BitVec.ofNat 32 (grid0.coords t 1)) 8#32 = if t.val % 10 < 8 then 1#1 else 0#1 := by
    decide +kernel
  unfold k0_pay5
  rw [h t]
  split
  · rfl
  · exact Ideal.ofBits_one_f32

/-- What one store of 128 columns holds: the columns from `o` on times the first table plus their partners times the second, scaled. -/
def piece (o : ℕ) (ho : o + 128 ≤ 512) (v : FVec Ideal S1024x512 .bf16) (C AB : FVec Ideal S1024x128 .f32) (W : FVec Ideal S128x128 .bf16)
    (s : EReal) (p : Fin 1024) (q : Fin 128) : EReal :=
  (v (ix2 p ⟨o + q, by omega⟩) * C (ix2 p q) + (∑ k : Fin 128, v (ix2 p ⟨o + k, by omega⟩) * W (ix2 k q)) * AB (ix2 p q)) * s

/-- The store at column 0, at an index. -/
theorem pay6_at (b v C AB W) (p : Fin 1024) (q : Fin 128) :
    k0_pay6 (F := Ideal) b v C AB W (ix2 p q) = piece 0 (by omega) v C AB W (k0_pay5 (F := Ideal) b) p q := by
  unfold k0_pay6 k0_pay3 k0_pay4
  generalize k0_pay5 (F := Ideal) b = s
  pointwise
  simp only [piece, Nat.zero_add]

/-- The store at column 128, at an index. -/
theorem pay7_at (b v C AB W) (p : Fin 1024) (q : Fin 128) :
    k0_pay7 (F := Ideal) b v C AB W (ix2 p q) = piece 128 (by omega) v C AB W (k0_pay5 (F := Ideal) b) p q := by
  unfold k0_pay7 k0_pay3 k0_pay4
  generalize k0_pay5 (F := Ideal) b = s
  pointwise
  rfl

/-- The store at column 256, at an index. -/
theorem pay8_at (b v C AB W) (p : Fin 1024) (q : Fin 128) :
    k0_pay8 (F := Ideal) b v C AB W (ix2 p q) = piece 256 (by omega) v C AB W (k0_pay5 (F := Ideal) b) p q := by
  unfold k0_pay8 k0_pay3 k0_pay4
  generalize k0_pay5 (F := Ideal) b = s
  pointwise
  rfl

/-- The store at column 384, at an index. -/
theorem pay2_at (b v C AB W) (p : Fin 1024) (q : Fin 128) :
    k0_pay2 (F := Ideal) (k0_pay3 C) (k0_pay4 AB) W (k0_pay5 (F := Ideal) b) (k0_pay9 v) (constant S1024x128 .f32 0x00000000#32) (ix2 p q)
      = piece 384 (by omega) v C AB W (k0_pay5 (F := Ideal) b) p q := by
  unfold k0_pay2 k0_pay3 k0_pay4 k0_pay9
  generalize k0_pay5 (F := Ideal) b = s
  pointwise
  rfl

/-- One store of a point of the queries or keys is the reference's columns. -/
theorem piece_at (c : Dev nD) (t : Fin cfg0.N) (ht : t.val % 10 ≤ 8) (j : ℕ) (hj : 64 * j + 128 ≤ 512) (p : Fin 1024) (q : Fin 128)
    (a : Fin 8192) (ha : (a : ℕ) = t.val / 10 * 1024 + p) :
    piece (64 * j) hj (k0_pay1 (F := Ideal) (iblk m c 0 t) (iblk m c 1 t) (iblk m c 2 t)) (iblk m c 3 t) (iblk m c 4 t) (iblk m c 5 t)
        (k0_pay5 (F := Ideal) (BitVec.ofNat 32 (grid0.coords t 1))) p q
      = out (A0 m c) (A1 m c) (A2 m c) a (t.val % 10 * 512 + (64 * j + q)) := by
  have hpos : t.val / 10 % 4 * 1024 + p = (a : ℕ) % 4096 := by omega
  have hj' : 64 * j + q < 512 := by omega
  have hx := fun (n : ℕ) (hn : n < 512) => proj_blk m c t p ⟨n, hn⟩ a ha
  unfold piece out
  rw [cos_blk, sin_blk, scale_at, hx]
  simp only [hx, swap_blk, hpos]
  generalize nat (proj (A0 m c) (A1 m c) (A2 m c) a) = y
  have key := spun 64 8 (co (a % 4096)) (si (a % 4096)) (fun k => y (64 * (t.val % 10 * 8 + j) + k)) q q.isLt (by omega)
  rw [turned_shift 64 8 _ _ y _ _ (by omega)] at key
  have e : ∀ k, 64 * (t.val % 10 * 8 + j) + k = t.val % 10 * 512 + (64 * j + k) := by omega
  simp only [e] at key
  refine (congrArg (· * _) key).trans ?_
  by_cases h : t.val % 10 < 8
  · rw [if_pos h, if_pos (show t.val % 10 * 512 + (64 * j + q) < 4096 by omega)]
  · rw [if_neg h, if_neg (show ¬t.val % 10 * 512 + (64 * j + q) < 4096 by omega),
      if_pos (show t.val % 10 * 512 + (64 * j + q) < 4608 by omega), mul_one]

/-- What a point leaves in the output's block is the reference's columns. -/
theorem outs_at (c : Dev nD) (t : Fin cfg0.N) (p : Fin 1024) (b : Fin 512) (a : Fin 8192) (ha : (a : ℕ) = t.val / 10 * 1024 + p) :
    outsAt0 m c t.val t.isLt (ix2 p b) = out (A0 m c) (A1 m c) (A2 m c) a (t.val % 10 * 512 + b) := by
  by_cases h0 : t.val % 10 ≤ 8
  · have key : ∀ (j : ℕ) (hj : 64 * j + 128 ≤ 512) (q : Fin 128), (b : ℕ) = 64 * j + q →
        piece (64 * j) hj (k0_pay1 (F := Ideal) (iblk m c 0 t) (iblk m c 1 t) (iblk m c 2 t)) (iblk m c 3 t) (iblk m c 4 t) (iblk m c 5 t)
            (k0_pay5 (F := Ideal) (BitVec.ofNat 32 (grid0.coords t 1))) p q
          = out (A0 m c) (A1 m c) (A2 m c) a (t.val % 10 * 512 + b) := by
      intro j hj q h2
      rw [h2]
      exact piece_at m c t h0 j hj p q a ha
    have hx : ∀ x : S1024x128.Idx, (p : ℕ) = x 0 → ∃ q : Fin 128, x = ix2 p q := fun x h =>
      ⟨x 1, (eq_ix2 x).trans ((ix2_inj ..).2 ⟨Fin.ext h.symm, rfl⟩)⟩
    rw [outsAt0_A m c t h0 (by omega)]
    frame_out
    canon_tiles x h
    case piece0 => obtain ⟨q, rfl⟩ := hx x h0; exact (pay2_at ..).trans (key 6 (by omega) q h1)
    case piece1 => obtain ⟨q, rfl⟩ := hx x h0; exact (pay8_at ..).trans (key 4 (by omega) q h1)
    case piece2 => obtain ⟨q, rfl⟩ := hx x h0; exact (pay7_at ..).trans (key 2 (by omega) q h1)
    case piece3 => obtain ⟨q, rfl⟩ := hx x h0; exact (pay6_at ..).trans (key 0 (by omega) q (h1.trans (Nat.zero_add _).symm))
  · rw [outsAt0_B m c t h0 (by omega)]
    frame_out
    rw [proj_blk m c t p b a ha]
    unfold out
    rw [if_neg (by omega), if_neg (by omega)]

/-- The kernel's output is the reference's. -/
theorem final (c : Dev nD) : (dats m 0 c).arrAt 6 (cfgs 0).N = Cert.SwaInRefIdeal.Read.val_main_v85 (F := Ideal)
    (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  blk_simp
  rw [after0_6]
  have hy0 : (y 0 : ℕ) < 1024 := (y 0).isLt
  have hy1 : (y 1 : ℕ) < 512 := (y 1).isLt
  have ht : t.val < 80 := t.isLt
  refine (congrArg (outsAt0 m c t.val t.isLt) (eq_ix2 y)).trans ((outs_at m c t (y 0) (y 1) ⟨t.val / 10 * 1024 + (y 0 : ℕ), by omega⟩ rfl).trans
    ((Cert.SwaInRefIdeal.Point.out_at _ _ _ ⟨t.val / 10 * 1024 + (y 0 : ℕ), by omega⟩ ⟨t.val % 10 * 512 + (y 1 : ℕ), by omega⟩).symm.trans
      (congrArg _ (funext fun x => Fin.ext ?_))))
  fin_cases x <;> blk_simp [idx t] <;> rfl
end Cert.SwaInIdeal.Point
-- ==== Proof.DsaMath.lean ====
module
public import proofs.«01_k».proof.Proof.RopeMath
@[expose] public section
noncomputable section
namespace Cert.DsaMath
open Idealize.ShloMosaic Cert.RopeMath

/-- The cosines of position `s`. -/
def co (s l : ℕ) : EReal := Ideal.cos (angle (Ideal.ofBits .f32 0x3D800000#32) s l)

/-- The sines of position `s`. -/
def si (s l : ℕ) : EReal := Ideal.sin (angle (Ideal.ofBits .f32 0x3D800000#32) s l)

/-- What the output holds of a projected row `y` at position `s`: the queries turned and scaled, the indexer's queries turned, the keys turned,
    the values. -/
def out (s : ℕ) (y : ℕ → EReal) (n : ℕ) : EReal :=
  if n < 4096 then turned 128 16 (co s) (si s) y n * Ideal.ofBits .f32 0x3E0293EE#32
  else if n < 6144 then turned 128 16 (co s) (si s) y (6144 + (n - 4096))
  else if n < 7168 then turned 128 16 (co s) (si s) y (4096 + (n - 6144))
  else y (5120 + (n - 7168))

/-- The block of 1024 weight columns that makes block `j` of the output. -/
def block (j : ℕ) : ℕ := if j < 4 then j else if j < 6 then j + 2 else j - 2

/-- A block of the queries, the indexer's queries or the keys. -/
theorem out_turned (s : ℕ) (y : ℕ → EReal) (j b : ℕ) (hj : j ≤ 6) (hb : b < 1024) :
    turned 128 16 (co s) (si s) y (block j * 1024 + b) * (if j < 4 then Ideal.ofBits .f32 0x3E0293EE#32 else 1) = out s y (j * 1024 + b) := by
  unfold out
  by_cases h : j < 4
  · rw [if_pos h, if_pos (by omega), block, if_pos h]
  · rw [if_neg h, if_neg (by omega), mul_one, block, if_neg h]
    by_cases h2 : j < 6
    · rw [if_pos h2, if_pos (by omega), show 6144 + (j * 1024 + b - 4096) = (j + 2) * 1024 + b by omega]
    · rw [if_neg h2, if_neg (by omega), if_pos (by omega), show 4096 + (j * 1024 + b - 6144) = (j - 2) * 1024 + b by omega]

/-- The block of the values. -/
theorem out_plain (s : ℕ) (y : ℕ → EReal) (j b : ℕ) (hj : j = 7) : y (block j * 1024 + b) = out s y (j * 1024 + b) := by
  subst hj
  unfold out
  rw [if_neg (by omega), if_neg (by omega), if_neg (by omega)]
  exact congrArg y (by show (7 - 2) * 1024 + b = _; omega)
end Cert.DsaMath
-- ==== Proof.DsaRows.lean ====
module
public import proofs.«01_k».proof.Proof.Gen.DsaInRefIdeal.Read
public import proofs.«01_k».proof.Proof.DsaMath
@[expose] public section
set_option maxRecDepth 16384
noncomputable section
namespace Cert.DsaRows
open Idealize.ShloMosaic Idealize.ShloMosaic.TcCoe Idealize.SL.Sem Idealize.ShloMosaic.StableHlo
open Cert.DsaInRefIdeal Cert.DsaInRefIdeal.Gen Cert.DsaInRefIdeal.Read Cert.RopeMath Cert.DsaMath

/-- The reference's cosines. -/
theorem cos_at (s : Fin 4096) (l : Fin 16) : val_main_v21 (F := Ideal) (ix2 s l) = co s l := by
  pointwise [val_main_v21, val_main_v20, val_main_v19, val_main_v18, val_main_v17, val_main_v16, val_main_v15, val_main_v14, val_main_v13, val_main_v12, val_main_v11, val_main_v10, val_main_v9, val_main_cst, val_main_cst_0]
  rfl

/-- The reference's sines. -/
theorem sin_at (s : Fin 4096) (l : Fin 16) : val_main_v23 (F := Ideal) (ix2 s l) = si s l := by
  pointwise [val_main_v23, val_main_v20, val_main_v19, val_main_v18, val_main_v17, val_main_v16, val_main_v15, val_main_v14, val_main_v13, val_main_v12, val_main_v11, val_main_v10, val_main_v9, val_main_cst, val_main_cst_0]
  rfl

/-- The queries among the projected columns `y`, in heads. -/
def qHeads (y : FVec Ideal S8192x8192 .bf16) : FVec Ideal S2x4096x32x128 .f32 :=
  extf .f32 (shapeCast S2x4096x32x128 (extractStridedSlice S8192x4096 ![0, 0] y slices_S8192x8192_S8192x4096_0_0)
    shapeCasts_S8192x4096_S2x4096x32x128) bitsLt_bf16_f32

/-- The queries, turned: the first 16 and the next 16 columns of a head are the coordinates of 16 planes. -/
def qTurned (y : FVec Ideal S8192x8192 .bf16) : FVec Ideal S2x4096x32x128 .f32 :=
  have c : FVec Ideal S2x4096x32x16 .f32 := broadcastInDim S2x4096x32x16 ![0, 1, 2, 3] bcast_S1x4096x1x16_S2x4096x32x16_0_1_2_3
    (broadcastInDim S1x4096x1x16 ![1, 3] bcast_S4096x16_S1x4096x1x16_1_3 (val_main_v21 (F := Ideal)))
  have r : FVec Ideal S2x4096x32x16 .f32 := broadcastInDim S2x4096x32x16 ![0, 1, 2, 3] bcast_S1x4096x1x16_S2x4096x32x16_0_1_2_3
    (broadcastInDim S1x4096x1x16 ![1, 3] bcast_S4096x16_S1x4096x1x16_1_3 (val_main_v23 (F := Ideal)))
  have x1 : FVec Ideal S2x4096x32x16 .f32 := extractStridedSlice S2x4096x32x16 ![0, 0, 0, 0] (qHeads y) slices_S2x4096x32x128_S2x4096x32x16_0_0_0_0
  have x2 : FVec Ideal S2x4096x32x16 .f32 := extractStridedSlice S2x4096x32x16 ![0, 0, 0, 16] (qHeads y) slices_S2x4096x32x128_S2x4096x32x16_0_0_0_16
  have x3 : FVec Ideal S2x4096x32x96 .f32 := extractStridedSlice S2x4096x32x96 ![0, 0, 0, 32] (qHeads y) slices_S2x4096x32x128_S2x4096x32x96_0_0_0_32
  concatenate S2x4096x32x128 3 [⟨S2x4096x32x16, subf (mulf x1 c) (mulf x2 r)⟩, ⟨S2x4096x32x16, addf (mulf x2 c) (mulf x1 r)⟩, ⟨S2x4096x32x96, x3⟩]
    concatenates_S2x4096x32x16_S2x4096x32x16_S2x4096x32x96_S2x4096x32x128_d3

/-- The keys among the projected columns `y`, in heads. -/
def kHeads (y : FVec Ideal S8192x8192 .bf16) : FVec Ideal S2x4096x8x128 .f32 :=
  extf .f32 (shapeCast S2x4096x8x128 (extractStridedSlice S8192x1024 ![0, 4096] y slices_S8192x8192_S8192x1024_0_4096)
    shapeCasts_S8192x1024_S2x4096x8x128) bitsLt_bf16_f32

/-- The keys, turned: the first 16 and the next 16 columns of a head are the coordinates of 16 planes. -/
def kTurned (y : FVec Ideal S8192x8192 .bf16) : FVec Ideal S2x4096x8x128 .f32 :=
  have c : FVec Ideal S2x4096x8x16 .f32 := broadcastInDim S2x4096x8x16 ![0, 1, 2, 3] bcast_S1x4096x1x16_S2x4096x8x16_0_1_2_3
    (broadcastInDim S1x4096x1x16 ![1, 3] bcast_S4096x16_S1x4096x1x16_1_3 (val_main_v21 (F := Ideal)))
  have r : FVec Ideal S2x4096x8x16 .f32 := broadcastInDim S2x4096x8x16 ![0, 1, 2, 3] bcast_S1x4096x1x16_S2x4096x8x16_0_1_2_3
    (broadcastInDim S1x4096x1x16 ![1, 3] bcast_S4096x16_S1x4096x1x16_1_3 (val_main_v23 (F := Ideal)))
  have x1 : FVec Ideal S2x4096x8x16 .f32 := extractStridedSlice S2x4096x8x16 ![0, 0, 0, 0] (kHeads y) slices_S2x4096x8x128_S2x4096x8x16_0_0_0_0
  have x2 : FVec Ideal S2x4096x8x16 .f32 := extractStridedSlice S2x4096x8x16 ![0, 0, 0, 16] (kHeads y) slices_S2x4096x8x128_S2x4096x8x16_0_0_0_16
  have x3 : FVec Ideal S2x4096x8x96 .f32 := extractStridedSlice S2x4096x8x96 ![0, 0, 0, 32] (kHeads y) slices_S2x4096x8x128_S2x4096x8x96_0_0_0_32
  concatenate S2x4096x8x128 3 [⟨S2x4096x8x16, subf (mulf x1 c) (mulf x2 r)⟩, ⟨S2x4096x8x16, addf (mulf x2 c) (mulf x1 r)⟩, ⟨S2x4096x8x96, x3⟩]
    concatenates_S2x4096x8x16_S2x4096x8x16_S2x4096x8x96_S2x4096x8x128_d3

/-- The queries of the indexer among the projected columns `y`, in heads. -/
def iHeads (y : FVec Ideal S8192x8192 .bf16) : FVec Ideal S2x4096x16x128 .f32 :=
  extf .f32 (shapeCast S2x4096x16x128 (extractStridedSlice S8192x2048 ![0, 6144] y slices_S8192x8192_S8192x2048_0_6144)
    shapeCasts_S8192x2048_S2x4096x16x128) bitsLt_bf16_f32

/-- The queries of the indexer, turned: the first 16 and the next 16 columns of a head are the coordinates of 16 planes. -/
def iTurned (y : FVec Ideal S8192x8192 .bf16) : FVec Ideal S2x4096x16x128 .f32 :=
  have c : FVec Ideal S2x4096x16x16 .f32 := broadcastInDim S2x4096x16x16 ![0, 1, 2, 3] bcast_S1x4096x1x16_S2x4096x16x16_0_1_2_3
    (broadcastInDim S1x4096x1x16 ![1, 3] bcast_S4096x16_S1x4096x1x16_1_3 (val_main_v21 (F := Ideal)))
  have r : FVec Ideal S2x4096x16x16 .f32 := broadcastInDim S2x4096x16x16 ![0, 1, 2, 3] bcast_S1x4096x1x16_S2x4096x16x16_0_1_2_3
    (broadcastInDim S1x4096x1x16 ![1, 3] bcast_S4096x16_S1x4096x1x16_1_3 (val_main_v23 (F := Ideal)))
  have x1 : FVec Ideal S2x4096x16x16 .f32 := extractStridedSlice S2x4096x16x16 ![0, 0, 0, 0] (iHeads y) slices_S2x4096x16x128_S2x4096x16x16_0_0_0_0
  have x2 : FVec Ideal S2x4096x16x16 .f32 := extractStridedSlice S2x4096x16x16 ![0, 0, 0, 16] (iHeads y) slices_S2x4096x16x128_S2x4096x16x16_0_0_0_16
  have x3 : FVec Ideal S2x4096x16x96 .f32 := extractStridedSlice S2x4096x16x96 ![0, 0, 0, 32] (iHeads y) slices_S2x4096x16x128_S2x4096x16x96_0_0_0_32
  concatenate S2x4096x16x128 3 [⟨S2x4096x16x16, subf (mulf x1 c) (mulf x2 r)⟩, ⟨S2x4096x16x16, addf (mulf x2 c) (mulf x1 r)⟩, ⟨S2x4096x16x96, x3⟩]
    concatenates_S2x4096x16x16_S2x4096x16x16_S2x4096x16x96_S2x4096x16x128_d3

/-- The turned and scaled queries, the turned queries of the indexer, the turned keys and the values side by side. -/
def laid (y : FVec Ideal S8192x8192 .bf16) : FVec Ideal S8192x8192 .bf16 :=
  have q : FVec Ideal S8192x4096 .bf16 := truncf .bf16 (shapeCast S8192x4096 (mulf (qTurned y)
    (broadcastInDim S2x4096x32x128 ![] bcast_S_S2x4096x32x128 (constant S_ .f32 0x3E0293EE#32))) shapeCasts_S2x4096x32x128_S8192x4096) bitsLt_bf16_f32
  have i : FVec Ideal S8192x2048 .bf16 := truncf .bf16 (shapeCast S8192x2048 (iTurned y) shapeCasts_S2x4096x16x128_S8192x2048) bitsLt_bf16_f32
  have k : FVec Ideal S8192x1024 .bf16 := truncf .bf16 (shapeCast S8192x1024 (kTurned y) shapeCasts_S2x4096x8x128_S8192x1024) bitsLt_bf16_f32
  have v : FVec Ideal S8192x1024 .bf16 := extractStridedSlice S8192x1024 ![0, 5120] y slices_S8192x8192_S8192x1024_0_5120
  concatenate S8192x8192 1 [⟨S8192x4096, q⟩, ⟨S8192x2048, i⟩, ⟨S8192x1024, k⟩, ⟨S8192x1024, v⟩]
    concatenates_S8192x4096_S8192x2048_S8192x1024_S8192x1024_S8192x8192_d1

variable (y : FVec Ideal S8192x8192 .bf16) (g : Fin 8192 → ℕ → EReal) (hy : ∀ a n h, y (ix2 a ⟨n, h⟩) = g a n)
include hy

/-- The turned queries at an index. -/
theorem q_at (b : Fin 2) (s : Fin 4096) (h : Fin 32) (d : Fin 128) (a : Fin 8192) (ha : (a : ℕ) = b * 4096 + s) :
    qTurned y (ix4 b s h d) = turned 128 16 (co s) (si s) (g a) (h * 128 + d) := by
  have hb : (b : ℕ) * 4096 + s < 8192 := by omega
  obtain rfl : a = ⟨_, hb⟩ := Fin.ext ha
  have hc := cos_at
  have hs := sin_at
  unfold qTurned qHeads
  generalize val_main_v21 (F := Ideal) = c at hc ⊢
  generalize val_main_v23 (F := Ideal) = r at hs ⊢
  pointwise
  refine turned_of 128 16 32 _ _ _ h d _ rfl d.isLt (fun e => ?_) (fun e e2 => ?_) (fun e e2 => ?_)
  · rw [dif_pos e]
    simp only [hy, hc, hs]
  · rw [dif_neg e, dif_pos e2]
    simp only [hy, hc, hs]
  · rw [dif_neg e, dif_neg e2]
    simp only [hy]

/-- The turned keys at an index. -/
theorem k_at (b : Fin 2) (s : Fin 4096) (h : Fin 8) (d : Fin 128) (a : Fin 8192) (ha : (a : ℕ) = b * 4096 + s) :
    kTurned y (ix4 b s h d) = turned 128 16 (co s) (si s) (fun n => g a (128 * 32 + n)) (h * 128 + d) := by
  have hb : (b : ℕ) * 4096 + s < 8192 := by omega
  obtain rfl : a = ⟨_, hb⟩ := Fin.ext ha
  have hc := cos_at
  have hs := sin_at
  unfold kTurned kHeads
  generalize val_main_v21 (F := Ideal) = c at hc ⊢
  generalize val_main_v23 (F := Ideal) = r at hs ⊢
  pointwise
  refine turned_of 128 16 32 _ _ _ h d _ rfl d.isLt (fun e => ?_) (fun e e2 => ?_) (fun e e2 => ?_)
  · rw [dif_pos e]
    simp only [hy, hc, hs]
  · rw [dif_neg e, dif_pos e2]
    simp only [hy, hc, hs]
  · rw [dif_neg e, dif_neg e2]
    simp only [hy]

/-- The turned queries of the indexer at an index. -/
theorem i_at (b : Fin 2) (s : Fin 4096) (h : Fin 16) (d : Fin 128) (a : Fin 8192) (ha : (a : ℕ) = b * 4096 + s) :
    iTurned y (ix4 b s h d) = turned 128 16 (co s) (si s) (fun n => g a (128 * 48 + n)) (h * 128 + d) := by
  have hb : (b : ℕ) * 4096 + s < 8192 := by omega
  obtain rfl : a = ⟨_, hb⟩ := Fin.ext ha
  have hc := cos_at
  have hs := sin_at
  unfold iTurned iHeads
  generalize val_main_v21 (F := Ideal) = c at hc ⊢
  generalize val_main_v23 (F := Ideal) = r at hs ⊢
  pointwise
  refine turned_of 128 16 32 _ _ _ h d _ rfl d.isLt (fun e => ?_) (fun e e2 => ?_) (fun e e2 => ?_)
  · rw [dif_pos e]
    simp only [hy, hc, hs]
  · rw [dif_neg e, dif_pos e2]
    simp only [hy, hc, hs]
  · rw [dif_neg e, dif_neg e2]
    simp only [hy]

/-- The columns side by side, at an index. -/
theorem laid_at (a n : Fin 8192) : laid y (ix2 a n) = out (a % 4096) (g a) n := by
  have ha : (a : ℕ) = a / 4096 * 4096 + a % 4096 := by omega
  have hq := fun h d => q_at y g hy ⟨(a : ℕ) / 4096, by omega⟩ ⟨(a : ℕ) % 4096, by omega⟩ h d a ha
  have hk := fun h d => k_at y g hy ⟨(a : ℕ) / 4096, by omega⟩ ⟨(a : ℕ) % 4096, by omega⟩ h d a ha
  have hi := fun h d => i_at y g hy ⟨(a : ℕ) / 4096, by omega⟩ ⟨(a : ℕ) % 4096, by omega⟩ h d a ha
  unfold laid
  generalize qTurned y = q at hq ⊢
  generalize kTurned y = k at hk ⊢
  generalize iTurned y = i at hi ⊢
  pointwise
  unfold out
  split
  · next e =>
    rw [hq]
    show turned _ _ _ _ _ ((n : ℕ) / 128 * 128 + n % 128) * _ = _
    rw [show (n : ℕ) / 128 * 128 + n % 128 = n by omega]
  · next e =>
    split
    · next e2 =>
      rw [hi, if_pos (show (n : ℕ) < 6144 by omega), turned_shift 128 16 _ _ _ 48 _ (by omega)]
      exact congrArg _ (by show 128 * 48 + (((n : ℕ) - 4096) / 128 * 128 + ((n : ℕ) - 4096) % 128) = 6144 + (n - 4096); omega)
    · next e2 =>
      rw [if_neg (show ¬(n : ℕ) < 6144 by omega)]
      split
      · next e3 =>
        rw [hk, if_pos (show (n : ℕ) < 7168 by omega), turned_shift 128 16 _ _ _ 32 _ (by omega)]
        refine congrArg _ ?_
        show 128 * 32 + (((n : ℕ) - 4096 - 2048) / 128 * 128 + ((n : ℕ) - 4096 - 2048) % 128) = 4096 + (n - 6144)
        omega
      · next e3 =>
        rw [if_neg (show ¬(n : ℕ) < 7168 by omega), hy]
        exact congrArg _ (by omega)
end Cert.DsaRows
-- ==== Proof.DsaInRef.lean ====
module
public import proofs.«01_k».proof.Proof.Gen.DsaInRefIdeal.Read
public import proofs.«01_k».proof.Proof.DsaRows
@[expose] public section
set_option maxRecDepth 16384
noncomputable section
namespace Cert.DsaInRefIdeal.Point
open Idealize.ShloMosaic Idealize.ShloMosaic.TcCoe Idealize.SL.Sem
open Cert.DsaInRefIdeal Cert.DsaInRefIdeal.Read Cert.RopeMath Cert.DsaMath
variable (x0 : FVec Ideal S8192x4096 .bf16) (x1 : FVec Ideal S2x8336x4096 .bf16)

/-- One projected element: the dot product of a row and a weight row. -/
def proj (a : Fin 8192) (n : Fin 8192) : EReal := ∑ k : Fin 4096, x0 (ix2 a k) * x1 (ix3 0 ⟨(n : ℕ), by omega⟩ k)

/-- The reference's projected columns at an index. -/
theorem proj_at (a n : Fin 8192) : val_main_v3 (F := Ideal) x0 x1 (ix2 a n) = proj x0 x1 a n := by
  pointwise [val_main_v3, val_main_v2, val_main_v1, val_main_v0]
  rfl

/-- The same, with the column a number. -/
theorem proj_nat (a : Fin 8192) (n : ℕ) (h : n < 8192) : val_main_v3 (F := Ideal) x0 x1 (ix2 a ⟨n, h⟩) = nat (proj x0 x1 a) n := by
  rw [proj_at, nat_of (proj x0 x1 a)]

/-- The reference's result is its projected columns, turned and laid side by side. -/
theorem laid_eq : val_main_v112 (F := Ideal) x0 x1 = Cert.DsaRows.laid (val_main_v3 (F := Ideal) x0 x1) := rfl

/-- The reference at an index. -/
theorem out_at (a n : Fin 8192) : val_main_v112 (F := Ideal) x0 x1 (ix2 a n) = out (a % 4096) (nat (proj x0 x1 a)) n := by
  rw [laid_eq]
  exact Cert.DsaRows.laid_at _ (fun a => nat (proj x0 x1 a)) (proj_nat x0 x1) a n
end Cert.DsaInRefIdeal.Point
-- ==== Proof.DsaInLit.lean ====
module
public import proofs.«01_k».proof.DsaInIdeal
@[expose] public section
set_option maxRecDepth 16384
noncomputable section
namespace Cert.DsaInIdeal.Point
open Cert.DsaInIdeal

/-- The constant's entries: the bits of one where column `q` of a head is exchanged with row `k`, zero elsewhere. -/
theorem lit_at : ∀ k q : Fin 128, lit0 ⟨(k : ℕ) * 128 + q, by omega⟩
    = if (q : ℕ) % 128 < 16 ∧ (k : ℕ) = q + 16 ∨ 16 ≤ (q : ℕ) % 128 ∧ (q : ℕ) % 128 < 2 * 16 ∧ (k : ℕ) + 16 = q
      then 0x3F80#16 else 0#16 := by
  decide +kernel

end Cert.DsaInIdeal.Point
-- ==== Proof.DsaInTab.lean ====
module
public import proofs.«01_k».proof.Proof.Gen.DsaInIdeal.Value
public import proofs.«01_k».proof.Proof.DsaInRef
public import proofs.«01_k».proof.Proof.DsaInLit
public import Idealize.ShloMosaic.Lib.StableHlo.RunRead
public import Idealize.ShloMosaic.Lib.IdealHost
@[expose] public section
set_option maxRecDepth 16384
noncomputable section
namespace Cert.DsaInIdeal.Point
open Idealize.ShloMosaic Idealize.ShloMosaic.TcCoe Idealize.SL.Sem
open Cert.DsaInIdeal Cert.DsaInIdeal.Gen Cert.RopeMath
open Cert.DsaMath
variable (m : (ℓ : Loc nD τ sig) → Buf (Elt Ideal) ℓ)

/-- The blocks the windows stage at a point, in closed form. -/
theorem idx : ∀ t : Fin cfg0.N, win0_0.index t = ![t.val / 8, 0] ∧ win0_1.index t = ![0, block (t.val % 8), 0]
    ∧ win0_2.index t = ![t.val / 8 % 4, 0] ∧ win0_3.index t = ![t.val / 8 % 4, 0]
    ∧ win0_4.index t = ![0, 0] ∧ win0_5.index t = ![t.val / 8, t.val % 8] :=
  (by decide +kernel : ∀ t : Fin grid0.N, _)

/-- Three arrays side by side, one head. -/
def heads (A B : FVec Ideal S4096x16 .f32) (C : FVec Ideal S4096x96 .f32) : FVec Ideal S4096x128 .f32 :=
  shapeCast S4096x128 (broadcastInDim S1x4096x1x128 ![0, 1, 2, 3] bcast_S1x4096x1x128_S1x4096x1x128_0_1_2_3
    (shapeCast S1x4096x1x128 (concatenate S4096x128 1 [⟨S4096x16, A⟩, ⟨S4096x16, B⟩, ⟨S4096x96, C⟩]
      concatenates_S4096x16_S4096x16_S4096x96_S4096x128_d1) shapeCasts_S4096x128_S1x4096x1x128)) shapeCasts_S1x4096x1x128_S4096x128

/-- The three arrays side by side, at an index. -/
theorem heads_at (A B : FVec Ideal S4096x16 .f32) (C : FVec Ideal S4096x96 .f32) (f g : ℕ → EReal) (z : EReal) (s : Fin 4096) (q : Fin 128)
    (hA : ∀ l, A (ix2 s l) = f l) (hB : ∀ l, B (ix2 s l) = g l) (hC : ∀ l, C (ix2 s l) = z) :
    heads A B C (ix2 s q) = if (q : ℕ) % 128 < 16 then f (q % 128) else if (q : ℕ) % 128 < 2 * 16 then g (q % 128 - 16) else z := by
  rw [Nat.mod_eq_of_lt q.isLt]
  unfold heads
  pointwise
  split
  · exact hA _
  · next e =>
    split
    · next e2 => rw [if_pos (show (q : ℕ) < 2 * 16 by omega)]; exact hB _
    · next e2 => rw [if_neg (show ¬(q : ℕ) < 2 * 16 by omega)]; exact hC _

/-- The table of cosines: cosines twice, then ones. -/
theorem cos_term (c : Dev nD) : (V m c main_v23 : FVec Ideal S4096x128 .f32) = heads (V m c main_v12) (V m c main_v12) (V m c main_v14) := by
  unfold_abbrev_sides
  after_reads_simp
  dsimp only [Matrix.cons_val]
  rfl

/-- The table of sines: minus the sines and zeros, plus zeros and the sines. -/
theorem sin_term (c : Dev nD) : (V m c main_v30 : FVec Ideal S4096x128 .f32)
    = addf (heads (V m c main_v18) (V m c main_v15) (V m c main_v16)) (heads (V m c main_v15) (V m c main_v13) (V m c main_v16)) := by
  unfold_abbrev_sides
  after_reads_simp
  dsimp only [Matrix.cons_val]
  rfl

/-- The cosines computed before the launch. -/
theorem cos_half (c : Dev nD) (s : Fin 4096) (l : Fin 16) : (V m c main_v12 : FVec Ideal S4096x16 .f32) (ix2 s l) = co s l := by
  unfold_abbrev_sides
  after_reads_simp
  pointwise
  rfl

/-- The sines computed before the launch. -/
theorem sin_half (c : Dev nD) (s : Fin 4096) (l : Fin 16) : (V m c main_v13 : FVec Ideal S4096x16 .f32) (ix2 s l) = si s l := by
  unfold_abbrev_sides
  after_reads_simp
  pointwise
  rfl

/-- The sines with a minus sign. -/
theorem neg_half (c : Dev nD) (s : Fin 4096) (l : Fin 16) : (V m c main_v18 : FVec Ideal S4096x16 .f32) (ix2 s l) = -si s l := by
  unfold_abbrev_sides
  after_reads_simp
  pointwise
  rfl

/-- The ones. -/
theorem one_rest (c : Dev nD) (s : Fin 4096) (l : Fin 96) : (V m c main_v14 : FVec Ideal S4096x96 .f32) (ix2 s l) = (1 : EReal) := by
  unfold_abbrev_sides
  after_reads_simp
  exact Ideal.ofBits_one_f32

/-- The zeros beside the sines. -/
theorem zero_half (c : Dev nD) (s : Fin 4096) (l : Fin 16) : (V m c main_v15 : FVec Ideal S4096x16 .f32) (ix2 s l) = (0 : EReal) := by
  unfold_abbrev_sides
  after_reads_simp
  exact Ideal.ofBits_zero_f32

/-- The zeros of the unturned columns. -/
theorem zero_rest (c : Dev nD) (s : Fin 4096) (l : Fin 96) : (V m c main_v16 : FVec Ideal S4096x96 .f32) (ix2 s l) = (0 : EReal) := by
  unfold_abbrev_sides
  after_reads_simp
  exact Ideal.ofBits_zero_f32

/-- The table of cosines. -/
theorem cos_at (c : Dev nD) (s : Fin 4096) (q : Fin 128) :
    (V m c main_v23 : FVec Ideal S4096x128 .f32) (ix2 s q) = cosRow 128 16 (co s) q := by
  rw [cos_term]
  exact heads_at _ _ _ _ _ _ s q (cos_half m c s) (cos_half m c s) (one_rest m c s)

/-- The table of sines. -/
theorem sin_at (c : Dev nD) (s : Fin 4096) (q : Fin 128) :
    (V m c main_v30 : FVec Ideal S4096x128 .f32) (ix2 s q) = sinRow 128 16 (si s) q := by
  rw [sin_term]
  refine (congrArg₂ (· + ·) (heads_at _ _ _ (fun l => -si s l) (fun _ => 0) 0 s q (neg_half m c s) (zero_half m c s) (zero_rest m c s))
    (heads_at _ _ _ (fun _ => 0) (si s) 0 s q (zero_half m c s) (sin_half m c s) (zero_rest m c s))).trans ?_
  unfold sinRow
  split
  · rfl
  · split
    · rfl
    · rfl

/-- The matrix that exchanges the halves. -/
theorem swap_at (c : Dev nD) (k q : Fin 128) :
    (V m c main_cst : FVec Ideal S128x128 .bf16) (ix2 k q) = swap 128 16 k q := by
  unfold_abbrev_sides
  after_reads_simp
  show Ideal.ofBits .bf16 (lit0 _) = _
  refine (congrArg (fun x => Ideal.ofBits .bf16 (lit0 x)) (Fin.ext ?_ : _ = ⟨(k : ℕ) * 128 + q, by omega⟩)).trans ?_
  · exact Shape.rowMajor_val_two (ix2 k q : S128x128.Idx)
  · show Ideal.ofBits .bf16 (lit0 _) = _
    rw [lit_at]
    unfold swap
    split
    · exact Ideal.ofBits_one_bf16
    · exact Ideal.ofBits_zero_bf16

/-- The staged block of the cosines. -/
theorem cos_blk (c : Dev nD) (t : Fin cfg0.N) (p : Fin 1024) (q : Fin 128) :
    iblk m c 2 t (ix2 p q) = cosRow 128 16 (co (t.val / 8 % 4 * 1024 + p)) q := by
  refine Eq.trans ?_ (cos_at m c ⟨t.val / 8 % 4 * 1024 + p, by omega⟩ q)
  unfold iblk
  rw [View.read_apply]
  refine congrArg (V m c main_v23) (funext fun a => Fin.ext ?_)
  fin_cases a <;> blk_simp [idx t] <;> rfl

/-- The staged block of the sines. -/
theorem sin_blk (c : Dev nD) (t : Fin cfg0.N) (p : Fin 1024) (q : Fin 128) :
    iblk m c 3 t (ix2 p q) = sinRow 128 16 (si (t.val / 8 % 4 * 1024 + p)) q := by
  refine Eq.trans ?_ (sin_at m c ⟨t.val / 8 % 4 * 1024 + p, by omega⟩ q)
  unfold iblk
  rw [View.read_apply]
  refine congrArg (V m c main_v30) (funext fun a => Fin.ext ?_)
  fin_cases a <;> blk_simp [idx t] <;> rfl

/-- The staged block of the exchanging matrix. -/
theorem swap_blk (c : Dev nD) (t : Fin cfg0.N) (k q : Fin 128) : iblk m c 4 t (ix2 k q) = swap 128 16 k q := by
  refine Eq.trans ?_ (swap_at m c k q)
  unfold iblk
  rw [View.read_apply]
  refine congrArg (V m c main_cst) (funext fun a => Fin.ext ?_)
  fin_cases a <;> blk_simp [idx t] <;> rfl

end Cert.DsaInIdeal.Point
-- ==== Proof.DsaInPoint.lean ====
module
public import proofs.«01_k».proof.Proof.DsaInTab
@[expose] public section
set_option maxRecDepth 16384
noncomputable section
namespace Cert.DsaInIdeal.Point
open Idealize.ShloMosaic Idealize.ShloMosaic.TcCoe Idealize.SL.Sem
open Cert.DsaInIdeal Cert.DsaInIdeal.Gen Cert.RopeMath Cert.DsaMath
open Cert.DsaInRefIdeal.Point (proj)
variable (m : (ℓ : Loc nD τ sig) → Buf (Elt Ideal) ℓ)

/-- The arguments. -/
abbrev A0 (c : Dev nD) : FVec Ideal S8192x4096 .bf16 := m ((c.tc : Thread nD τ).loc main_arg0)
abbrev A1 (c : Dev nD) : FVec Ideal S2x8336x4096 .bf16 := m ((c.tc : Thread nD τ).loc main_arg1)

/-- No block of the weights that a point stages reaches past the array's end. -/
theorem uncut : ∀ t : Fin cfg0.N, ∀ a, (cfg0.win 1).clip (grid0.coords t) a = none :=
  (by decide +kernel : ∀ t : Fin grid0.N, ∀ a, (cfg0.win 1).clip (grid0.coords t) a = none)

/-- The blocks of the weights lie among the columns of the output's. -/
theorem block_lt (j : ℕ) (b : Fin 1024) (h : j < 8) : block j * 1024 + b < 8192 := by
  unfold block
  split
  · omega
  · split <;> omega

/-- The staged block of the weights at an index. -/
theorem weight_at (c : Dev nD) (t : Fin cfg0.N) (b : Fin 1024) (k : Fin 4096) :
    X0_1 m c t (ix3 0 b k) = A1 m c (ix3 0 ⟨block (t.val % 8) * 1024 + b, (block_lt _ b (by omega)).trans (by omega)⟩ k) := by
  have hm : (cfg0.win 1).moved (grid0.coords t) (ix3 0 b k) = true :=
    ((cfg0.win 1).moved_iff _ _).mpr fun a => by
      have := ((ix3 0 b k : S1x1024x4096.Idx) a).isLt
      unfold Pipeline.Window.xsize
      rw [uncut t a]
      exact this
  unfold X0_1 Pipeline.Window.fill
  refine (dif_pos hm).trans ?_
  unfold iblk V
  rw [View.read_apply]
  refine congrArg (A1 m c) (funext fun a => Fin.ext ?_)
  fin_cases a <;> blk_simp [idx t] <;> rfl

/-- The projected block of a point, at an index. -/
theorem proj_blk (c : Dev nD) (t : Fin cfg0.N) (p : Fin 1024) (q : Fin 1024) (a : Fin 8192) (ha : (a : ℕ) = t.val / 8 * 1024 + p) :
    k0_pay1 (F := Ideal) (iblk m c 0 t) (X0_1 m c t) (ix2 p q) = nat (proj (A0 m c) (A1 m c) a) (block (t.val % 8) * 1024 + q) := by
  rw [← nat_of (proj (A0 m c) (A1 m c) a) _ (block_lt _ q (by omega))]
  have h0 : ∀ k : Fin 4096, iblk m c 0 t (ix2 p k) = A0 m c (ix2 a k) := fun k => by
    unfold iblk
    rw [View.read_apply]
    refine congrArg (A0 m c) (funext fun x => Fin.ext ?_)
    fin_cases x <;> blk_simp [idx t]
    · exact ha.symm
    · rfl
  unfold proj
  simp only [← h0, ← weight_at m c t q]
  generalize iblk m c 0 t = v0
  generalize X0_1 m c t = v1
  pointwise [k0_pay1]

/-- The scale of a point. -/
theorem scale_at (t : Fin cfg0.N) : k0_pay5 (F := Ideal) (BitVec.ofNat 32 (grid0.coords t 1))
    = if t.val % 8 < 4 then Ideal.ofBits .f32 0x3E0293EE#32 else 1 := by
  have h : ∀ t : Fin grid0.N, Scalar.cmpi .slt (BitVec.ofNat 32 (grid0.coords t 1)) 4#32 = if t.val % 8 < 4 then 1#1 else 0#1 := by
    decide +kernel
  unfold k0_pay5
  rw [h t]
  split
  · rfl
  · exact Ideal.ofBits_one_f32

/-- What one store of 128 columns holds: the columns from `o` on times the first table plus their partners times the second, scaled. -/
def cols128 (o : ℕ) (ho : o + 128 ≤ 1024) (v : FVec Ideal S1024x1024 .bf16) (C AB : FVec Ideal S1024x128 .f32) (W : FVec Ideal S128x128 .bf16)
    (s : EReal) (p : Fin 1024) (q : Fin 128) : EReal :=
  (v (ix2 p ⟨o + q, by omega⟩) * C (ix2 p q) + (∑ k : Fin 128, v (ix2 p ⟨o + k, by omega⟩) * W (ix2 k q)) * AB (ix2 p q)) * s

/-- The store at column 0, at an index. -/
theorem pay6_at (b v C AB W) (p : Fin 1024) (q : Fin 128) :
    k0_pay6 (F := Ideal) b v C AB W (ix2 p q) = cols128 0 (by omega) v C AB W (k0_pay5 (F := Ideal) b) p q := by
  unfold k0_pay6 k0_pay3 k0_pay4
  generalize k0_pay5 (F := Ideal) b = s
  pointwise
  simp only [cols128, Nat.zero_add]

/-- The store at column 128, at an index. -/
theorem pay7_at (b v C AB W) (p : Fin 1024) (q : Fin 128) :
    k0_pay7 (F := Ideal) b v C AB W (ix2 p q) = cols128 128 (by omega) v C AB W (k0_pay5 (F := Ideal) b) p q := by
  unfold k0_pay7 k0_pay3 k0_pay4
  generalize k0_pay5 (F := Ideal) b = s
  pointwise
  rfl

/-- The store at column 256, at an index. -/
theorem pay8_at (b v C AB W) (p : Fin 1024) (q : Fin 128) :
    k0_pay8 (F := Ideal) b v C AB W (ix2 p q) = cols128 256 (by omega) v C AB W (k0_pay5 (F := Ideal) b) p q := by
  unfold k0_pay8 k0_pay3 k0_pay4
  generalize k0_pay5 (F := Ideal) b = s
  pointwise
  rfl

/-- The store at column 384, at an index. -/
theorem pay10_at (s v C AB W) (p : Fin 1024) (q : Fin 128) :
    k0_pay10 (F := Ideal) (k0_pay3 C) (k0_pay4 AB) W s (k0_pay9 v) (constant S1024x128 .f32 0x00000000#32) (ix2 p q)
      = cols128 384 (by omega) v C AB W s p q := by
  unfold k0_pay10 k0_pay3 k0_pay4 k0_pay9
  pointwise
  rfl

/-- The store at column 512, at an index. -/
theorem pay11_at (s v C AB W) (p : Fin 1024) (q : Fin 128) :
    k0_pay11 (F := Ideal) v (k0_pay3 C) (k0_pay4 AB) W s (ix2 p q) = cols128 512 (by omega) v C AB W s p q := by
  unfold k0_pay11 k0_pay3 k0_pay4
  pointwise
  rfl

/-- The store at column 640, at an index. -/
theorem pay12_at (s v C AB W) (p : Fin 1024) (q : Fin 128) :
    k0_pay12 (F := Ideal) v (k0_pay3 C) (k0_pay4 AB) W s (ix2 p q) = cols128 640 (by omega) v C AB W s p q := by
  unfold k0_pay12 k0_pay3 k0_pay4
  pointwise
  rfl

/-- The store at column 768, at an index. -/
theorem pay13_at (s v C AB W) (p : Fin 1024) (q : Fin 128) :
    k0_pay13 (F := Ideal) v (k0_pay3 C) (k0_pay4 AB) W s (ix2 p q) = cols128 768 (by omega) v C AB W s p q := by
  unfold k0_pay13 k0_pay3 k0_pay4
  pointwise
  rfl

/-- The store at column 896, at an index. -/
theorem pay2_at (s v C AB W) (p : Fin 1024) (q : Fin 128) :
    k0_pay2 (F := Ideal) s (k0_pay15 v (k0_pay3 C)) (k0_pay16 v (k0_pay4 AB) W) (ix2 p q) = cols128 896 (by omega) v C AB W s p q := by
  unfold k0_pay2 k0_pay15 k0_pay16 k0_pay14 k0_pay3 k0_pay4
  pointwise
  rfl

/-- One store of a point of the queries, the indexer's queries or the keys is the reference's columns. -/
theorem piece_at (c : Dev nD) (t : Fin cfg0.N) (ht : t.val % 8 ≤ 6) (j : ℕ) (hj : 128 * j + 128 ≤ 1024) (p : Fin 1024) (q : Fin 128)
    (a : Fin 8192) (ha : (a : ℕ) = t.val / 8 * 1024 + p) :
    cols128 (128 * j) hj (k0_pay1 (F := Ideal) (iblk m c 0 t) (X0_1 m c t)) (iblk m c 2 t) (iblk m c 3 t) (iblk m c 4 t) (k0_pay5 (F := Ideal) (BitVec.ofNat 32 (grid0.coords t 1))) p q
      = out (a % 4096) (nat (proj (A0 m c) (A1 m c) a)) (t.val % 8 * 1024 + (128 * j + q)) := by
  have hpos : t.val / 8 % 4 * 1024 + p = (a : ℕ) % 4096 := by omega
  have hx := fun (n : ℕ) (hn : n < 1024) => proj_blk m c t p ⟨n, hn⟩ a ha
  rw [← out_turned _ _ _ _ ht (by omega)]
  unfold cols128
  rw [cos_blk, sin_blk, scale_at, hx]
  simp only [hx, swap_blk, hpos]
  generalize nat (proj (A0 m c) (A1 m c) a) = y
  have key := spun 128 16 (co (a % 4096)) (si (a % 4096)) (fun k => y (128 * (block (t.val % 8) * 8 + j) + k)) q q.isLt (by omega)
  rw [turned_shift 128 16 _ _ y _ _ (by omega)] at key
  have e : ∀ k, 128 * (block (t.val % 8) * 8 + j) + k = block (t.val % 8) * 1024 + (128 * j + k) := by omega
  simp only [e] at key
  exact congrArg (· * _) key

/-- What a point leaves in the output's block is the reference's columns. -/
theorem outs_at (c : Dev nD) (t : Fin cfg0.N) (p : Fin 1024) (b : Fin 1024) (a : Fin 8192) (ha : (a : ℕ) = t.val / 8 * 1024 + p) :
    outsAt0 m c t.val t.isLt (ix2 p b) = out (a % 4096) (nat (proj (A0 m c) (A1 m c) a)) (t.val % 8 * 1024 + b) := by
  by_cases h0 : t.val % 8 ≤ 6
  · have key : ∀ (j : ℕ) (hj : 128 * j + 128 ≤ 1024) (q : Fin 128), (b : ℕ) = 128 * j + q →
        cols128 (128 * j) hj (k0_pay1 (F := Ideal) (iblk m c 0 t) (X0_1 m c t)) (iblk m c 2 t) (iblk m c 3 t) (iblk m c 4 t) (k0_pay5 (F := Ideal) (BitVec.ofNat 32 (grid0.coords t 1))) p q
          = out (a % 4096) (nat (proj (A0 m c) (A1 m c) a)) (t.val % 8 * 1024 + b) := by
      intro j hj q h2
      rw [h2]
      exact piece_at m c t h0 j hj p q a ha
    have hx : ∀ x : S1024x128.Idx, (p : ℕ) = x 0 → ∃ q : Fin 128, x = ix2 p q := fun x h =>
      ⟨x 1, (eq_ix2 x).trans ((ix2_inj ..).2 ⟨Fin.ext h.symm, rfl⟩)⟩
    rw [outsAt0_A m c t h0 (by omega)]
    frame_out
    canon_tiles x h
    case piece0 => obtain ⟨q, rfl⟩ := hx x h0; exact (pay2_at ..).trans (key 7 (by omega) q h1)
    case piece1 => obtain ⟨q, rfl⟩ := hx x h0; exact (pay13_at ..).trans (key 6 (by omega) q h1)
    case piece2 => obtain ⟨q, rfl⟩ := hx x h0; exact (pay12_at ..).trans (key 5 (by omega) q h1)
    case piece3 => obtain ⟨q, rfl⟩ := hx x h0; exact (pay11_at ..).trans (key 4 (by omega) q h1)
    case piece4 => obtain ⟨q, rfl⟩ := hx x h0; exact (pay10_at ..).trans (key 3 (by omega) q h1)
    case piece5 => obtain ⟨q, rfl⟩ := hx x h0; exact (pay8_at ..).trans (key 2 (by omega) q h1)
    case piece6 => obtain ⟨q, rfl⟩ := hx x h0; exact (pay7_at ..).trans (key 1 (by omega) q h1)
    case piece7 => obtain ⟨q, rfl⟩ := hx x h0; exact (pay6_at ..).trans (key 0 (by omega) q (h1.trans (Nat.zero_add _).symm))
  · rw [outsAt0_B m c t h0 (by omega)]
    frame_out
    rw [proj_blk m c t p b a ha]
    exact out_plain _ _ _ _ (by omega)

/-- The kernel's output is the reference's. -/
theorem final (c : Dev nD) : (dats m 0 c).arrAt 5 (cfgs 0).N = Cert.DsaInRefIdeal.Read.val_main_v112 (F := Ideal)
    (A0 m c) (A1 m c) := by
  refine (dats m 0 c).arrAt_eq_of_covers 5 _ (by decide +kernel) fun t _ y => ?_
  blk_simp
  rw [after0_5]
  have hy0 : (y 0 : ℕ) < 1024 := (y 0).isLt
  have hy1 : (y 1 : ℕ) < 1024 := (y 1).isLt
  have ht : t.val < 64 := t.isLt
  refine (congrArg (outsAt0 m c t.val t.isLt) (eq_ix2 y)).trans ((outs_at m c t (y 0) (y 1) ⟨t.val / 8 * 1024 + (y 0 : ℕ), by omega⟩ rfl).trans
    ((Cert.DsaInRefIdeal.Point.out_at _ _ ⟨t.val / 8 * 1024 + (y 0 : ℕ), by omega⟩ ⟨t.val % 8 * 1024 + (y 1 : ℕ), by omega⟩).symm.trans
      (congrArg _ (funext fun x => Fin.ext ?_))))
  fin_cases x <;> blk_simp [idx t] <;> rfl
end Cert.DsaInIdeal.Point
-- ==== Proof.DsaIn2Ref.lean ====
module
public import proofs.«01_k».proof.Proof.Gen.DsaIn2RefIdeal.Read
public import proofs.«01_k».proof.Proof.DsaRows
@[expose] public section
set_option maxRecDepth 16384
noncomputable section
namespace Cert.DsaIn2RefIdeal.Point
open Idealize.ShloMosaic Idealize.ShloMosaic.TcCoe Idealize.SL.Sem
open Cert.DsaIn2RefIdeal Cert.DsaIn2RefIdeal.Read Cert.RopeMath Cert.DsaMath
variable (x0 : FVec Ideal S8192x4096 .bf16) (x1 : FVec Ideal S2x8336x4096 .bf16) (x2 : FVec Ideal S8192x128 .f32)

/-- One projected element: the dot product of a row and a weight row, times the row's reciprocal root mean square. -/
def proj (a : Fin 8192) (n : Fin 8192) : EReal :=
  (∑ k : Fin 4096, x0 (ix2 a k) * x1 (ix3 1 ⟨(n : ℕ), by omega⟩ k))
    * Ideal.rsqrt ((∑ k : Fin 128, x2 (ix2 a k)) * Ideal.ofBits .f32 0x39800000#32 + Ideal.ofBits .f32 0x358637BD#32)

/-- The reference's projected columns at an index. -/
theorem proj_at (a n : Fin 8192) : val_main_v12 (F := Ideal) x0 x1 x2 (ix2 a n) = proj x0 x1 x2 a n := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The same, with the column a number. -/
theorem proj_nat (a : Fin 8192) (n : ℕ) (h : n < 8192) : val_main_v12 (F := Ideal) x0 x1 x2 (ix2 a ⟨n, h⟩) = nat (proj x0 x1 x2 a) n := by
  rw [proj_at, nat_of (proj x0 x1 x2 a)]

/-- The reference's result is its projected columns, turned and laid side by side. -/
theorem laid_eq : val_main_v121 (F := Ideal) x0 x1 x2 = Cert.DsaRows.laid (val_main_v12 (F := Ideal) x0 x1 x2) := rfl

/-- The reference at an index. -/
theorem out_at (a n : Fin 8192) : val_main_v121 (F := Ideal) x0 x1 x2 (ix2 a n) = out (a % 4096) (nat (proj x0 x1 x2 a)) n := by
  rw [laid_eq]
  exact Cert.DsaRows.laid_at _ (fun a => nat (proj x0 x1 x2 a)) (proj_nat x0 x1 x2) a n
end Cert.DsaIn2RefIdeal.Point
-- ==== Proof.DsaIn2Tab.lean ====
module
public import proofs.«01_k».proof.Proof.Gen.DsaIn2Ideal.Value
public import proofs.«01_k».proof.Proof.DsaIn2Ref
public import proofs.«01_k».proof.Proof.DsaInTab
public import Idealize.ShloMosaic.Lib.StableHlo.RunRead
public import Idealize.ShloMosaic.Lib.IdealHost
@[expose] public section
set_option maxRecDepth 16384
noncomputable section
namespace Cert.DsaIn2Ideal.Point
open Idealize.ShloMosaic Idealize.ShloMosaic.TcCoe Idealize.SL.Sem
open Cert.DsaIn2Ideal Cert.DsaIn2Ideal.Gen Cert.RopeMath
open Cert.DsaInIdeal.Point (heads heads_at lit_at)
open Cert.DsaMath
variable (m : (ℓ : Loc nD τ sig) → Buf (Elt Ideal) ℓ)

/-- The blocks the windows stage at a point, in closed form. -/
theorem idx : ∀ t : Fin cfg0.N, win0_0.index t = ![t.val / 8, 0] ∧ win0_1.index t = ![1, block (t.val % 8), 0]
    ∧ win0_2.index t = ![t.val / 8, 0] ∧ win0_3.index t = ![t.val / 8 % 4, 0] ∧ win0_4.index t = ![t.val / 8 % 4, 0]
    ∧ win0_5.index t = ![0, 0] ∧ win0_6.index t = ![t.val / 8, t.val % 8] :=
  (by decide +kernel : ∀ t : Fin grid0.N, _)

/-- The constant is the first layer's. -/
theorem lit_eq : lit0 = Cert.DsaInIdeal.lit0 := rfl

/-- The table of cosines: cosines twice, then ones. -/
theorem cos_term (c : Dev nD) : (V m c main_v23 : FVec Ideal S4096x128 .f32) = heads (V m c main_v12) (V m c main_v12) (V m c main_v14) := by
  unfold_abbrev_sides
  after_reads_simp
  dsimp only [Matrix.cons_val]
  rfl

/-- The table of sines: minus the sines and zeros, plus zeros and the sines. -/
theorem sin_term (c : Dev nD) : (V m c main_v30 : FVec Ideal S4096x128 .f32)
    = addf (heads (V m c main_v18) (V m c main_v15) (V m c main_v16)) (heads (V m c main_v15) (V m c main_v13) (V m c main_v16)) := by
  unfold_abbrev_sides
  after_reads_simp
  dsimp only [Matrix.cons_val]
  rfl

/-- The cosines computed before the launch. -/
theorem cos_half (c : Dev nD) (s : Fin 4096) (l : Fin 16) : (V m c main_v12 : FVec Ideal S4096x16 .f32) (ix2 s l) = co s l := by
  unfold_abbrev_sides
  after_reads_simp
  pointwise
  rfl

/-- The sines computed before the launch. -/
theorem sin_half (c : Dev nD) (s : Fin 4096) (l : Fin 16) : (V m c main_v13 : FVec Ideal S4096x16 .f32) (ix2 s l) = si s l := by
  unfold_abbrev_sides
  after_reads_simp
  pointwise
  rfl

/-- The sines with a minus sign. -/
theorem neg_half (c : Dev nD) (s : Fin 4096) (l : Fin 16) : (V m c main_v18 : FVec Ideal S4096x16 .f32) (ix2 s l) = -si s l := by
  unfold_abbrev_sides
  after_reads_simp
  pointwise
  rfl

/-- The ones. -/
theorem one_rest (c : Dev nD) (s : Fin 4096) (l : Fin 96) : (V m c main_v14 : FVec Ideal S4096x96 .f32) (ix2 s l) = (1 : EReal) := by
  unfold_abbrev_sides
  after_reads_simp
  exact Ideal.ofBits_one_f32

/-- The zeros beside the sines. -/
theorem zero_half (c : Dev nD) (s : Fin 4096) (l : Fin 16) : (V m c main_v15 : FVec Ideal S4096x16 .f32) (ix2 s l) = (0 : EReal) := by
  unfold_abbrev_sides
  after_reads_simp
  exact Ideal.ofBits_zero_f32

/-- The zeros of the unturned columns. -/
theorem zero_rest (c : Dev nD) (s : Fin 4096) (l : Fin 96) : (V m c main_v16 : FVec Ideal S4096x96 .f32) (ix2 s l) = (0 : EReal) := by
  unfold_abbrev_sides
  after_reads_simp
  exact Ideal.ofBits_zero_f32

/-- The table of cosines. -/
theorem cos_at (c : Dev nD) (s : Fin 4096) (q : Fin 128) :
    (V m c main_v23 : FVec Ideal S4096x128 .f32) (ix2 s q) = cosRow 128 16 (co s) q := by
  rw [cos_term]
  exact heads_at _ _ _ _ _ _ s q (cos_half m c s) (cos_half m c s) (one_rest m c s)

/-- The table of sines. -/
theorem sin_at (c : Dev nD) (s : Fin 4096) (q : Fin 128) :
    (V m c main_v30 : FVec Ideal S4096x128 .f32) (ix2 s q) = sinRow 128 16 (si s) q := by
  rw [sin_term]
  refine (congrArg₂ (· + ·) (heads_at _ _ _ (fun l => -si s l) (fun _ => 0) 0 s q (neg_half m c s) (zero_half m c s) (zero_rest m c s))
    (heads_at _ _ _ (fun _ => 0) (si s) 0 s q (zero_half m c s) (sin_half m c s) (zero_rest m c s))).trans ?_
  unfold sinRow
  split
  · rfl
  · split
    · rfl
    · rfl

/-- The matrix that exchanges the halves. -/
theorem swap_at (c : Dev nD) (k q : Fin 128) :
    (V m c main_cst : FVec Ideal S128x128 .bf16) (ix2 k q) = swap 128 16 k q := by
  unfold_abbrev_sides
  after_reads_simp
  show Ideal.ofBits .bf16 (lit0 _) = _
  refine (congrArg (fun x => Ideal.ofBits .bf16 (lit0 x)) (Fin.ext ?_ : _ = ⟨(k : ℕ) * 128 + q, by omega⟩)).trans ?_
  · exact Shape.rowMajor_val_two (ix2 k q : S128x128.Idx)
  · show Ideal.ofBits .bf16 (lit0 _) = _
    rw [lit_eq, lit_at]
    unfold swap
    split
    · exact Ideal.ofBits_one_bf16
    · exact Ideal.ofBits_zero_bf16

/-- The staged block of the cosines. -/
theorem cos_blk (c : Dev nD) (t : Fin cfg0.N) (p : Fin 1024) (q : Fin 128) :
    iblk m c 3 t (ix2 p q) = cosRow 128 16 (co (t.val / 8 % 4 * 1024 + p)) q := by
  refine Eq.trans ?_ (cos_at m c ⟨t.val / 8 % 4 * 1024 + p, by omega⟩ q)
  unfold iblk
  rw [View.read_apply]
  refine congrArg (V m c main_v23) (funext fun a => Fin.ext ?_)
  fin_cases a <;> blk_simp [idx t] <;> rfl

/-- The staged block of the sines. -/
theorem sin_blk (c : Dev nD) (t : Fin cfg0.N) (p : Fin 1024) (q : Fin 128) :
    iblk m c 4 t (ix2 p q) = sinRow 128 16 (si (t.val / 8 % 4 * 1024 + p)) q := by
  refine Eq.trans ?_ (sin_at m c ⟨t.val / 8 % 4 * 1024 + p, by omega⟩ q)
  unfold iblk
  rw [View.read_apply]
  refine congrArg (V m c main_v30) (funext fun a => Fin.ext ?_)
  fin_cases a <;> blk_simp [idx t] <;> rfl

/-- The staged block of the exchanging matrix. -/
theorem swap_blk (c : Dev nD) (t : Fin cfg0.N) (k q : Fin 128) : iblk m c 5 t (ix2 k q) = swap 128 16 k q := by
  refine Eq.trans ?_ (swap_at m c k q)
  unfold iblk
  rw [View.read_apply]
  refine congrArg (V m c main_cst) (funext fun a => Fin.ext ?_)
  fin_cases a <;> blk_simp [idx t] <;> rfl

end Cert.DsaIn2Ideal.Point
-- ==== Proof.DsaIn2Point.lean ====
module
public import proofs.«01_k».proof.Proof.DsaIn2Tab
public import proofs.«01_k».proof.Proof.DsaInPoint
@[expose] public section
set_option maxRecDepth 16384
noncomputable section
namespace Cert.DsaIn2Ideal.Point
open Idealize.ShloMosaic Idealize.ShloMosaic.TcCoe Idealize.SL.Sem
open Cert.DsaIn2Ideal Cert.DsaIn2Ideal.Gen Cert.RopeMath Cert.DsaMath
open Cert.DsaIn2RefIdeal.Point (proj)
open Cert.DsaInIdeal.Point (block_lt cols128 pay2_at pay6_at pay7_at pay8_at pay10_at pay11_at pay12_at pay13_at)
variable (m : (ℓ : Loc nD τ sig) → Buf (Elt Ideal) ℓ)

/-- The arguments. -/
abbrev A0 (c : Dev nD) : FVec Ideal S8192x4096 .bf16 := m ((c.tc : Thread nD τ).loc main_arg0)
abbrev A1 (c : Dev nD) : FVec Ideal S2x8336x4096 .bf16 := m ((c.tc : Thread nD τ).loc main_arg1)
abbrev A2 (c : Dev nD) : FVec Ideal S8192x128 .f32 := m ((c.tc : Thread nD τ).loc main_arg2)

/-- No block of the weights that a point stages reaches past the array's end. -/
theorem uncut : ∀ t : Fin cfg0.N, ∀ a, (cfg0.win 1).clip (grid0.coords t) a = none :=
  (by decide +kernel : ∀ t : Fin grid0.N, ∀ a, (cfg0.win 1).clip (grid0.coords t) a = none)

/-- The staged block of the weights at an index. -/
theorem weight_at (c : Dev nD) (t : Fin cfg0.N) (b : Fin 1024) (k : Fin 4096) :
    X0_1 m c t (ix3 0 b k) = A1 m c (ix3 1 ⟨block (t.val % 8) * 1024 + b, (block_lt _ b (by omega)).trans (by omega)⟩ k) := by
  have hm : (cfg0.win 1).moved (grid0.coords t) (ix3 0 b k) = true :=
    ((cfg0.win 1).moved_iff _ _).mpr fun a => by
      have := ((ix3 0 b k : S1x1024x4096.Idx) a).isLt
      unfold Pipeline.Window.xsize
      rw [uncut t a]
      exact this
  unfold X0_1 Pipeline.Window.fill
  refine (dif_pos hm).trans ?_
  unfold iblk V
  rw [View.read_apply]
  refine congrArg (A1 m c) (funext fun a => Fin.ext ?_)
  fin_cases a <;> blk_simp [idx t] <;> rfl

/-- The projected block of a point, at an index. -/
theorem proj_blk (c : Dev nD) (t : Fin cfg0.N) (p : Fin 1024) (q : Fin 1024) (a : Fin 8192) (ha : (a : ℕ) = t.val / 8 * 1024 + p) :
    k0_pay1 (F := Ideal) (iblk m c 0 t) (X0_1 m c t) (iblk m c 2 t) (ix2 p q) = nat (proj (A0 m c) (A1 m c) (A2 m c) a) (block (t.val % 8) * 1024 + q) := by
  rw [← nat_of (proj (A0 m c) (A1 m c) (A2 m c) a) _ (block_lt _ q (by omega))]
  have h0 : ∀ k : Fin 4096, iblk m c 0 t (ix2 p k) = A0 m c (ix2 a k) := fun k => by
    unfold iblk
    rw [View.read_apply]
    refine congrArg (A0 m c) (funext fun x => Fin.ext ?_)
    fin_cases x <;> blk_simp [idx t]
    · exact ha.symm
    · rfl
  have h2 : ∀ k : Fin 128, iblk m c 2 t (ix2 p k) = A2 m c (ix2 a k) := fun k => by
    unfold iblk
    rw [View.read_apply]
    refine congrArg (A2 m c) (funext fun x => Fin.ext ?_)
    fin_cases x <;> blk_simp [idx t]
    · exact ha.symm
    · rfl
  unfold proj
  simp only [← h0, ← weight_at m c t q, ← h2]
  generalize iblk m c 0 t = v0
  generalize X0_1 m c t = v1
  generalize iblk m c 2 t = v4
  pointwise [k0_pay1]

/-- The scale of a point. -/
theorem scale_at (t : Fin cfg0.N) : k0_pay5 (F := Ideal) (BitVec.ofNat 32 (grid0.coords t 1))
    = if t.val % 8 < 4 then Ideal.ofBits .f32 0x3E0293EE#32 else 1 :=
  Cert.DsaInIdeal.Point.scale_at t

/-- One store of a point of the queries, the indexer's queries or the keys is the reference's columns. -/
theorem piece_at (c : Dev nD) (t : Fin cfg0.N) (ht : t.val % 8 ≤ 6) (j : ℕ) (hj : 128 * j + 128 ≤ 1024) (p : Fin 1024) (q : Fin 128)
    (a : Fin 8192) (ha : (a : ℕ) = t.val / 8 * 1024 + p) :
    cols128 (128 * j) hj (k0_pay1 (F := Ideal) (iblk m c 0 t) (X0_1 m c t) (iblk m c 2 t)) (iblk m c 3 t) (iblk m c 4 t) (iblk m c 5 t) (k0_pay5 (F := Ideal) (BitVec.ofNat 32 (grid0.coords t 1))) p q
      = out (a % 4096) (nat (proj (A0 m c) (A1 m c) (A2 m c) a)) (t.val % 8 * 1024 + (128 * j + q)) := by
  have hpos : t.val / 8 % 4 * 1024 + p = (a : ℕ) % 4096 := by omega
  have hx := fun (n : ℕ) (hn : n < 1024) => proj_blk m c t p ⟨n, hn⟩ a ha
  rw [← out_turned _ _ _ _ ht (by omega)]
  unfold cols128
  rw [cos_blk, sin_blk, scale_at, hx]
  simp only [hx, swap_blk, hpos]
  generalize nat (proj (A0 m c) (A1 m c) (A2 m c) a) = y
  have key := spun 128 16 (co (a % 4096)) (si (a % 4096)) (fun k => y (128 * (block (t.val % 8) * 8 + j) + k)) q q.isLt (by omega)
  rw [turned_shift 128 16 _ _ y _ _ (by omega)] at key
  have e : ∀ k, 128 * (block (t.val % 8) * 8 + j) + k = block (t.val % 8) * 1024 + (128 * j + k) := by omega
  simp only [e] at key
  exact congrArg (· * _) key

/-- What a point leaves in the output's block is the reference's columns. -/
theorem outs_at (c : Dev nD) (t : Fin cfg0.N) (p : Fin 1024) (b : Fin 1024) (a : Fin 8192) (ha : (a : ℕ) = t.val / 8 * 1024 + p) :
    outsAt0 m c t.val t.isLt (ix2 p b) = out (a % 4096) (nat (proj (A0 m c) (A1 m c) (A2 m c) a)) (t.val % 8 * 1024 + b) := by
  by_cases h0 : t.val % 8 ≤ 6
  · have key : ∀ (j : ℕ) (hj : 128 * j + 128 ≤ 1024) (q : Fin 128), (b : ℕ) = 128 * j + q →
        cols128 (128 * j) hj (k0_pay1 (F := Ideal) (iblk m c 0 t) (X0_1 m c t) (iblk m c 2 t)) (iblk m c 3 t) (iblk m c 4 t) (iblk m c 5 t) (k0_pay5 (F := Ideal) (BitVec.ofNat 32 (grid0.coords t 1))) p q
          = out (a % 4096) (nat (proj (A0 m c) (A1 m c) (A2 m c) a)) (t.val % 8 * 1024 + b) := by
      intro j hj q h2
      rw [h2]
      exact piece_at m c t h0 j hj p q a ha
    have hx : ∀ x : S1024x128.Idx, (p : ℕ) = x 0 → ∃ q : Fin 128, x = ix2 p q := fun x h =>
      ⟨x 1, (eq_ix2 x).trans ((ix2_inj ..).2 ⟨Fin.ext h.symm, rfl⟩)⟩
    rw [outsAt0_A m c t h0 (by omega)]
    frame_out
    canon_tiles x h
    case piece0 => obtain ⟨q, rfl⟩ := hx x h0; exact (pay2_at ..).trans (key 7 (by omega) q h1)
    case piece1 => obtain ⟨q, rfl⟩ := hx x h0; exact (pay13_at ..).trans (key 6 (by omega) q h1)
    case piece2 => obtain ⟨q, rfl⟩ := hx x h0; exact (pay12_at ..).trans (key 5 (by omega) q h1)
    case piece3 => obtain ⟨q, rfl⟩ := hx x h0; exact (pay11_at ..).trans (key 4 (by omega) q h1)
    case piece4 => obtain ⟨q, rfl⟩ := hx x h0; exact (pay10_at ..).trans (key 3 (by omega) q h1)
    case piece5 => obtain ⟨q, rfl⟩ := hx x h0; exact (pay8_at ..).trans (key 2 (by omega) q h1)
    case piece6 => obtain ⟨q, rfl⟩ := hx x h0; exact (pay7_at ..).trans (key 1 (by omega) q h1)
    case piece7 => obtain ⟨q, rfl⟩ := hx x h0; exact (pay6_at ..).trans (key 0 (by omega) q (h1.trans (Nat.zero_add _).symm))
  · rw [outsAt0_B m c t h0 (by omega)]
    frame_out
    rw [proj_blk m c t p b a ha]
    exact out_plain _ _ _ _ (by omega)

/-- The kernel's output is the reference's. -/
theorem final (c : Dev nD) : (dats m 0 c).arrAt 6 (cfgs 0).N = Cert.DsaIn2RefIdeal.Read.val_main_v121 (F := Ideal)
    (A0 m c) (A1 m c) (A2 m c) := by
  refine (dats m 0 c).arrAt_eq_of_covers 6 _ (by decide +kernel) fun t _ y => ?_
  blk_simp
  rw [after0_6]
  have hy0 : (y 0 : ℕ) < 1024 := (y 0).isLt
  have hy1 : (y 1 : ℕ) < 1024 := (y 1).isLt
  have ht : t.val < 64 := t.isLt
  refine (congrArg (outsAt0 m c t.val t.isLt) (eq_ix2 y)).trans ((outs_at m c t (y 0) (y 1) ⟨t.val / 8 * 1024 + (y 0 : ℕ), by omega⟩ rfl).trans
    ((Cert.DsaIn2RefIdeal.Point.out_at _ _ _ ⟨t.val / 8 * 1024 + (y 0 : ℕ), by omega⟩ ⟨t.val % 8 * 1024 + (y 1 : ℕ), by omega⟩).symm.trans
      (congrArg _ (funext fun x => Fin.ext ?_))))
  fin_cases x <;> blk_simp [idx t] <;> rfl
end Cert.DsaIn2Ideal.Point
-- ==== Proof.UpFrame0.lean ====
module

public import proofs.«01_k».proof.Defs
public import proofs.«01_k».proof.Proof.Gen.Up.Frame
public import proofs.«01_k».proof.Proof.Gen.UpIdeal.Frame

/-! No operation of the up projection is rewritten by its idealization, so the two programs are one text: what the one is
proved to do at any float type, the other does. -/

@[expose] public section

set_option maxRecDepth 16384
set_option backward.isDefEq.respectTransparency.types false

namespace Cert.UpText

open Idealize.ShloMosaic Idealize.ShloMosaic.TcCoe

variable {F : FTy → Type} [FloatOps F] [Cert.Up.Facts] [Cert.UpIdeal.Facts]

/-- The two programs run the same kernel bodies, -/
theorem defs₀_eq : Cert.Up.defs₀ (F := F) = Cert.UpIdeal.defs₀ (F := F) :=
  congrArg Defs.onTc (funext fun ℓ => funext fun a => match ℓ, a with
    | 0, (_, _) => rfl
    | ⟨_ + 1, h⟩, _ => absurd h (Nat.not_lt.2 (Nat.le_add_left _ _)))

/-- in the same pipelines. -/
theorem defs_eq : Cert.Up.defs (F := F) = Cert.UpIdeal.defs (F := F) := by
  unfold Cert.Up.defs Cert.UpIdeal.defs; rw [defs₀_eq]; rfl

/-- A run proved of the idealization's text is a run of the kernel's. -/
theorem run_of {m : (ℓ : Loc Cert.UpIdeal.nD Cert.UpIdeal.τ Cert.UpIdeal.sig) → Buf (Elt F) ℓ} {g : Dev Cert.UpIdeal.nD → PrngReg}
    {Q : PUnit × MemSt Cert.UpIdeal.nD Cert.UpIdeal.τ Cert.UpIdeal.sig (Elt F) → Prop}
    (h : θ_run (Cert.UpIdeal.defs (F := F)) (onTc (τ := Cert.UpIdeal.τ) (Cert.UpIdeal.main (F := F))) ⟨m, fun _ => 0, g⟩ Q) :
    θ_run (Cert.Up.defs (F := F)) (onTc (τ := Cert.Up.τ) (Cert.Up.main (F := F))) ⟨m, fun _ => 0, g⟩ Q := by
  rw [defs_eq]; exact h

end Cert.UpText
-- ==== Proof.UpRun.lean ====
module

public import proofs.«01_k».proof.Proof.Gen.UpIdeal.Frame
public import proofs.«01_k».proof.Proof.Gen.UpIdeal.Skeleton

/-! The up projection's body, run once: what it leaves in the result's block and in its scratch buffers. -/

@[expose] public section

set_option maxRecDepth 16384

noncomputable section

namespace Cert.UpBody

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the first tile of a sequence: the rows carried are set to zero first. -/
noncomputable def runFirst (c : Dev nD) (i : grid0.Coords) (arg2 : Memref sig .tc .vmem S2048x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x3x256 .f32) (harg5 : arg5.IsWhole) (arg6 : Memref sig .tc .vmem S1x3x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S2048x256 .bf16) (harg9 : arg9.IsWhole) (arg10 : Memref sig .tc .vmem S4096x512 .bf16) (harg10 : arg10.IsWhole) (arg11 : Memref sig .tc .vmem S2056x512 .f32) (harg11 : arg11.IsWhole) (arg12 : Memref sig .tc .vmem S43x8x512 .f32) (harg12 : arg12.IsWhole) (hc : k0_cond1 i = 1#1)
    (x2 : Vec F S2048x4096 .bf16) (x3 : Vec F S1x4096x256 .f32) (x4 : Vec F S1x4096x256 .f32) (x5 : Vec F S1x3x256 .f32) (x6 : Vec F S1x3x256 .f32) (x7 : Vec F S1x1x256 .f32) (x8 : Vec F S1x1x256 .f32) (x10 : Vec F S4096x512 .bf16) (x11 : Vec F S2056x512 .f32) (x12 : Vec F S43x8x512 .f32) :
    Σ' (L9 : List (View.Piece (Elt F) S2048x256 .bf16)), Σ' (L10 : List (View.Piece (Elt F) S4096x512 .bf16)), Σ' (L11 : List (View.Piece (Elt F) S2056x512 .f32)), { L12 : List (View.Piece (Elt F) S43x8x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11 ∗ owns (c : Thread nD τ) arg12 fullShare x12
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexact H10
    isplitl [H11]
    · iexact H11
    iexact H12

set_option maxHeartbeats 2000000 in
/-- At the other tiles. -/
noncomputable def runNext (c : Dev nD) (i : grid0.Coords) (arg2 : Memref sig .tc .vmem S2048x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x3x256 .f32) (harg5 : arg5.IsWhole) (arg6 : Memref sig .tc .vmem S1x3x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S2048x256 .bf16) (harg9 : arg9.IsWhole) (arg10 : Memref sig .tc .vmem S4096x512 .bf16) (harg10 : arg10.IsWhole) (arg11 : Memref sig .tc .vmem S2056x512 .f32) (harg11 : arg11.IsWhole) (arg12 : Memref sig .tc .vmem S43x8x512 .f32) (harg12 : arg12.IsWhole) (hc : ¬k0_cond1 i = 1#1)
    (x2 : Vec F S2048x4096 .bf16) (x3 : Vec F S1x4096x256 .f32) (x4 : Vec F S1x4096x256 .f32) (x5 : Vec F S1x3x256 .f32) (x6 : Vec F S1x3x256 .f32) (x7 : Vec F S1x1x256 .f32) (x8 : Vec F S1x1x256 .f32) (x10 : Vec F S4096x512 .bf16) (x11 : Vec F S2056x512 .f32) (x12 : Vec F S43x8x512 .f32) :
    Σ' (L9 : List (View.Piece (Elt F) S2048x256 .bf16)), Σ' (L10 : List (View.Piece (Elt F) S4096x512 .bf16)), Σ' (L11 : List (View.Piece (Elt F) S2056x512 .f32)), { L12 : List (View.Piece (Elt F) S43x8x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11 ∗ owns (c : Thread nD τ) arg12 fullShare x12
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexact H10
    isplitl [H11]
    · iexact H11
    iexact H12

end Cert.UpBody

end
-- ==== Proof.UpBody.lean ====
module

public import proofs.«01_k».proof.Proof.UpRun
public import Idealize.ShloMosaic.Lib.Pipeline.ValueKit

/-! The up projection's body, as functions of the blocks it loads: the weights it casts, the rows of the product it keeps, the block it
writes and the rows it carries on. -/

@[expose] public section

set_option maxRecDepth 16384

noncomputable section

namespace Cert.UpBody

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first half of the weights, cast: gate columns, then value columns. -/
def weightPieces₂ (x3 x4 : Vec F S1x4096x256 .f32) : List (View.Piece (Elt F) S4096x512 .bf16) :=
  [⟨Rect.unit ![0, 256] S2048x256.size inb_S4096x512_S2048x256_0_256, k0_pay6 (View.ld x4 (Rect.unit ![0, 0, 0] S1x2048x256.size inb_S1x4096x256_S1x2048x256_0_0_0))⟩,
   ⟨Rect.unit ![0, 0] S2048x256.size inb_S4096x512_S2048x256_0_0, k0_pay5 (View.ld x3 (Rect.unit ![0, 0, 0] S1x2048x256.size inb_S1x4096x256_S1x2048x256_0_0_0))⟩]

/-- All of the weights, cast. -/
def weightPieces (x3 x4 : Vec F S1x4096x256 .f32) : List (View.Piece (Elt F) S4096x512 .bf16) :=
  ⟨Rect.unit ![2048, 256] S2048x256.size inb_S4096x512_S2048x256_2048_256, k0_pay9 (View.ld x4 (Rect.unit ![0, 2048, 0] S1x2048x256.size inb_S1x4096x256_S1x2048x256_0_2048_0))⟩ ::
  ⟨Rect.unit ![2048, 0] S2048x256.size inb_S4096x512_S2048x256_2048_0, k0_pay8 (View.ld x3 (Rect.unit ![0, 2048, 0] S1x2048x256.size inb_S1x4096x256_S1x2048x256_0_2048_0))⟩ ::
  weightPieces₂ x3 x4

/-- The rows of the product kept after the first half of the first 512 rows: the eight rows carried in, then the half sums. -/
def rows₁ (w : Vec F S1x8x512 .f32) (x2 : Vec F S2048x4096 .bf16) (x3 x4 : Vec F S1x4096x256 .f32) : List (View.Piece (Elt F) S2056x512 .f32) :=
  [⟨Rect.unit ![8, 0] S512x512.size inb_S2056x512_S512x512_8_0,
      k0_pay7 (View.ld x2 (Rect.unit ![0, 0] S512x2048.size inb_S2048x4096_S512x2048_0_0))
        (View.ld (View.canon (weightPieces₂ x3 x4)) (Rect.unit ![0, 0] S2048x512.size inb_S4096x512_S2048x512_0_0))⟩,
   ⟨Rect.unit ![0, 0] S8x512.size inb_S2056x512_S8x512_0_0, k0_pay4 w⟩]

/-- The product's rows 0 to 1023. -/
def rows₃ (w : Vec F S1x8x512 .f32) (x2 : Vec F S2048x4096 .bf16) (x3 x4 : Vec F S1x4096x256 .f32) : List (View.Piece (Elt F) S2056x512 .f32) :=
  ⟨Rect.unit ![520, 0] S512x512.size inb_S2056x512_S512x512_520_0,
      k0_pay11 (View.ld x2 (Rect.unit ![512, 0] S512x4096.size inb_S2048x4096_S512x4096_512_0))
        (View.ld (View.canon (weightPieces x3 x4)) (Rect.unit ![0, 0] S4096x512.size inb_S4096x512_S4096x512_0_0))⟩ ::
  ⟨Rect.unit ![8, 0] S512x512.size inb_S2056x512_S512x512_8_0,
      k0_pay10 (View.ld x2 (Rect.unit ![0, 2048] S512x2048.size inb_S2048x4096_S512x2048_0_2048))
        (View.ld (View.canon (weightPieces x3 x4)) (Rect.unit ![2048, 0] S2048x512.size inb_S4096x512_S2048x512_2048_0))
        (View.ld (View.canon (rows₁ w x2 x3 x4)) (Rect.unit ![8, 0] S512x512.size inb_S2056x512_S512x512_8_0))⟩ ::
  rows₁ w x2 x3 x4

/-- The product's rows 0 to 1535. -/
def rows₄ (w : Vec F S1x8x512 .f32) (x2 : Vec F S2048x4096 .bf16) (x3 x4 : Vec F S1x4096x256 .f32) : List (View.Piece (Elt F) S2056x512 .f32) :=
  ⟨Rect.unit ![1032, 0] S512x512.size inb_S2056x512_S512x512_1032_0,
      k0_pay15 (View.ld x2 (Rect.unit ![1024, 0] S512x4096.size inb_S2048x4096_S512x4096_1024_0))
        (View.ld (View.canon (weightPieces x3 x4)) (Rect.unit ![0, 0] S4096x512.size inb_S4096x512_S4096x512_0_0))⟩ ::
  rows₃ w x2 x3 x4

/-- The product's last 512 rows. -/
def lastRows (x2 : Vec F S2048x4096 .bf16) (x3 x4 : Vec F S1x4096x256 .f32) : Vec F S512x512 .f32 :=
  k0_pay20 (View.ld x2 (Rect.unit ![1536, 0] S512x4096.size inb_S2048x4096_S512x4096_1536_0))
        (View.ld (View.canon (weightPieces x3 x4)) (Rect.unit ![0, 0] S4096x512.size inb_S4096x512_S4096x512_0_0))

/-- All of the product's rows. -/
def rows₅ (w : Vec F S1x8x512 .f32) (x2 : Vec F S2048x4096 .bf16) (x3 x4 : Vec F S1x4096x256 .f32) : List (View.Piece (Elt F) S2056x512 .f32) :=
  ⟨Rect.unit ![1544, 0] S512x512.size inb_S2056x512_S512x512_1544_0, lastRows x2 x3 x4⟩ ::
  rows₄ w x2 x3 x4

/-- Convolution and gate of 520 rows of gate and of value. -/
def glu (wg wv : Vec F S520x256 .f32) (x5 x6 : Vec F S1x3x256 .f32) (x7 x8 : Vec F S1x1x256 .f32) : Vec F S512x256 .bf16 :=
  k0_pay14
    (k0_pay12 wg (View.ld x5 (Rect.unit ![0, 0, 0] S1x1x256.size inb_S1x3x256_S1x1x256_0_0_0)) (View.ld x5 (Rect.unit ![0, 1, 0] S1x1x256.size inb_S1x3x256_S1x1x256_0_1_0))
      (View.ld x5 (Rect.unit ![0, 2, 0] S1x1x256.size inb_S1x3x256_S1x1x256_0_2_0)) (View.ld x7 (Rect.unit ![0, 0, 0] S1x1x256.size inb_S1x1x256_S1x1x256_0_0_0)))
    wv (k0_pay13 wv (View.ld x6 (Rect.unit ![0, 0, 0] S1x1x256.size inb_S1x3x256_S1x1x256_0_0_0))) (View.ld x6 (Rect.unit ![0, 1, 0] S1x1x256.size inb_S1x3x256_S1x1x256_0_1_0))
    (View.ld x6 (Rect.unit ![0, 2, 0] S1x1x256.size inb_S1x3x256_S1x1x256_0_2_0)) (View.ld x8 (Rect.unit ![0, 0, 0] S1x1x256.size inb_S1x1x256_S1x1x256_0_0_0))

/-- The four parts of the block written. -/
def outPieces (w : Vec F S1x8x512 .f32) (x2 : Vec F S2048x4096 .bf16) (x3 : Vec F S1x4096x256 .f32) (x4 : Vec F S1x4096x256 .f32) (x5 : Vec F S1x3x256 .f32) (x6 : Vec F S1x3x256 .f32) (x7 : Vec F S1x1x256 .f32) (x8 : Vec F S1x1x256 .f32) : List (View.Piece (Elt F) S2048x256 .bf16) :=
  [⟨Rect.unit ![1536, 0] S512x256.size inb_S2048x256_S512x256_1536_0,
      glu (View.ld (View.canon (rows₅ w x2 x3 x4)) (Rect.unit ![1536, 0] S520x256.size inb_S2056x512_S520x256_1536_0))
        (View.ld (View.canon (rows₅ w x2 x3 x4)) (Rect.unit ![1536, 256] S520x256.size inb_S2056x512_S520x256_1536_256)) x5 x6 x7 x8⟩,
   ⟨Rect.unit ![1024, 0] S512x256.size inb_S2048x256_S512x256_1024_0,
      glu (View.ld (View.canon (rows₅ w x2 x3 x4)) (Rect.unit ![1024, 0] S520x256.size inb_S2056x512_S520x256_1024_0))
        (View.ld (View.canon (rows₅ w x2 x3 x4)) (Rect.unit ![1024, 256] S520x256.size inb_S2056x512_S520x256_1024_256)) x5 x6 x7 x8⟩,
   ⟨Rect.unit ![512, 0] S512x256.size inb_S2048x256_S512x256_512_0,
      glu (View.ld (View.canon (rows₄ w x2 x3 x4)) (Rect.unit ![512, 0] S520x256.size inb_S2056x512_S520x256_512_0))
        (View.ld (View.canon (rows₄ w x2 x3 x4)) (Rect.unit ![512, 256] S520x256.size inb_S2056x512_S520x256_512_256)) x5 x6 x7 x8⟩,
   ⟨Rect.unit ![0, 0] S512x256.size inb_S2048x256_S512x256_0_0,
      glu (View.ld (View.canon (rows₃ w x2 x3 x4)) (Rect.unit ![0, 0] S520x256.size inb_S2056x512_S520x256_0_0))
        (View.ld (View.canon (rows₃ w x2 x3 x4)) (Rect.unit ![0, 256] S520x256.size inb_S2056x512_S520x256_0_256)) x5 x6 x7 x8⟩]

/-- The block written. -/
def out (w : Vec F S1x8x512 .f32) (x2 : Vec F S2048x4096 .bf16) (x3 : Vec F S1x4096x256 .f32) (x4 : Vec F S1x4096x256 .f32) (x5 : Vec F S1x3x256 .f32) (x6 : Vec F S1x3x256 .f32) (x7 : Vec F S1x1x256 .f32) (x8 : Vec F S1x1x256 .f32) : Vec F S2048x256 .bf16 :=
  View.canon (outPieces w x2 x3 x4 x5 x6 x7 x8)

/-- The eight rows carried to the next tile: the last eight of the product. -/
def tail (x2 : Vec F S2048x4096 .bf16) (x3 x4 : Vec F S1x4096x256 .f32) : Vec F S1x8x512 .f32 :=
  k0_pay2 fun j => lastRows x2 x3 x4 (ix2 ⟨(j 0 : ℕ) + 504, by have : (j 0 : ℕ) < 8 := (j 0).isLt; omega⟩ (j 1))

/-- The parts cover the block. -/
theorem out_cover (w : Vec F S1x8x512 .f32) (x2 : Vec F S2048x4096 .bf16) (x3 : Vec F S1x4096x256 .f32) (x4 : Vec F S1x4096x256 .f32) (x5 : Vec F S1x3x256 .f32) (x6 : Vec F S1x3x256 .f32) (x7 : Vec F S1x1x256 .f32) (x8 : Vec F S1x1x256 .f32) (y : S2048x256.Idx) :
    ∃ pc ∈ outPieces w x2 x3 x4 x5 x6 x7 x8, y ∈ pc.1.set :=
  View.cover_of_tiledL (outPieces w x2 x3 x4 x5 x6 x7 x8) S512x256.size (by sl_kernel_rfl) y

/-- Whatever was carried in, the last eight rows are those carried on. -/
theorem tail_eq (w : Vec F S1x8x512 .f32) (x2 : Vec F S2048x4096 .bf16) (x3 x4 : Vec F S1x4096x256 .f32) :
    k0_pay2 (View.ld (View.canon (rows₅ w x2 x3 x4)) (Rect.unit ![2048, 0] S8x512.size inb_S2056x512_S8x512_2048_0)) = tail x2 x3 x4 := by
  unfold tail
  congr 1
  funext j
  have hj : (j 0 : ℕ) < 8 := (j 0).isLt
  have e : (Rect.unit (s := S2056x512) ![2048, 0] S8x512.size inb_S2056x512_S8x512_2048_0).idx j
      = (Rect.unit (s := S2056x512) ![1544, 0] S512x512.size inb_S2056x512_S512x512_1544_0).emb (ix2 ⟨(j 0 : ℕ) + 504, by omega⟩ (j 1)) := by
    funext a
    match a with
    | 0 => refine Fin.ext ?_; show 2048 + 1 * (j 0 : ℕ) = 1544 + 1 * ((j 0 : ℕ) + 504); omega
    | 1 => refine Fin.ext ?_; rfl
  rw [View.ld_apply, e]
  exact View.canon_cons_emb _ _ _ _

/-- At a tile that starts a sequence the block is written with zeros carried in. -/
theorem first_out (c : Dev nD) (i : grid0.Coords) (arg2 : Memref sig .tc .vmem S2048x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x3x256 .f32) (harg5 : arg5.IsWhole) (arg6 : Memref sig .tc .vmem S1x3x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S2048x256 .bf16) (harg9 : arg9.IsWhole) (arg10 : Memref sig .tc .vmem S4096x512 .bf16) (harg10 : arg10.IsWhole) (arg11 : Memref sig .tc .vmem S2056x512 .f32) (harg11 : arg11.IsWhole) (arg12 : Memref sig .tc .vmem S43x8x512 .f32) (harg12 : arg12.IsWhole) (hc : k0_cond1 i = 1#1) (x2 : Vec F S2048x4096 .bf16) (x3 : Vec F S1x4096x256 .f32) (x4 : Vec F S1x4096x256 .f32) (x5 : Vec F S1x3x256 .f32) (x6 : Vec F S1x3x256 .f32) (x7 : Vec F S1x1x256 .f32) (x8 : Vec F S1x1x256 .f32) (x10 : Vec F S4096x512 .bf16) (x11 : Vec F S2056x512 .f32) (x12 : Vec F S43x8x512 .f32) :
    (runFirst c i arg2 harg2 arg3 harg3 arg4 harg4 arg5 harg5 arg6 harg6 arg7 harg7 arg8 harg8 arg9 harg9 arg10 harg10 arg11 harg11 arg12 harg12 hc x2 x3 x4 x5 x6 x7 x8 x10 x11 x12).1 = outPieces k0_pay3 x2 x3 x4 x5 x6 x7 x8 := by
  have z : (fun j => View.canon [(⟨Rect.unit (k0_off1 i) S1x8x512.size (k0_off1_inb i hc), k0_pay3⟩ : View.Piece (Elt F) S43x8x512 .f32)]
      ((Rect.unit (s := S43x8x512) (k0_off2 i) S1x8x512.size (k0_off2_inb i)).idx j)) = k0_pay3 := by
    funext j
    exact View.canon_cons_emb _ _ _ j
  refine Eq.trans ?_ (congrArg (fun w => outPieces w x2 x3 x4 x5 x6 x7 x8) z)
  unfold runFirst
  dsimp only
  sl_unfold_words
  simp only [View.readCov_eq_canon', View.readAt_eq_ld, Memref.IsWhole.read_unread]
  rfl

/-- At another tile, with the rows carried in. -/
theorem next_out (c : Dev nD) (i : grid0.Coords) (arg2 : Memref sig .tc .vmem S2048x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x3x256 .f32) (harg5 : arg5.IsWhole) (arg6 : Memref sig .tc .vmem S1x3x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S2048x256 .bf16) (harg9 : arg9.IsWhole) (arg10 : Memref sig .tc .vmem S4096x512 .bf16) (harg10 : arg10.IsWhole) (arg11 : Memref sig .tc .vmem S2056x512 .f32) (harg11 : arg11.IsWhole) (arg12 : Memref sig .tc .vmem S43x8x512 .f32) (harg12 : arg12.IsWhole) (hc : ¬k0_cond1 i = 1#1) (x2 : Vec F S2048x4096 .bf16) (x3 : Vec F S1x4096x256 .f32) (x4 : Vec F S1x4096x256 .f32) (x5 : Vec F S1x3x256 .f32) (x6 : Vec F S1x3x256 .f32) (x7 : Vec F S1x1x256 .f32) (x8 : Vec F S1x1x256 .f32) (x10 : Vec F S4096x512 .bf16) (x11 : Vec F S2056x512 .f32) (x12 : Vec F S43x8x512 .f32) :
    (runNext c i arg2 harg2 arg3 harg3 arg4 harg4 arg5 harg5 arg6 harg6 arg7 harg7 arg8 harg8 arg9 harg9 arg10 harg10 arg11 harg11 arg12 harg12 hc x2 x3 x4 x5 x6 x7 x8 x10 x11 x12).1 = outPieces (View.ld x12 (Rect.unit (k0_off2 i) S1x8x512.size (k0_off2_inb i))) x2 x3 x4 x5 x6 x7 x8 := by
  unfold runNext
  dsimp only
  sl_unfold_words
  simp only [View.readCov_eq_canon', View.readAt_eq_ld, Memref.IsWhole.read_unread]
  rfl

/-- At a tile that starts a sequence the rows carried on are the product's last. -/
theorem first_tail (c : Dev nD) (i : grid0.Coords) (arg2 : Memref sig .tc .vmem S2048x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x3x256 .f32) (harg5 : arg5.IsWhole) (arg6 : Memref sig .tc .vmem S1x3x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S2048x256 .bf16) (harg9 : arg9.IsWhole) (arg10 : Memref sig .tc .vmem S4096x512 .bf16) (harg10 : arg10.IsWhole) (arg11 : Memref sig .tc .vmem S2056x512 .f32) (harg11 : arg11.IsWhole) (arg12 : Memref sig .tc .vmem S43x8x512 .f32) (harg12 : arg12.IsWhole) (hc : k0_cond1 i = 1#1) (x2 : Vec F S2048x4096 .bf16) (x3 : Vec F S1x4096x256 .f32) (x4 : Vec F S1x4096x256 .f32) (x5 : Vec F S1x3x256 .f32) (x6 : Vec F S1x3x256 .f32) (x7 : Vec F S1x1x256 .f32) (x8 : Vec F S1x1x256 .f32) (x10 : Vec F S4096x512 .bf16) (x11 : Vec F S2056x512 .f32) (x12 : Vec F S43x8x512 .f32) :
    (runFirst c i arg2 harg2 arg3 harg3 arg4 harg4 arg5 harg5 arg6 harg6 arg7 harg7 arg8 harg8 arg9 harg9 arg10 harg10 arg11 harg11 arg12 harg12 hc x2 x3 x4 x5 x6 x7 x8 x10 x11 x12).2.2.2.1 = [⟨Rect.unit (k0_off2 i) S1x8x512.size (k0_off2_inb i), tail x2 x3 x4⟩,
      ⟨Rect.unit (k0_off1 i) S1x8x512.size (k0_off1_inb i hc), k0_pay3⟩] := by
  rw [← tail_eq (fun j => View.canon [(⟨Rect.unit (k0_off1 i) S1x8x512.size (k0_off1_inb i hc), k0_pay3⟩ : View.Piece (Elt F) S43x8x512 .f32)]
      ((Rect.unit (s := S43x8x512) (k0_off2 i) S1x8x512.size (k0_off2_inb i)).idx j)) x2 x3 x4]
  unfold runFirst
  dsimp only
  sl_unfold_words
  simp only [View.readCov_eq_canon', View.readAt_eq_ld, Memref.IsWhole.read_unread]
  rfl

/-- At another tile likewise. -/
theorem next_tail (c : Dev nD) (i : grid0.Coords) (arg2 : Memref sig .tc .vmem S2048x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1x3x256 .f32) (harg5 : arg5.IsWhole) (arg6 : Memref sig .tc .vmem S1x3x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S2048x256 .bf16) (harg9 : arg9.IsWhole) (arg10 : Memref sig .tc .vmem S4096x512 .bf16) (harg10 : arg10.IsWhole) (arg11 : Memref sig .tc .vmem S2056x512 .f32) (harg11 : arg11.IsWhole) (arg12 : Memref sig .tc .vmem S43x8x512 .f32) (harg12 : arg12.IsWhole) (hc : ¬k0_cond1 i = 1#1) (x2 : Vec F S2048x4096 .bf16) (x3 : Vec F S1x4096x256 .f32) (x4 : Vec F S1x4096x256 .f32) (x5 : Vec F S1x3x256 .f32) (x6 : Vec F S1x3x256 .f32) (x7 : Vec F S1x1x256 .f32) (x8 : Vec F S1x1x256 .f32) (x10 : Vec F S4096x512 .bf16) (x11 : Vec F S2056x512 .f32) (x12 : Vec F S43x8x512 .f32) :
    (runNext c i arg2 harg2 arg3 harg3 arg4 harg4 arg5 harg5 arg6 harg6 arg7 harg7 arg8 harg8 arg9 harg9 arg10 harg10 arg11 harg11 arg12 harg12 hc x2 x3 x4 x5 x6 x7 x8 x10 x11 x12).2.2.2.1 = [⟨Rect.unit (k0_off2 i) S1x8x512.size (k0_off2_inb i), tail x2 x3 x4⟩] := by
  rw [← tail_eq (View.ld x12 (Rect.unit (k0_off2 i) S1x8x512.size (k0_off2_inb i))) x2 x3 x4]
  unfold runNext
  dsimp only
  sl_unfold_words
  simp only [View.readCov_eq_canon', View.readAt_eq_ld, Memref.IsWhole.read_unread]
  rfl

end Cert.UpBody

end
-- ==== Proof.UpFrame.lean ====
module

public import proofs.«01_k».proof.Proof.UpBody
public import Idealize.ShloMosaic.Lib.Claim

/-! The up projection's run: at every point the block written is `Cert.UpBody.out` of the point's blocks and of the eight rows carried
from the tile before, and the buffer of carried rows holds the last tiles' rows. -/

@[expose] public section

set_option maxRecDepth 16384

noncomputable section

namespace Cert.UpBody

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A sequence starts at the points of the even rows of the grid. -/
theorem cond_iff : ∀ t : Fin cfg0.N, k0_cond1 (grid0.coords t) = 1#1 ↔ t.val / 43 % 2 = 0 :=
  (by decide +kernel : ∀ t : Fin grid0.N, _)

/-- The place of a point's carried rows. -/
theorem off_eq : ∀ t : Fin cfg0.N, k0_off2 (grid0.coords t) = ![t.val % 43, 0, 0] :=
  (by decide +kernel : ∀ t : Fin grid0.N, _)

/-- The rows carried, as a block of the buffer that holds them. -/
abbrev slot (x : Vec F S43x8x512 .f32) (t : Fin cfg0.N) : Vec F S1x8x512 .f32 :=
  View.ld x (Rect.unit (s := S43x8x512) (k0_off2 (grid0.coords t)) S1x8x512.size (k0_off2_inb (grid0.coords t)))

/-- Points 43 apart carry their rows at one place. -/
theorem slot_congr (x : Vec F S43x8x512 .f32) (s t : Fin cfg0.N) (h : s.val % 43 = t.val % 43) : slot x s = slot x t := by
  have e : k0_off2 (grid0.coords s) = k0_off2 (grid0.coords t) := by rw [off_eq, off_eq, h]
  unfold slot
  have := k0_off2_inb (grid0.coords s)
  generalize_proofs p q
  revert p q
  rw [e]
  intros; rfl

/-- The rows a point's tile carries on. -/
def tailAt (c : Dev nD) (t : Fin cfg0.N) : Vec F S1x8x512 .f32 := tail (iblk m c 0 t) (iblk m c 1 t) (iblk m c 2 t)

/-- The point of the tile before in the sequence. -/
def prev (t : Fin cfg0.N) : Fin cfg0.N := ⟨t.val - 43, by omega⟩

/-- The rows carried into a point: zeros where a sequence starts. -/
def carryAt (c : Dev nD) (t : Fin cfg0.N) : Vec F S1x8x512 .f32 :=
  if t.val / 43 % 2 = 0 then k0_pay3 else tailAt m c (prev t)

/-- The block a point writes. -/
def outsAt (c : Dev nD) (t : Fin cfg0.N) : Vec F S2048x256 .bf16 := out (carryAt m c t) (iblk m c 0 t) (iblk m c 1 t) (iblk m c 2 t) (iblk m c 3 t) (iblk m c 4 t) (iblk m c 5 t) (iblk m c 6 t)

/-- Before point `t` the buffer of carried rows holds those of the last 43 points. -/
def Inv (c : Dev nD) (t : ℕ) (x : Vec F S43x8x512 .f32) : Prop :=
  ∀ s : Fin cfg0.N, s.val < t → t ≤ s.val + 43 → slot x s = tailAt m c s

/-- The invariant: the three scratch buffers, the third as `Inv` says, and the generator's register. -/
def inv (c : Dev nD) (t : ℕ) : sProp 𝕄 :=
  iprop((∃ x, owns (c : Thread nD τ) (Memref.whole cc0_scratch0) fullShare x) ∗ (∃ x, owns (c : Thread nD τ) (Memref.whole cc0_scratch1) fullShare x)
    ∗ (∃ x, ⌜Inv m c t x⌝ ∗ owns (c : Thread nD τ) (Memref.whole cc0_scratch2) fullShare x) ∗ ∃ r, prngReg c r)

/-- A buffer at some contents is owned whole at what they read. -/
theorem owns_of_buffer (c : Dev nD) (b : Ref sig .tc) (f : Buf (Elt F) ((c : Thread nD τ).loc b)) :
    (((c : Thread nD τ).loc b) ↦{fullShare} f : sProp 𝕄) ⊢ ∃ x, owns (c : Thread nD τ) (Memref.whole b) fullShare x := by
  unfold owns
  iintro H
  iexists _; iexists f
  isplitr; · ipureintro; rfl
  rw [(Memref.isWhole_whole b).set_eq_univ]
  iexact H

/-- and conversely. -/
theorem buffer_of_owns (c : Dev nD) (b : Ref sig .tc) (x) :
    (owns (c : Thread nD τ) (Memref.whole b) fullShare x : sProp 𝕄) ⊢ ∃ f : Buf (Elt F) ((c : Thread nD τ).loc b), ((c : Thread nD τ).loc b) ↦{fullShare} f := by
  unfold owns
  iintro ⟨%f, -, H⟩
  iexists f
  rw [(Memref.isWhole_whole b).set_eq_univ]
  iexact H

/-- The launch's scratch buffers satisfy the invariant before the first point. -/
theorem inv_start (c : Dev nD) : (Pipeline.ΦA spec0 c : sProp 𝕄) ⊢ inv m c 0 := by
  unfold Pipeline.ΦA inv
  rw [scopedRest0_eq]
  iintro ⟨⟨⟨%f0, H0⟩, ⟨%f1, H1⟩, ⟨%f2, H2⟩⟩, Hr⟩
  isplitl [H0]; · iapply (owns_of_buffer c cc0_scratch0 f0); iexact H0
  isplitl [H1]; · iapply (owns_of_buffer c cc0_scratch1 f1); iexact H1
  isplitl [H2]
  · ihave H2 := (owns_of_buffer c cc0_scratch2 f2) $$ H2
    icases H2 with ⟨%x, H2⟩
    iexists x
    isplitr; · ipureintro; exact fun s hs => absurd hs (Nat.not_lt_zero _)
    iexact H2
  iexact Hr

/-- After the last point the scratch buffers are given back. -/
theorem inv_end (c : Dev nD) (t : ℕ) : inv m c t ⊢ (Pipeline.ΦA spec0 c : sProp 𝕄) := by
  unfold Pipeline.ΦA inv
  rw [scopedRest0_eq]
  iintro ⟨⟨%x0, H0⟩, ⟨%x1, H1⟩, ⟨%x2, -, H2⟩, Hr⟩
  isplitl [H0 H1 H2]
  · isplitl [H0]; · iapply (buffer_of_owns c cc0_scratch0 x0); iexact H0
    isplitl [H1]; · iapply (buffer_of_owns c cc0_scratch1 x1); iexact H1
    iapply (buffer_of_owns c cc0_scratch2 x2); iexact H2
  iexact Hr

/-- Storing a point's rows at its place, whatever was stored there before, keeps the others'. -/
theorem Inv_next {κ : Kind} {sp : Space} (v : View sig κ sp S43x8x512 .f32) (c : Dev nD) (t : Fin cfg0.N) (x : Vec F S43x8x512 .f32) (h : Inv m c t.val x) (f : v.ty.Contents (Elt F))
    (hf : v.read (Elt F) f = x) (L : List (View.Piece (Elt F) S43x8x512 .f32))
    (hL : ∀ p ∈ L, p.1.off 0 = t.val % 43 ∧ p.1.stride 0 = 1 ∧ p.1.size 0 = 1) :
    Inv m c (t.val + 1) (v.read (Elt F) (v.writes (Elt F) f
      (⟨Rect.unit (s := S43x8x512) (k0_off2 (grid0.coords t)) S1x8x512.size (k0_off2_inb (grid0.coords t)), tailAt m c t⟩ :: L))) := by
  intro s hs hs'
  by_cases e : s = t
  · subst e
    funext j
    exact View.read_writes_cons_emb v f (Rect.unit (s := S43x8x512) (k0_off2 (grid0.coords s)) S1x8x512.size (k0_off2_inb (grid0.coords s))) (tailAt m c s) L j
  · have hne : s.val ≠ t.val := fun h => e (Fin.ext h)
    rw [← h s (by omega) (by omega)]
    funext j
    unfold slot
    rw [View.ld_apply, View.ld_apply, ← hf]
    generalize hy : (Rect.unit (s := S43x8x512) (k0_off2 (grid0.coords s)) S1x8x512.size (k0_off2_inb (grid0.coords s))).idx j = y
    have hj : (j 0 : ℕ) < 1 := (j 0).isLt
    have hy0 : (y 0 : ℕ) = s.val % 43 := by
      have h0 : k0_off2 (grid0.coords s) 0 = s.val % 43 := congrFun (off_eq s) 0
      rw [← hy]
      show k0_off2 (grid0.coords s) 0 + 1 * (j 0 : ℕ) = _
      omega
    have hmod : s.val % 43 ≠ t.val % 43 := by omega
    have : ∀ L : List (View.Piece (Elt F) S43x8x512 .f32), (∀ p ∈ L, p.1.off 0 = t.val % 43 ∧ p.1.stride 0 = 1 ∧ p.1.size 0 = 1) →
        v.read (Elt F) (v.writes (Elt F) f L) y = v.read (Elt F) f y := by
      intro L
      induction L with
      | nil => intro _; rfl
      | cons p L ih =>
        intro hp
        obtain ⟨h1, h2, h3⟩ := hp p List.mem_cons_self
        rw [View.read_writes_cons_miss_of_axis _ _ p L y 0 _ _ h1 h2 h3 (by omega)]
        exact ih fun q hq => hp q (List.mem_cons_of_mem _ hq)
    refine this _ ?_
    intro p hp
    rcases List.mem_cons.mp hp with rfl | hp
    · exact ⟨by show k0_off2 (grid0.coords t) 0 = _; rw [off_eq]; rfl, rfl, rfl⟩
    · exact hL p hp

/-- The proof data: the arrays as the region finds them, each input's block in place, the output's block as `outsAt`, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t)
  Φ t := inv m c t.val
  q w := Pipeline.shareOf spec0 w
  owed _ := 0

/-- The proof data's arrays. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
/-- What the body leaves in the output's buffer. -/
theorem after_7 (c : Dev nD) (t : Fin cfg0.N) : (dats m 0 c).after 7 t = outsAt m c t := by dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at a point: the run of its case, and the invariant restored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = inv m c (t.val + 1) from rfl, show (dats m 0 c).Φ t.castSucc = inv m c t.val from rfl,
    show (dats m 0 c).owesAt () t.succ = (dats m 0 c).owesAt () t.castSucc from rfl,
    after_0, after_1, after_2, after_3, after_4, after_5, after_6, after_7]
  unfold inv outsAt out
  by_cases hc : k0_cond1 (grid0.coords t) = 1#1
  · have hz : carryAt m c t = k0_pay3 := by unfold carryAt; rw [if_pos ((cond_iff t).mp hc)]
    rw [hz]
    iintro ⟨⟨⟨%x10, H10⟩, ⟨%x11, H11⟩, ⟨%x12, %hI, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t) _ _ _ _ _ _ _ _ _ _ _ _ _ _ _ _ _ _ _ _ _ _ hc (iblk m c 0 t) (iblk m c 1 t) (iblk m c 2 t) (iblk m c 3 t) (iblk m c 4 t) (iblk m c 5 t) (iblk m c 6 t) x10 x11 x12).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H10]; · iexact H10
    isplitl [H11]; · iexact H11
    isplitl [H12]; · iexact H12
    iintro ⟨H0, H1, H2, H3, H4, H5, H6, ⟨%e7, H7⟩, H10, H11, H12⟩
    isplitl [H10 H11 H12 Hr]
    · isplitl [H10]; · unfold owns; iexists _; iexists _; isplitr; swap; · iexact H10
                       ipureintro; rfl
      isplitl [H11]; · unfold owns; iexists _; iexists _; isplitr; swap; · iexact H11
                       ipureintro; rfl
      isplitl [H12]; swap; · iexact Hr
      iexists _; isplitr; swap
      · unfold owns; iexists _; isplitr; swap; · iexact H12
        ipureintro; rfl
      · ipureintro
        rw [first_tail]
        refine Inv_next m _ c t x12 hI _ (Memref.IsWhole.read_unread _ _) _ ?_
        intro p hp
        rcases List.mem_singleton.mp hp with rfl
        exact ⟨by show k0_off1 (grid0.coords t) 0 = _; exact congrFun (off_eq t) 0, rfl, rfl⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    rw [first_out]
    exact View.read_writes_eq_canon _ _ _ (out_cover _ _ _ _ _ _ _ _)
  · have hn : ¬ t.val / 43 % 2 = 0 := fun h => hc ((cond_iff t).mpr h)
    have hz : carryAt m c t = tailAt m c (prev t) := by unfold carryAt; rw [if_neg hn]
    rw [hz]
    iintro ⟨⟨⟨%x10, H10⟩, ⟨%x11, H11⟩, ⟨%x12, %hI, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runNext c (grid0.coords t) _ _ _ _ _ _ _ _ _ _ _ _ _ _ _ _ _ _ _ _ _ _ hc (iblk m c 0 t) (iblk m c 1 t) (iblk m c 2 t) (iblk m c 3 t) (iblk m c 4 t) (iblk m c 5 t) (iblk m c 6 t) x10 x11 x12).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H10]; · iexact H10
    isplitl [H11]; · iexact H11
    isplitl [H12]; · iexact H12
    iintro ⟨H0, H1, H2, H3, H4, H5, H6, ⟨%e7, H7⟩, H10, H11, H12⟩
    isplitl [H10 H11 H12 Hr]
    · isplitl [H10]; · unfold owns; iexists _; iexists _; isplitr; swap; · iexact H10
                       ipureintro; rfl
      isplitl [H11]; · unfold owns; iexists _; iexists _; isplitr; swap; · iexact H11
                       ipureintro; rfl
      isplitl [H12]; swap; · iexact Hr
      iexists _; isplitr; swap
      · unfold owns; iexists _; isplitr; swap; · iexact H12
        ipureintro; rfl
      · ipureintro
        rw [next_tail]
        exact Inv_next m _ c t x12 hI _ (Memref.IsWhole.read_unread _ _) _ (fun p hp => absurd hp List.not_mem_nil)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    rw [next_out]
    have hs : slot x12 t = tailAt m c (prev t) := by
      rw [← hI (prev t) (by show t.val - 43 < _; omega) (by show _ ≤ t.val - 43 + 43; omega)]
      exact slot_congr x12 t (prev t) (by show _ = (t.val - 43) % 43; omega)
    rw [← hs]
    exact View.read_writes_eq_canon _ _ _ (out_cover _ _ _ _ _ _ _ _)

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- From any memory, every run ends with the arrays as the proof data say and the semaphores at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => inv_start m c) (hout := fun c => inv_end m c _)

/-- The same without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The frame: every run ends with the arguments as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.UpBody

end
-- ==== Proof.UpMath.lean ====
module
public import proofs.«01_k».proof.Proof.Real
@[expose] public section
noncomputable section
namespace Cert.UpMath
open Idealize.ShloMosaic Cert.RealMath

/-! The gated up projection, index by index, over the extended reals. -/

/-- The rows that enter. -/
abbrev Rows := (⟨2, ![8192, 4096]⟩ : Shape).Idx → EReal
/-- The weights; the first of the four is used. -/
abbrev Weights := (⟨3, ![4, 4096, 22016]⟩ : Shape).Idx → EReal
/-- The taps of the convolution. -/
abbrev Taps := (⟨3, ![4, 3, 22016]⟩ : Shape).Idx → EReal
/-- The convolution's bias. -/
abbrev Bias := (⟨2, ![4, 22016]⟩ : Shape).Idx → EReal

variable (h : Rows) (w : Weights) (t : Taps) (b : Bias)

/-- The projection: row `r`, column `c`. -/
def up (r : Fin 8192) (c : Fin 22016) : EReal := ∑ k : Fin 4096, h (ix2 r k) * w (ix3 0 k c)

/-- The projection `d` rows earlier in the same sequence of 4096 rows, zero before its start. -/
def earlier (d : ℕ) (r : Fin 8192) (c : Fin 22016) : EReal :=
  if d ≤ (r : ℕ) % 4096 then up h w ⟨(r : ℕ) - d, by omega⟩ c else 0

/-- The causal convolution of three taps, with its bias. -/
def conv (r : Fin 8192) (c : Fin 22016) : EReal :=
  b (ix2 0 c) + (earlier h w 2 r c * t (ix3 0 0 c) + earlier h w 1 r c * t (ix3 0 1 c) + earlier h w 0 r c * t (ix3 0 2 c))

/-- `x / (1 + exp (-x))`. -/
def silu (x : EReal) : EReal := x * Ideal.div 1 (1 + Ideal.exp (-x))

/-- The result: the gate columns' convolution, through `silu`, times the value columns'. -/
def result (r : Fin 8192) (c : Fin 11008) : EReal :=
  silu (conv h w t b r ⟨c, by omega⟩) * conv h w t b r ⟨11008 + (c : ℕ), by omega⟩

/-- `silu` of a real number through the hyperbolic tangent of its half. -/
theorem silu_tanh {x : EReal} (hx : IsReal x) :
    Ideal.ofBits .f32 0x3F000000#32 * x * Ideal.tanh (Ideal.ofBits .f32 0x3F000000#32 * x) + Ideal.ofBits .f32 0x3F000000#32 * x
      = silu x := by
  lift x to ℝ using ⟨hx.2, hx.1⟩
  have hh : Ideal.ofBits .f32 0x3F000000#32 = ((1 / 2 : ℝ) : EReal) := by
    simp [Ideal.ofBits, Ideal.ieee]
    rw [← EReal.coe_mul]
    norm_num
  have hpos : 0 < Real.exp (-x) := Real.exp_pos _
  have hd : Ideal.div 1 (1 + Ideal.exp (-(x : EReal))) = ((1 / (1 + Real.exp (-x)) : ℝ) : EReal) := by
    have e1 : (1 : EReal) + Ideal.exp (-(x : EReal)) = ((1 + Real.exp (-x) : ℝ) : EReal) := by
      rw [← EReal.coe_neg, Ideal.exp_coe]; norm_cast
    rw [e1, Ideal.div, if_neg (by norm_cast; positivity), one_mul, ← EReal.coe_inv, one_div]
  unfold silu
  rw [hd, hh, ← EReal.coe_mul, Ideal.tanh_coe, ← EReal.coe_mul, ← EReal.coe_add, ← EReal.coe_mul, EReal.coe_eq_coe_iff]
  rw [Real.tanh_eq_sinh_div_cosh, Real.sinh_eq, Real.cosh_eq]
  have e2 : Real.exp (-x) = Real.exp (-(1 / 2 * x)) * Real.exp (-(1 / 2 * x)) := by rw [← Real.exp_add]; ring_nf
  have e3 : Real.exp (1 / 2 * x) * Real.exp (-(1 / 2 * x)) = 1 := by rw [← Real.exp_add]; simp
  have ha : 0 < Real.exp (1 / 2 * x) := Real.exp_pos _
  have hb : 0 < Real.exp (-(1 / 2 * x)) := Real.exp_pos _
  rw [e2]
  generalize Real.exp (1 / 2 * x) = p at *
  generalize Real.exp (-(1 / 2 * x)) = q at *
  have hq : q = p⁻¹ := by field_simp; linarith
  subst hq
  field_simp
  ring

/-- The convolution of real numbers is a real number. -/
theorem conv_isReal (hh : ∀ i, IsReal (h i)) (hw : ∀ i, IsReal (w i)) (ht : ∀ i, IsReal (t i)) (hb : ∀ i, IsReal (b i))
    (r : Fin 8192) (c : Fin 22016) : IsReal (conv h w t b r c) := by
  have hu : ∀ d, IsReal (earlier h w d r c) := by
    intro d
    unfold earlier up
    split
    · exact IsReal.sum _ fun k _ => (hh _).mul (hw _)
    · exact ⟨EReal.zero_ne_bot, EReal.zero_ne_top⟩
  exact (hb _).add ((((hu 2).mul (ht _)).add ((hu 1).mul (ht _))).add ((hu 0).mul (ht _)))
end Cert.UpMath
-- ==== Proof.UpRows.lean ====
module
public import proofs.«01_k».proof.Proof.UpBody
public import proofs.«01_k».proof.Proof.UpMath
@[expose] public section
set_option maxRecDepth 16384
noncomputable section
namespace Cert.UpBody
open Cert.UpIdeal Cert.UpIdeal.Gen Cert.UpMath
open Idealize.ShloMosaic Idealize.ShloMosaic.TcCoe Idealize.SL.Sem

/-! What the up projection's body computes, index by index, over the extended reals. -/

variable (v : Vec Ideal S1x8x512 .f32) (x2 : Vec Ideal S2048x4096 .bf16) (x3 x4 : Vec Ideal S1x4096x256 .f32)

/-! ## The stored values, at an index -/

theorem pay7_at (v0 v1) (i : S512x512.Idx) : k0_pay7 (F := Ideal) v0 v1 i = ∑ k : Fin 2048, v0 (ix2 (i 0) k) * v1 (ix2 k (i 1)) := by
  pointwise [k0_pay7]

theorem pay10_at (v0 v1 v2) (i : S512x512.Idx) :
    k0_pay10 (F := Ideal) v0 v1 v2 i = v2 i + ∑ k : Fin 2048, v0 (ix2 (i 0) k) * v1 (ix2 k (i 1)) := by
  pointwise [k0_pay10]

theorem pay11_at (v0 v1) (i : S512x512.Idx) : k0_pay11 (F := Ideal) v0 v1 i = ∑ k : Fin 4096, v0 (ix2 (i 0) k) * v1 (ix2 k (i 1)) := by
  pointwise [k0_pay11]

theorem pay3_at (i : S1x8x512.Idx) : k0_pay3 (F := Ideal) i = 0 := by
  pointwise [k0_pay3]

theorem pay4_at (w) (i : S8x512.Idx) : k0_pay4 (F := Ideal) w i = w (ix3 0 (i 0) (i 1)) := by
  pointwise [k0_pay4]

theorem pay2_at (w) (i : S1x8x512.Idx) : k0_pay2 (F := Ideal) w i = w (ix2 (i 1) (i 2)) := by
  pointwise [k0_pay2]

/-- The gate as the body computes it, through the hyperbolic tangent. -/
def gated (g x : EReal) : EReal :=
  (Ideal.ofBits .f32 0x3F000000#32 * g * Ideal.tanh (Ideal.ofBits .f32 0x3F000000#32 * g) + Ideal.ofBits .f32 0x3F000000#32 * g) * x

/-- The convolution of 520 rows, the first eight of them those before, at row `r`. -/
def windowConv (x : Vec Ideal S520x256 .f32) (t : Vec Ideal S1x3x256 .f32) (b : Vec Ideal S1x1x256 .f32) (r : Fin 512) (c : Fin 256) : EReal :=
  b (ix3 0 0 c) + (x (ix2 ⟨(r : ℕ) + 6, by omega⟩ c) * t (ix3 0 0 c) + x (ix2 ⟨(r : ℕ) + 7, by omega⟩ c) * t (ix3 0 1 c)
    + x (ix2 ⟨(r : ℕ) + 8, by omega⟩ c) * t (ix3 0 2 c))

theorem glu_at (wg wv x5 x6 x7 x8) (i : S512x256.Idx) :
    glu (F := Ideal) wg wv x5 x6 x7 x8 i = gated (windowConv wg x5 x7 (i 0) (i 1)) (windowConv wv x6 x8 (i 0) (i 1)) := by
  have hi : (i 0 : ℕ) < 512 := (i 0).isLt
  have a6 : ((i 0 : ℕ) + 7 + 520 - 1) % 520 = (i 0 : ℕ) + 6 := by omega
  have a7 : ((i 0 : ℕ) + 8 + 520 - 1) % 520 = (i 0 : ℕ) + 7 := by omega
  have a8 : 8 + (i 0 : ℕ) = (i 0 : ℕ) + 8 := by omega
  unfold glu gated windowConv
  pointwise [k0_pay12, k0_pay13, k0_pay14]
  simp only [a6, a7, a8]

/-- Off the last piece stored, before its first place on some axis, what was stored before is kept. -/
theorem piece_out {s : Shape} {φ : EltTy} (off size : Fin s.rank → ℕ) (inb : ∀ a, off a + size a ≤ s.size a) (w)
    (L : List (View.Piece (Elt Ideal) s φ)) (y : s.Idx) (a : Fin s.rank) (h : (y a : ℕ) < off a) :
    View.canon ((⟨Rect.unit off size inb, w⟩ : View.Piece (Elt Ideal) s φ) :: L) y = View.canon L y := by
  refine View.canon_cons_of_not_mem _ _ fun hm => ?_
  have h2 := ((Rect.mem_set_unit (inb := inb)).mp hm a).1
  omega

/-! ## The weights -/

/-- The weights side by side: gate columns, then value columns. -/
def weight (k : Fin 4096) (c : Fin 512) : EReal :=
  if h : (c : ℕ) < 256 then x3 (ix3 0 k ⟨c, h⟩) else x4 (ix3 0 k ⟨(c : ℕ) - 256, by omega⟩)

/-- All of the cast weights, at an index. -/
theorem weights_at (y : S4096x512.Idx) : View.canon (weightPieces (F := Ideal) x3 x4) y = weight x3 x4 (y 0) (y 1) := by
  unfold weightPieces weightPieces₂ weight
  canon_tiles z h
  case piece0 =>
    rw [dif_neg (by omega)]
    pointwise [k0_pay9]
    exact congrArg x4 ((ix3_inj ..).2 ⟨rfl, Fin.ext h0.symm, Fin.ext (by show (z 1 : ℕ) = y 1 - 256; omega)⟩)
  case piece1 =>
    rw [dif_pos (by omega)]
    pointwise [k0_pay8]
    exact congrArg x3 ((ix3_inj ..).2 ⟨rfl, Fin.ext h0.symm, Fin.ext h1.symm⟩)
  case piece2 =>
    rw [dif_neg (by omega)]
    pointwise [k0_pay6]
    exact congrArg x4 ((ix3_inj ..).2 ⟨rfl, Fin.ext h0.symm, Fin.ext (by show (z 1 : ℕ) = y 1 - 256; omega)⟩)
  case piece3 =>
    rw [dif_pos (by omega)]
    pointwise [k0_pay5]
    exact congrArg x3 ((ix3_inj ..).2 ⟨rfl, Fin.ext h0.symm, Fin.ext h1.symm⟩)

/-- The first half of the cast weights, at an index. -/
theorem weights₂_at (y : S4096x512.Idx) (hy : (y 0 : ℕ) < 2048) :
    View.canon (weightPieces₂ (F := Ideal) x3 x4) y = weight x3 x4 (y 0) (y 1) := by
  refine Eq.trans ?_ (weights_at x3 x4 y)
  unfold weightPieces
  exact ((piece_out _ _ _ _ _ y 0 hy).trans (piece_out _ _ _ _ _ y 0 hy)).symm

/-! ## The product's rows -/

/-- The product of the staged rows and weights. -/
def product (r : Fin 2048) (c : Fin 512) : EReal := ∑ k : Fin 4096, x2 (ix2 r k) * weight x3 x4 k c

/-- The rows kept: the eight carried in, then the product. -/
def row (j : Fin 2056) (c : Fin 512) : EReal :=
  if h : (j : ℕ) < 8 then v (ix3 0 ⟨j, h⟩ c) else product x2 x3 x4 ⟨(j : ℕ) - 8, by omega⟩ c

/-- Where the last stored 512 rows hold the index, they are what is kept there. -/
theorem piece_in (o : ℕ) (inb : ∀ a, (![o, 0] : Fin 2 → ℕ) a + S512x512.size a ≤ S2056x512.size a) (w : Vec Ideal S512x512 .f32)
    (L : List (View.Piece (Elt Ideal) S2056x512 .f32)) (y : S2056x512.Idx) (i : Fin 512) (h : (y 0 : ℕ) = o + i) :
    View.canon ((⟨Rect.unit ![o, 0] S512x512.size inb, w⟩ : View.Piece (Elt Ideal) S2056x512 .f32) :: L) y = w (ix2 i (y 1)) := by
  have e : y = (Rect.unit (s := S2056x512) ![o, 0] S512x512.size inb).emb (ix2 i (y 1)) := by
    funext a
    match a with
    | 0 => exact Fin.ext (by show (y 0 : ℕ) = o + 1 * (i : ℕ); omega)
    | 1 => exact Fin.ext (by show (y 1 : ℕ) = 0 + 1 * (y 1 : ℕ); omega)
  conv_lhs => rw [e]
  exact View.canon_cons_emb _ _ _ _

/-- A product of the staged rows from row `o` on, over all of the weights. -/
theorem full_at (o : ℕ) (inb) (i : Fin 512) (c : Fin 512) (r : Fin 2048) (hr : (r : ℕ) = o + i) :
    k0_pay11 (F := Ideal) (View.ld x2 (Rect.unit (s := S2048x4096) ![o, 0] S512x4096.size inb))
      (View.ld (View.canon (weightPieces (F := Ideal) x3 x4)) (Rect.unit ![0, 0] S4096x512.size inb_S4096x512_S4096x512_0_0)) (ix2 i c)
      = product x2 x3 x4 r c := by
  rw [pay11_at]
  unfold product
  refine Finset.sum_congr rfl fun k _ => congrArg₂ (· * ·) ?_ ?_
  · refine View.ld_unit_apply_of _ _ _ _ _ _ fun a => ?_
    match a with
    | 0 => exact hr
    | 1 => exact (Nat.zero_add _).symm
  · rw [View.ld_unit_apply_of _ _ _ _ _ (ix2 k c) (fun a => by
      match a with
      | 0 => exact (Nat.zero_add _).symm
      | 1 => exact (Nat.zero_add _).symm), weights_at]
    rfl

/-- The first eight rows are those carried in. -/
theorem rows₁_low (y : S2056x512.Idx) (h : (y 0 : ℕ) < 8) :
    View.canon (rows₁ (F := Ideal) v x2 x3 x4) y = v (ix3 0 ⟨y 0, h⟩ (y 1)) := by
  unfold rows₁
  rw [piece_out _ _ _ _ _ y 0 h]
  have e : y = (Rect.unit (s := S2056x512) ![0, 0] S8x512.size inb_S2056x512_S8x512_0_0).emb (ix2 ⟨y 0, h⟩ (y 1)) := by
    funext a
    match a with
    | 0 => exact Fin.ext (by show (y 0 : ℕ) = 0 + 1 * (y 0 : ℕ); omega)
    | 1 => exact Fin.ext (by show (y 1 : ℕ) = 0 + 1 * (y 1 : ℕ); omega)
  conv_lhs => rw [e]
  exact (View.canon_cons_emb _ _ _ _).trans (pay4_at _ _)

/-- The first 512 rows of the product, after its first half. -/
theorem rows₁_half (y : S2056x512.Idx) (i : Fin 512) (h : (y 0 : ℕ) = 8 + i) :
    View.canon (rows₁ (F := Ideal) v x2 x3 x4) y
      = ∑ k : Fin 2048, x2 (ix2 ⟨i, by omega⟩ ⟨k, by omega⟩) * weight x3 x4 ⟨k, by omega⟩ (y 1) := by
  unfold rows₁
  rw [piece_in 8 _ _ _ y i h, pay7_at]
  refine Finset.sum_congr rfl fun k _ => congrArg₂ (· * ·) ?_ ?_
  · refine View.ld_unit_apply_of _ _ _ _ _ _ fun a => ?_
    match a with
    | 0 => exact (Nat.zero_add _).symm
    | 1 => exact (Nat.zero_add _).symm
  · refine (View.ld_unit_apply_of _ _ _ _ _ (ix2 (⟨k, by omega⟩ : Fin 4096) (y 1 : Fin 512) : S4096x512.Idx) fun a => ?_).trans
      (weights₂_at x3 x4 _ k.isLt)
    match a with
    | 0 => exact (Nat.zero_add _).symm
    | 1 => exact (Nat.zero_add _).symm

/-- The rows kept after the first 1024 of the product. -/
theorem rows₃_at (y : S2056x512.Idx) (h : (y 0 : ℕ) < 1032) :
    View.canon (rows₃ (F := Ideal) v x2 x3 x4) y = row v x2 x3 x4 (y 0) (y 1) := by
  unfold rows₃ row
  by_cases h5 : 520 ≤ (y 0 : ℕ)
  · rw [dif_neg (by omega), piece_in 520 _ _ _ y ⟨(y 0 : ℕ) - 520, by omega⟩ (by show (y 0 : ℕ) = 520 + ((y 0 : ℕ) - 520); omega)]
    exact full_at x2 x3 x4 512 _ _ _ _ (by show (y 0 : ℕ) - 8 = 512 + ((y 0 : ℕ) - 520); omega)
  rw [piece_out _ _ _ _ _ y 0 (show (y 0 : ℕ) < 520 by omega)]
  by_cases h8 : 8 ≤ (y 0 : ℕ)
  · have e8 : (y 0 : ℕ) = 8 + ((y 0 : ℕ) - 8) := by omega
    rw [dif_neg (by omega), piece_in 8 _ _ _ y ⟨(y 0 : ℕ) - 8, by omega⟩ e8, pay10_at]
    rw [View.ld_unit_apply_of _ _ _ _ _ y (fun a => by
      match a with
      | 0 => exact e8
      | 1 => exact (Nat.zero_add _).symm), rows₁_half v x2 x3 x4 y ⟨(y 0 : ℕ) - 8, by omega⟩ e8]
    unfold product
    refine Eq.trans ?_ (Fin.sum_univ_add (a := 2048) (b := 2048)
      (fun k : Fin 4096 => x2 (ix2 ⟨(y 0 : ℕ) - 8, by omega⟩ k) * weight x3 x4 k (y 1))).symm
    refine congrArg₂ (· + ·) rfl (Finset.sum_congr rfl fun k _ => congrArg₂ (· * ·) ?_ ?_)
    · refine View.ld_unit_apply_of _ _ _ _ _ _ fun a => ?_
      match a with
      | 0 => exact (Nat.zero_add _).symm
      | 1 => rfl
    · refine (View.ld_unit_apply_of _ _ _ _ _ (ix2 (Fin.natAdd 2048 k : Fin 4096) (y 1 : Fin 512) : S4096x512.Idx) fun a => ?_).trans
        (weights_at x3 x4 _)
      match a with
      | 0 => rfl
      | 1 => exact (Nat.zero_add _).symm
  rw [piece_out _ _ _ _ _ y 0 (show (y 0 : ℕ) < 8 by omega), rows₁_low v x2 x3 x4 y (by omega), dif_pos (by omega)]

/-- The rows kept after the first 1536 of the product. -/
theorem rows₄_at (y : S2056x512.Idx) (h : (y 0 : ℕ) < 1544) :
    View.canon (rows₄ (F := Ideal) v x2 x3 x4) y = row v x2 x3 x4 (y 0) (y 1) := by
  unfold rows₄
  by_cases h5 : 1032 ≤ (y 0 : ℕ)
  · unfold row
    rw [dif_neg (by omega), piece_in 1032 _ _ _ y ⟨(y 0 : ℕ) - 1032, by omega⟩ (by show (y 0 : ℕ) = 1032 + ((y 0 : ℕ) - 1032); omega)]
    exact full_at x2 x3 x4 1024 _ _ _ _ (by show (y 0 : ℕ) - 8 = 1024 + ((y 0 : ℕ) - 1032); omega)
  rw [piece_out _ _ _ _ _ y 0 (show (y 0 : ℕ) < 1032 by omega)]
  exact rows₃_at v x2 x3 x4 y (by omega)

/-- The product's last 512 rows. -/
theorem lastRows_at (i c : Fin 512) (r : Fin 2048) (h : (r : ℕ) = 1536 + i) :
    lastRows (F := Ideal) x2 x3 x4 (ix2 i c) = product x2 x3 x4 r c :=
  full_at x2 x3 x4 1536 _ _ _ _ h

/-- All of the rows kept. -/
theorem rows₅_at (y : S2056x512.Idx) : View.canon (rows₅ (F := Ideal) v x2 x3 x4) y = row v x2 x3 x4 (y 0) (y 1) := by
  have hy : (y 0 : ℕ) < 2056 := (y 0).isLt
  unfold rows₅
  by_cases h5 : 1544 ≤ (y 0 : ℕ)
  · unfold row
    rw [dif_neg (by omega), piece_in 1544 _ _ _ y ⟨(y 0 : ℕ) - 1544, by omega⟩ (by show (y 0 : ℕ) = 1544 + ((y 0 : ℕ) - 1544); omega)]
    exact lastRows_at x2 x3 x4 _ _ _ (by show (y 0 : ℕ) - 8 = 1536 + ((y 0 : ℕ) - 1544); omega)
  rw [piece_out _ _ _ _ _ y 0 (show (y 0 : ℕ) < 1544 by omega)]
  exact rows₄_at v x2 x3 x4 y (by omega)

/-- The rows carried on are the product's last eight. -/
theorem tail_at (i : S1x8x512.Idx) : tail (F := Ideal) x2 x3 x4 i = product x2 x3 x4 ⟨2040 + (i 1 : ℕ), by have : (i 1 : ℕ) < 8 := (i 1).isLt; omega⟩ (i 2) := by
  have hi : (i 1 : ℕ) < 8 := (i 1).isLt
  unfold tail
  rw [pay2_at]
  exact lastRows_at x2 x3 x4 _ _ _ (by show 2040 + (i 1 : ℕ) = 1536 + ((i 1 : ℕ) + 504); omega)

/-! ## The block written -/

/-- The convolution at a row of the block, of a column of the rows kept. -/
def blockConv (t : Vec Ideal S1x3x256 .f32) (b : Vec Ideal S1x1x256 .f32) (p : Fin 2048) (c : Fin 256) (C : Fin 512) : EReal :=
  b (ix3 0 0 c) + (row v x2 x3 x4 ⟨(p : ℕ) + 6, by omega⟩ C * t (ix3 0 0 c) + row v x2 x3 x4 ⟨(p : ℕ) + 7, by omega⟩ C * t (ix3 0 1 c)
    + row v x2 x3 x4 ⟨(p : ℕ) + 8, by omega⟩ C * t (ix3 0 2 c))

/-- The convolution of 520 rows read from those kept. -/
theorem window_at (L : List (View.Piece (Elt Ideal) S2056x512 .f32)) (s : ℕ) (o : ℕ) (inb) (hL : ∀ y : S2056x512.Idx, (y 0 : ℕ) < s + 520 → View.canon L y = row v x2 x3 x4 (y 0) (y 1))
    (t b) (r : Fin 512) (c : Fin 256) (p : Fin 2048) (hp : (p : ℕ) = s + r) (C : Fin 512) (hC : (C : ℕ) = o + c) :
    windowConv (View.ld (View.canon L) (Rect.unit (s := S2056x512) ![s, o] S520x256.size inb)) t b r c = blockConv v x2 x3 x4 t b p c C := by
  have e : ∀ (d : ℕ) (hd : d ≤ 8), View.ld (View.canon L) (Rect.unit (s := S2056x512) ![s, o] S520x256.size inb) (ix2 ⟨(r : ℕ) + d, by show _ < 520; omega⟩ c)
      = row v x2 x3 x4 ⟨(p : ℕ) + d, by omega⟩ C := by
    intro d hd
    rw [View.ld_unit_apply_of _ _ _ _ _ (ix2 ⟨(p : ℕ) + d, by omega⟩ C) (fun a => by
      match a with
      | 0 => show (p : ℕ) + d = s + ((r : ℕ) + d); omega
      | 1 => exact hC), hL _ (by show (p : ℕ) + d < s + 520; omega)]
    rfl
  unfold windowConv blockConv
  rw [← e 6 (by omega), ← e 7 (by omega), ← e 8 (by omega)]

/-- The block written, at an index. -/
theorem out_at (x5 x6 x7 x8) (y : S2048x256.Idx) (p : Fin 2048) (c : Fin 256) (hp : (p : ℕ) = y 0) (hc : (c : ℕ) = y 1) :
    out (F := Ideal) v x2 x3 x4 x5 x6 x7 x8 y
      = gated (blockConv v x2 x3 x4 x5 x7 p c ⟨c, by omega⟩) (blockConv v x2 x3 x4 x6 x8 p c ⟨256 + (c : ℕ), by omega⟩) := by
  have key : ∀ (L : List (View.Piece (Elt Ideal) S2056x512 .f32)) (s : ℕ) (i1 i2) (hL : ∀ y : S2056x512.Idx, (y 0 : ℕ) < s + 520 → View.canon L y = row v x2 x3 x4 (y 0) (y 1))
      (z : S512x256.Idx), (y 0 : ℕ) = s + z 0 → (y 1 : ℕ) = z 1 →
      glu (View.ld (View.canon L) (Rect.unit (s := S2056x512) ![s, 0] S520x256.size i1))
        (View.ld (View.canon L) (Rect.unit (s := S2056x512) ![s, 256] S520x256.size i2)) x5 x6 x7 x8 z
      = gated (blockConv v x2 x3 x4 x5 x7 p c ⟨c, by omega⟩) (blockConv v x2 x3 x4 x6 x8 p c ⟨256 + (c : ℕ), by omega⟩) := by
    intro L s i1 i2 hL z h0 h1
    have hz : z 1 = c := Fin.ext (by omega)
    rw [glu_at, hz, window_at v x2 x3 x4 L s 0 i1 hL x5 x7 (z 0) c p (by omega) ⟨c, by omega⟩ (Nat.zero_add _).symm,
      window_at v x2 x3 x4 L s 256 i2 hL x6 x8 (z 0) c p (by omega) ⟨256 + (c : ℕ), by omega⟩ rfl]
  unfold out outPieces
  canon_tiles z h
  case piece0 => exact key _ 1536 _ _ (fun y _ => rows₅_at v x2 x3 x4 y) z h0 h1
  case piece1 => exact key _ 1024 _ _ (fun y _ => rows₅_at v x2 x3 x4 y) z h0 h1
  case piece2 => exact key _ 512 _ _ (fun y hy => rows₄_at v x2 x3 x4 y (by omega)) z h0 h1
  case piece3 => exact key _ 0 _ _ (fun y hy => rows₃_at v x2 x3 x4 y (by omega)) z (by omega) h1
end Cert.UpBody
-- ==== Proof.UpPoint.lean ====
module
public import proofs.«01_k».proof.Proof.UpFrame
public import proofs.«01_k».proof.Proof.UpRows
@[expose] public section
set_option maxRecDepth 16384
noncomputable section
namespace Cert.UpBody
open Cert.UpIdeal Cert.UpIdeal.Gen Cert.UpMath Cert.RealMath
open Idealize.ShloMosaic Idealize.ShloMosaic.TcCoe Idealize.SL.Sem

/-! The up projection's output, index by index. -/

variable (m : (ℓ : Loc nD τ sig) → Buf (Elt Ideal) ℓ)

/-- The blocks the windows stage at a point, in closed form. -/
theorem idx : ∀ t : Fin cfg0.N, win0_0.index t = ![t.val / 43, 0]
    ∧ win0_1.index t = ![0, 0, t.val % 43] ∧ win0_2.index t = ![0, 0, 43 + t.val % 43]
    ∧ win0_3.index t = ![0, 0, t.val % 43] ∧ win0_4.index t = ![0, 0, 43 + t.val % 43]
    ∧ win0_5.index t = ![0, 0, t.val % 43] ∧ win0_6.index t = ![0, 0, 43 + t.val % 43]
    ∧ win0_7.index t = ![t.val / 43, t.val % 43] :=
  (by decide +kernel : ∀ t : Fin grid0.N, _)

variable (c : Dev nD) (t : Fin cfg0.N)

/-- The rows on device `c`. -/
abbrev H : Rows := m ((c.tc : Thread nD τ).loc main_arg0)
/-- The weights on device `c`. -/
abbrev W : Weights := m ((c.tc : Thread nD τ).loc main_arg1)
/-- The taps on device `c`. -/
abbrev T : Taps := m ((c.tc : Thread nD τ).loc main_arg2)
/-- The bias on device `c`. -/
abbrev B : Bias := m ((c.tc : Thread nD τ).loc main_arg3)

/-- The grid has 172 points. -/
theorem point_lt : t.val < 172 := t.isLt

/-- The row of the whole product that a point's row `p` is. -/
def rowOf (p : Fin 2048) : Fin 8192 := ⟨t.val / 43 * 2048 + p, by have := point_lt t; omega⟩
/-- The column of the whole product that a point's column `C` is. -/
def colOf (C : Fin 512) : Fin 22016 :=
  if (C : ℕ) < 256 then ⟨t.val % 43 * 256 + C, by omega⟩ else ⟨11008 + (t.val % 43 * 256 + ((C : ℕ) - 256)), by omega⟩

/-- The staged rows. -/
theorem h_at (r : Fin 2048) (k : Fin 4096) : iblk m c 0 t (ix2 r k) = H m c (ix2 (rowOf t r) k) := by
  unfold rowOf
  blk_point [iblk, V, idx t]

/-- The staged weights. -/
theorem weight_at (k : Fin 4096) (C : Fin 512) : weight (iblk m c 1 t) (iblk m c 2 t) k C = W m c (ix3 0 k (colOf t C)) := by
  unfold weight colOf
  split <;> blk_point [iblk, V, idx t]

/-- The product computed at a point. -/
theorem product_at (r : Fin 2048) (C : Fin 512) :
    product (iblk m c 0 t) (iblk m c 1 t) (iblk m c 2 t) r C = up (H m c) (W m c) (rowOf t r) (colOf t C) := by
  unfold product up
  exact Finset.sum_congr rfl fun k _ => congrArg₂ (· * ·) (h_at m c t r k) (weight_at m c t k C)

/-- The rows carried into a point that does not start a sequence: the product's last eight before its own. -/
theorem carry_at (j : Fin 8) (C : Fin 512) (ht : ¬ t.val / 43 % 2 = 0) (r : Fin 8192) (hr : (r : ℕ) + 8 = t.val / 43 * 2048 + j) :
    carryAt m c t (ix3 0 j C) = up (H m c) (W m c) r (colOf t C) := by
  have hp : (prev t).val = t.val - 43 := rfl
  have e1 : colOf (prev t) C = colOf t C := by
    unfold colOf
    simp only [show (prev t).val % 43 = t.val % 43 by omega]
  unfold carryAt
  rw [if_neg ht]
  unfold tailAt
  rw [tail_at]
  refine (product_at m c (prev t) ⟨2040 + (j : ℕ), by omega⟩ C).trans (congrArg₂ (up (H m c) (W m c)) (Fin.ext ?_) e1)
  show (prev t).val / 43 * 2048 + (2040 + (j : ℕ)) = r
  omega

/-- The rows kept, at a row `d` before row `p` of the point's block. -/
theorem row_at (p : Fin 2048) (d : ℕ) (hd : d ≤ 2) (C : Fin 512) :
    row (carryAt m c t) (iblk m c 0 t) (iblk m c 1 t) (iblk m c 2 t) ⟨(p : ℕ) + (8 - d), by omega⟩ C
      = earlier (H m c) (W m c) d (rowOf t p) (colOf t C) := by
  have h0 : (rowOf t p).val = t.val / 43 * 2048 + p := rfl
  unfold row earlier
  by_cases hp : d ≤ (p : ℕ)
  · rw [dif_neg (show ¬ (p : ℕ) + (8 - d) < 8 by omega), if_pos (by omega), product_at]
    exact congrArg (fun r => up (H m c) (W m c) r (colOf t C)) (Fin.ext (by show t.val / 43 * 2048 + ((p : ℕ) + (8 - d) - 8) = t.val / 43 * 2048 + p - d; omega))
  rw [dif_pos (show (p : ℕ) + (8 - d) < 8 by omega)]
  by_cases ht : t.val / 43 % 2 = 0
  · rw [if_neg (by omega)]
    unfold carryAt
    rw [if_pos ht, pay3_at]
  · rw [if_pos (by omega), carry_at m c t _ _ ht _]
    show t.val / 43 * 2048 + (p : ℕ) - d + 8 = t.val / 43 * 2048 + ((p : ℕ) + (8 - d))
    omega

/-- The convolution at a point, from taps and bias staged for the column. -/
theorem blockConv_at (x : Vec Ideal S1x3x256 .f32) (b : Vec Ideal S1x1x256 .f32) (p : Fin 2048) (q : Fin 256) (C : Fin 512)
    (hx : ∀ k, x (ix3 0 k q) = T m c (ix3 0 k (colOf t C))) (hb : b (ix3 0 0 q) = B m c (ix2 0 (colOf t C))) :
    blockConv (carryAt m c t) (iblk m c 0 t) (iblk m c 1 t) (iblk m c 2 t) x b p q C
      = conv (H m c) (W m c) (T m c) (B m c) (rowOf t p) (colOf t C) := by
  unfold blockConv conv
  rw [hx, hx, hx, hb, ← row_at m c t p 2 (by omega), ← row_at m c t p 1 (by omega), ← row_at m c t p 0 (by omega)]

/-- The gate's taps. -/
theorem gateTap_at (k : Fin 3) (q : Fin 256) : iblk m c 3 t (ix3 0 k q) = T m c (ix3 0 k (colOf t ⟨q, by omega⟩)) := by
  unfold colOf
  rw [if_pos q.isLt]
  blk_point [iblk, V, idx t]

/-- The value's taps. -/
theorem valueTap_at (k : Fin 3) (q : Fin 256) : iblk m c 4 t (ix3 0 k q) = T m c (ix3 0 k (colOf t ⟨256 + (q : ℕ), by omega⟩)) := by
  unfold colOf
  rw [if_neg (show ¬ 256 + (q : ℕ) < 256 by omega)]
  blk_point [iblk, V, idx t]

/-- The gate's bias. -/
theorem gateBias_at (q : Fin 256) : iblk m c 5 t (ix3 0 0 q) = B m c (ix2 0 (colOf t ⟨q, by omega⟩)) := by
  unfold colOf
  rw [if_pos q.isLt]
  blk_point [iblk, V, hostOps0, idx t]

/-- The value's bias. -/
theorem valueBias_at (q : Fin 256) : iblk m c 6 t (ix3 0 0 q) = B m c (ix2 0 (colOf t ⟨256 + (q : ℕ), by omega⟩)) := by
  unfold colOf
  rw [if_neg (show ¬ 256 + (q : ℕ) < 256 by omega)]
  blk_point [iblk, V, hostOps0, idx t]

/-- The arguments on device `c` are real numbers. -/
def Fit : Prop := (∀ i, IsReal (H m c i)) ∧ (∀ i, IsReal (W m c i)) ∧ (∀ i, IsReal (T m c i)) ∧ (∀ i, IsReal (B m c i))

/-- What a point writes, at an index. -/
theorem outsAt_at (hf : Fit m c) (y : S2048x256.Idx) (r : Fin 8192) (C : Fin 11008) (hr : (r : ℕ) = t.val / 43 * 2048 + (y 0 : ℕ))
    (hC : (C : ℕ) = t.val % 43 * 256 + (y 1 : ℕ)) : outsAt m c t y = result (H m c) (W m c) (T m c) (B m c) r C := by
  have hy : (y 1 : ℕ) < 256 := (y 1).isLt
  have er : rowOf t (y 0) = r := Fin.ext hr.symm
  have eg : colOf t ⟨(y 1 : ℕ), by omega⟩ = ⟨C, by omega⟩ := by
    unfold colOf
    rw [if_pos hy]
    exact Fin.ext hC.symm
  have ev : colOf t ⟨256 + (y 1 : ℕ), by omega⟩ = ⟨11008 + (C : ℕ), by omega⟩ := by
    unfold colOf
    rw [if_neg (show ¬ 256 + (y 1 : ℕ) < 256 by omega)]
    exact Fin.ext (by show 11008 + (t.val % 43 * 256 + (256 + (y 1 : ℕ) - 256)) = 11008 + (C : ℕ); omega)
  unfold outsAt
  rw [out_at _ _ _ _ _ _ _ _ y (y 0) (y 1) rfl rfl,
    blockConv_at m c t _ _ (y 0) (y 1) ⟨(y 1 : ℕ), by omega⟩ (fun k => gateTap_at m c t k (y 1)) (gateBias_at m c t (y 1)),
    blockConv_at m c t _ _ (y 0) (y 1) ⟨256 + (y 1 : ℕ), by omega⟩ (fun k => valueTap_at m c t k (y 1)) (valueBias_at m c t (y 1)),
    er, eg, ev]
  unfold gated result
  rw [silu_tanh (conv_isReal _ _ _ _ hf.1 hf.2.1 hf.2.2.1 hf.2.2.2 _ _)]

/-- The kernel's output, index by index. -/
theorem final (hf : Fit m c) : (dats m 0 c).arrAt 7 (cfgs 0).N
    = fun i => result (H m c) (W m c) (T m c) (B m c) ⟨(i 0 : ℕ), (i 0).isLt⟩ ⟨(i 1 : ℕ), (i 1).isLt⟩ := by
  refine (dats m 0 c).arrAt_eq_of_covers 7 _ (by decide +kernel) fun t _ y => ?_
  blk_simp
  rw [after_7]
  refine outsAt_at m c t hf y _ _ ?_ ?_ <;> (blk_simp [idx t] <;> try (simp only []; omega))

end Cert.UpBody
-- ==== Proof.UpRef.lean ====
module
public import proofs.«01_k».proof.Proof.Gen.UpRefIdeal.Read
public import proofs.«01_k».proof.Proof.UpMath
@[expose] public section
set_option maxRecDepth 16384
noncomputable section
namespace Cert.UpRefIdeal.Point
open Idealize.ShloMosaic Idealize.ShloMosaic.TcCoe Idealize.SL.Sem
open Cert.UpRefIdeal Cert.UpRefIdeal.Read Cert.UpMath
variable (h : FVec Ideal S8192x4096 .bf16) (w : FVec Ideal S4x4096x22016 .f32) (t : FVec Ideal S4x3x22016 .f32) (b : FVec Ideal S4x22016 .f32)

/-! The reference, read index by index. -/

/-- The projection. -/
theorem up_at (r : Fin 8192) (c : Fin 22016) : val_main_v3 (F := Ideal) h w (ix2 r c) = up h w r c := by
  unfold up
  pointwise [val_main_v3, val_main_v2, val_main_v1, val_main_v0]

/-- The projection with two rows of zeros before each sequence: row `p - d`, `d` at most two, of the sequence. -/
theorem pad_at (s : Fin 2) (p : Fin 4096) (d : ℕ) (hd : d ≤ 2) (c : Fin 22016) :
    val_main_v5 (F := Ideal) h w (ix3 s ⟨(2 - d) + (p : ℕ), by omega⟩ c) = earlier h w d ⟨(s : ℕ) * 4096 + p, by omega⟩ c := by
  unfold val_main_v5 val_main_v4
  have e := up_at h w
  generalize val_main_v3 (F := Ideal) h w = y at e
  pointwise [val_main_call0_v0, val_main_c]
  unfold earlier
  by_cases hdp : d ≤ (p : ℕ)
  · rw [dif_pos (by omega), if_pos (show d ≤ ((s : ℕ) * 4096 + p) % 4096 by omega), e]
    exact congrArg (fun r => up h w r c) (Fin.ext (by show (s : ℕ) * 4096 + (2 - d + (p : ℕ) - 2) = (s : ℕ) * 4096 + p - d; omega))
  · rw [dif_neg (by omega), if_neg (show ¬ d ≤ ((s : ℕ) * 4096 + p) % 4096 by omega)]
    show (((0#32 : BitVec 32).toInt : ℝ) : EReal) = 0
    simp

/-- The convolution. -/
theorem conv_at (s : Fin 2) (p : Fin 4096) (c : Fin 22016) :
    val_main_v32 (F := Ideal) h w t b (ix3 s p c) = conv h w t b ⟨(s : ℕ) * 4096 + p, by omega⟩ c := by
  have e2 := pad_at h w s p 2 (by omega) c
  have e1 := pad_at h w s p 1 (by omega) c
  have e0 := pad_at h w s p 0 (by omega) c
  unfold conv
  rw [← e2, ← e1, ← e0]
  unfold val_main_v32 val_main_v29 val_main_v28 val_main_v23 val_main_v22 val_main_v21 val_main_v16 val_main_v15 val_main_v13 val_main_v8
  generalize val_main_v5 (F := Ideal) h w = y
  pointwise [val_main_v31, val_main_v30, val_main_v7, val_main_v6, val_main_v27, val_main_v26, val_main_v25, val_main_v24, val_main_v20, val_main_v19, val_main_v18, val_main_v17, val_main_v14, val_main_v12, val_main_v11, val_main_v10, val_main_v9, val_main_cst]

/-- The result. -/
theorem out_at (i : S8192x11008.Idx) : val_main_v38 (F := Ideal) h w t b i = result h w t b (i 0) (i 1) := by
  have hi : ((i 0 : ℕ) / 4096) * 4096 + (i 0 : ℕ) % 4096 = i 0 := by omega
  unfold val_main_v38 val_main_v37 val_main_v36 val_main_v35 val_main_v34 val_main_v33 val_main_call1_v5 val_main_call1_v3 val_main_call1_v1 val_main_call1_v0 val_main_v33
  have e := conv_at h w t b
  generalize val_main_v32 (F := Ideal) h w t b = y at e
  pointwise [val_main_call1_v4, val_main_call1_v2, val_main_call1_cst_0, val_main_call1_cst]
  rw [e, e]
  unfold result silu
  simp only [hi]
  rfl
end Cert.UpRefIdeal.Point
-- ==== Proof.lean ====
module

public import proofs.«01_k».proof.Defs
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.SwaIdeal.Value
public import proofs.«01_k».proof.Proof.Gen.SwaRefIdeal.Run
public import proofs.«01_k».proof.Proof.Gen.SwaRefIdeal.Read
public import proofs.«01_k».proof.Proof.Gen.Pre_swa_finite
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.FoxIn
public import proofs.«01_k».proof.Proof.Gen.FoxIn.Skeleton
public import proofs.«01_k».proof.Proof.Gen.FoxIn.Launch
public import proofs.«01_k».proof.Proof.Gen.FoxIn.Points
public import proofs.«01_k».proof.Proof.Gen.FoxIn.Frame
public import proofs.«01_k».proof.Proof.Gen.FoxInIdeal
public import proofs.«01_k».proof.Proof.Gen.FoxInIdeal.Skeleton
public import proofs.«01_k».proof.Proof.Gen.FoxInIdeal.Launch
public import proofs.«01_k».proof.Proof.Gen.FoxInIdeal.Points
public import proofs.«01_k».proof.Proof.Gen.FoxInIdeal.Frame
public import proofs.«01_k».proof.Proof.Gen.FoxInIdeal.Value
public import proofs.«01_k».proof.Proof.Gen.FoxInRefIdeal
public import proofs.«01_k».proof.Proof.Gen.FoxInRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_up_finite
public import proofs.«01_k».proof.Proof.Gen.FoxInRefIdeal.Read
public import proofs.«01_k».proof.Proof.DownPoint
public import proofs.«01_k».proof.Proof.OutPoint
public import proofs.«01_k».proof.Proof.LastDownPoint
public import proofs.«01_k».proof.Proof.FoxInPoint
public import proofs.«01_k».proof.Proof.SwaPoint
public import proofs.«01_k».proof.Proof.SwaRef
public import proofs.«01_k».proof.Proof.Gen.LastDown
public import proofs.«01_k».proof.Proof.Gen.LastDown.Skeleton
public import proofs.«01_k».proof.Proof.Gen.LastDown.Launch
public import proofs.«01_k».proof.Proof.Gen.LastDown.Points
public import proofs.«01_k».proof.Proof.Gen.LastDown.Frame
public import proofs.«01_k».proof.Proof.Gen.LastDownIdeal
public import proofs.«01_k».proof.Proof.Gen.LastDownIdeal.Skeleton
public import proofs.«01_k».proof.Proof.Gen.LastDownIdeal.Launch
public import proofs.«01_k».proof.Proof.Gen.LastDownIdeal.Points
public import proofs.«01_k».proof.Proof.Gen.LastDownIdeal.Frame
public import proofs.«01_k».proof.Proof.Gen.LastDownIdeal.Value
public import proofs.«01_k».proof.Proof.Gen.LastDownRefIdeal
public import proofs.«01_k».proof.Proof.Gen.LastDownRefIdeal.Run
public import proofs.«01_k».proof.Proof.Gen.LastDownRefIdeal.Read
public import proofs.«01_k».proof.Proof.Gen.SwaIn
public import proofs.«01_k».proof.Proof.Gen.SwaIn.Skeleton
public import proofs.«01_k».proof.Proof.Gen.SwaIn.Launch
public import proofs.«01_k».proof.Proof.Gen.SwaIn.Points
public import proofs.«01_k».proof.Proof.Gen.SwaIn.Frame
public import proofs.«01_k».proof.Proof.Gen.SwaInIdeal
public import proofs.«01_k».proof.Proof.Gen.SwaInIdeal.Skeleton
public import proofs.«01_k».proof.Proof.Gen.SwaInIdeal.Launch
public import proofs.«01_k».proof.Proof.Gen.SwaInIdeal.Points
public import proofs.«01_k».proof.Proof.Gen.SwaInIdeal.Frame
public import proofs.«01_k».proof.Proof.Gen.SwaInIdeal.Value
public import proofs.«01_k».proof.Proof.Gen.SwaInRefIdeal
public import proofs.«01_k».proof.Proof.Gen.SwaInRefIdeal.Run
public import proofs.«01_k».proof.Proof.Gen.SwaInRefIdeal.Read
public import proofs.«01_k».proof.Proof.Gen.DsaIn
public import proofs.«01_k».proof.Proof.Gen.DsaIn.Skeleton
public import proofs.«01_k».proof.Proof.Gen.DsaIn.Launch
public import proofs.«01_k».proof.Proof.Gen.DsaIn.Points
public import proofs.«01_k».proof.Proof.Gen.DsaIn.Frame
public import proofs.«01_k».proof.Proof.Gen.DsaInIdeal
public import proofs.«01_k».proof.Proof.Gen.DsaInIdeal.Skeleton
public import proofs.«01_k».proof.Proof.Gen.DsaInIdeal.Launch
public import proofs.«01_k».proof.Proof.Gen.DsaInIdeal.Points
public import proofs.«01_k».proof.Proof.Gen.DsaInIdeal.Frame
public import proofs.«01_k».proof.Proof.Gen.DsaInIdeal.Value
public import proofs.«01_k».proof.Proof.Gen.DsaInRefIdeal
public import proofs.«01_k».proof.Proof.Gen.DsaInRefIdeal.Run
public import proofs.«01_k».proof.Proof.Gen.DsaInRefIdeal.Read
public import proofs.«01_k».proof.Proof.Gen.DsaIn2
public import proofs.«01_k».proof.Proof.Gen.DsaIn2.Skeleton
public import proofs.«01_k».proof.Proof.Gen.DsaIn2.Launch
public import proofs.«01_k».proof.Proof.Gen.DsaIn2.Points
public import proofs.«01_k».proof.Proof.Gen.DsaIn2.Frame
public import proofs.«01_k».proof.Proof.Gen.DsaIn2Ideal
public import proofs.«01_k».proof.Proof.Gen.DsaIn2Ideal.Skeleton
public import proofs.«01_k».proof.Proof.Gen.DsaIn2Ideal.Launch
public import proofs.«01_k».proof.Proof.Gen.DsaIn2Ideal.Points
public import proofs.«01_k».proof.Proof.Gen.DsaIn2Ideal.Frame
public import proofs.«01_k».proof.Proof.Gen.DsaIn2Ideal.Value
public import proofs.«01_k».proof.Proof.Gen.DsaIn2RefIdeal
public import proofs.«01_k».proof.Proof.Gen.DsaIn2RefIdeal.Run
public import proofs.«01_k».proof.Proof.Gen.DsaIn2RefIdeal.Read
public import proofs.«01_k».proof.Proof.SwaInPoint
public import proofs.«01_k».proof.Proof.DsaInPoint
public import proofs.«01_k».proof.Proof.DsaIn2Point
public import proofs.«01_k».proof.Proof.UpFrame0
public import proofs.«01_k».proof.Proof.UpPoint
public import proofs.«01_k».proof.Proof.UpRef
public import proofs.«01_k».proof.Proof.Real
public import Idealize.ShloMosaic.Adequacy
public import Idealize.ShloMosaic.Init

@[expose] public section

set_option maxRecDepth 16384

noncomputable section

namespace Cert.Proof

open Idealize.ShloMosaic Idealize.SL.Sem Cert.Swa

/-- The precondition says that queries and keys are real numbers and that no sink is plus infinity. -/
theorem swa_fit (m) (h : Pre_SwaIdeal_swa_finite m) (c : Dev Cert.SwaIdeal.nD) :
    Cert.SwaRefIdeal.Point.Fit (m ((c.tc : Thread Cert.SwaIdeal.nD Cert.SwaIdeal.τ).loc Cert.SwaIdeal.main_arg0))
      (m ((c.tc : Thread Cert.SwaIdeal.nD Cert.SwaIdeal.τ).loc Cert.SwaIdeal.main_arg1)) := by
  refine ⟨fun b s e he => ?_, fun h' => ?_⟩
  · have h1 := congrFun (h c).1 (ix3 b s ⟨e, he⟩)
    refine Cert.RealMath.isReal_of_abs_lt (Eq.trans ?_ h1)
    pointwise [Cert.Pre_swa_finite.fn]
    rfl
  · have h1 := congrFun (h c).2 (ix1 h')
    exact Cert.RealMath.ne_top_of_lt h1

/-- The reference of the attention runs, leaves its arguments as they were and every semaphore at zero. -/
theorem swaRef_frame (m) (ρ : Dev Cert.SwaRefIdeal.nD → PrngReg) :
    θ_run (Cert.SwaRefIdeal.defs (F := Ideal)) (onTc (τ := Cert.SwaRefIdeal.τ) (Cert.SwaRefIdeal.main (F := Ideal))) ⟨m, fun _ => 0, ρ⟩
      fun r => (∀ c : Dev Cert.SwaRefIdeal.nD,
        r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
        ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0 :=
  (θ_run _ _ _).mono (fun r h => ⟨fun c => (h c).2, sem_eq_zero_of_no_sems (by decide) _⟩) (Cert.SwaRefIdeal.Value.run m ρ)

/-- The reference of the feed-forward down projection runs, leaves its arguments as they were and every semaphore at zero. -/
theorem downRef_frame (m) (ρ : Dev Cert.DownRefIdeal.nD → PrngReg) :
    θ_run (Cert.DownRefIdeal.defs (F := Ideal)) (onTc (τ := Cert.DownRefIdeal.τ) (Cert.DownRefIdeal.main (F := Ideal))) ⟨m, fun _ => 0, ρ⟩
      fun r => (∀ c : Dev Cert.DownRefIdeal.nD,
        r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
        ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
        ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
        ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0 :=
  (θ_run _ _ _).mono (fun r h => ⟨fun c => (h c).2.2.2, sem_eq_zero_of_no_sems (by decide) _⟩) (Cert.DownRefIdeal.Value.run m ρ)

/-- The reference of the output projection runs, leaves its arguments as they were and every semaphore at zero. -/
theorem outRef_frame (m) (ρ : Dev Cert.OutRefIdeal.nD → PrngReg) :
    θ_run (Cert.OutRefIdeal.defs (F := Ideal)) (onTc (τ := Cert.OutRefIdeal.τ) (Cert.OutRefIdeal.main (F := Ideal))) ⟨m, fun _ => 0, ρ⟩
      fun r => (∀ c : Dev Cert.OutRefIdeal.nD,
        r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
        ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
        ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0 :=
  (θ_run _ _ _).mono (fun r h => ⟨fun c => (h c).2, sem_eq_zero_of_no_sems (by decide) _⟩) (Cert.OutRefIdeal.Value.run m ρ)

/-- The reference of the forgetting attention's input projection runs, leaves its arguments as they were and every semaphore at zero. -/
theorem foxInRef_frame (m) (ρ : Dev Cert.FoxInRefIdeal.nD → PrngReg) :
    θ_run (Cert.FoxInRefIdeal.defs (F := Ideal)) (onTc (τ := Cert.FoxInRefIdeal.τ) (Cert.FoxInRefIdeal.main (F := Ideal))) ⟨m, fun _ => 0, ρ⟩
      fun r => (∀ c : Dev Cert.FoxInRefIdeal.nD,
        r.2.mem ((c.tc : Thread Cert.FoxInRefIdeal.nD Cert.FoxInRefIdeal.τ).loc Cert.FoxInRefIdeal.main_arg0) = m ((c.tc : Thread Cert.FoxInRefIdeal.nD Cert.FoxInRefIdeal.τ).loc Cert.FoxInRefIdeal.main_arg0)
        ∧ r.2.mem ((c.tc : Thread Cert.FoxInRefIdeal.nD Cert.FoxInRefIdeal.τ).loc Cert.FoxInRefIdeal.main_arg1) = m ((c.tc : Thread Cert.FoxInRefIdeal.nD Cert.FoxInRefIdeal.τ).loc Cert.FoxInRefIdeal.main_arg1)
        ∧ r.2.mem ((c.tc : Thread Cert.FoxInRefIdeal.nD Cert.FoxInRefIdeal.τ).loc Cert.FoxInRefIdeal.main_arg2) = m ((c.tc : Thread Cert.FoxInRefIdeal.nD Cert.FoxInRefIdeal.τ).loc Cert.FoxInRefIdeal.main_arg2))
      ∧ r.2.sem = fun _ => 0 :=
  (θ_run _ _ _).mono (fun r h => ⟨fun c => (h c).2, sem_eq_zero_of_no_sems (by decide) _⟩) (Cert.FoxInRefIdeal.Value.run m ρ)

/-- The precondition says that the up projection's arguments are real numbers. -/
theorem up_fit (m) (h : Pre_UpIdeal_up_finite m) (c : Dev Cert.UpIdeal.nD) : Cert.UpBody.Fit m c := by
  refine ⟨fun i => ?_, fun i => ?_, fun i => ?_, fun i => ?_⟩
  · exact Cert.RealMath.isReal_of_abs_lt (congrFun (h c).1 i)
  · exact Cert.RealMath.isReal_of_abs_lt (congrFun (h c).2.1 i)
  · exact Cert.RealMath.isReal_of_abs_lt (congrFun (h c).2.2.1 i)
  · exact Cert.RealMath.isReal_of_abs_lt (congrFun (h c).2.2.2 i)

/-- The reference of the feed-forward up projection runs, leaves its arguments as they were and every semaphore at zero. -/
theorem upRef_frame (m) (ρ : Dev Cert.UpRefIdeal.nD → PrngReg) :
    θ_run (Cert.UpRefIdeal.defs (F := Ideal)) (onTc (τ := Cert.UpRefIdeal.τ) (Cert.UpRefIdeal.main (F := Ideal))) ⟨m, fun _ => 0, ρ⟩
      fun r => (∀ c : Dev Cert.UpRefIdeal.nD,
        r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
        ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
        ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
        ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0 :=
  (θ_run _ _ _).mono (fun r h => ⟨fun c => (h c).2, sem_eq_zero_of_no_sems (by decide) _⟩) (Cert.UpRefIdeal.Value.run m ρ)

/-- The reference of the last layer's down projection runs, leaves its arguments as they were and every semaphore at zero. -/
theorem lastDownRef_frame (m) (ρ : Dev Cert.LastDownRefIdeal.nD → PrngReg) :
    θ_run (Cert.LastDownRefIdeal.defs (F := Ideal)) (onTc (τ := Cert.LastDownRefIdeal.τ) (Cert.LastDownRefIdeal.main (F := Ideal))) ⟨m, fun _ => 0, ρ⟩
      fun r => (∀ c : Dev Cert.LastDownRefIdeal.nD,
        r.2.mem ((c.tc : Thread Cert.LastDownRefIdeal.nD Cert.LastDownRefIdeal.τ).loc Cert.LastDownRefIdeal.main_arg0) = m ((c.tc : Thread Cert.LastDownRefIdeal.nD Cert.LastDownRefIdeal.τ).loc Cert.LastDownRefIdeal.main_arg0)
        ∧ r.2.mem ((c.tc : Thread Cert.LastDownRefIdeal.nD Cert.LastDownRefIdeal.τ).loc Cert.LastDownRefIdeal.main_arg1) = m ((c.tc : Thread Cert.LastDownRefIdeal.nD Cert.LastDownRefIdeal.τ).loc Cert.LastDownRefIdeal.main_arg1)
        ∧ r.2.mem ((c.tc : Thread Cert.LastDownRefIdeal.nD Cert.LastDownRefIdeal.τ).loc Cert.LastDownRefIdeal.main_arg2) = m ((c.tc : Thread Cert.LastDownRefIdeal.nD Cert.LastDownRefIdeal.τ).loc Cert.LastDownRefIdeal.main_arg2))
      ∧ r.2.sem = fun _ => 0 :=
  (θ_run _ _ _).mono (fun r h => ⟨fun c => (h c).2, sem_eq_zero_of_no_sems (by decide) _⟩) (Cert.LastDownRefIdeal.Value.run m ρ)

/-- The reference of the sliding-window attention's input projection runs, leaves its arguments as they were and every semaphore at zero. -/
theorem swaInRef_frame (m) (ρ : Dev Cert.SwaInRefIdeal.nD → PrngReg) :
    θ_run (Cert.SwaInRefIdeal.defs (F := Ideal)) (onTc (τ := Cert.SwaInRefIdeal.τ) (Cert.SwaInRefIdeal.main (F := Ideal))) ⟨m, fun _ => 0, ρ⟩
      fun r => (∀ c : Dev Cert.SwaInRefIdeal.nD,
        r.2.mem ((c.tc : Thread Cert.SwaInRefIdeal.nD Cert.SwaInRefIdeal.τ).loc Cert.SwaInRefIdeal.main_arg0) = m ((c.tc : Thread Cert.SwaInRefIdeal.nD Cert.SwaInRefIdeal.τ).loc Cert.SwaInRefIdeal.main_arg0)
        ∧ r.2.mem ((c.tc : Thread Cert.SwaInRefIdeal.nD Cert.SwaInRefIdeal.τ).loc Cert.SwaInRefIdeal.main_arg1) = m ((c.tc : Thread Cert.SwaInRefIdeal.nD Cert.SwaInRefIdeal.τ).loc Cert.SwaInRefIdeal.main_arg1)
        ∧ r.2.mem ((c.tc : Thread Cert.SwaInRefIdeal.nD Cert.SwaInRefIdeal.τ).loc Cert.SwaInRefIdeal.main_arg2) = m ((c.tc : Thread Cert.SwaInRefIdeal.nD Cert.SwaInRefIdeal.τ).loc Cert.SwaInRefIdeal.main_arg2))
      ∧ r.2.sem = fun _ => 0 :=
  (θ_run _ _ _).mono (fun r h => ⟨fun c => (h c).2, sem_eq_zero_of_no_sems (by decide) _⟩) (Cert.SwaInRefIdeal.Value.run m ρ)

/-- The reference of the first layer's input projection runs, leaves its arguments as they were and every semaphore at zero. -/
theorem dsaInRef_frame (m) (ρ : Dev Cert.DsaInRefIdeal.nD → PrngReg) :
    θ_run (Cert.DsaInRefIdeal.defs (F := Ideal)) (onTc (τ := Cert.DsaInRefIdeal.τ) (Cert.DsaInRefIdeal.main (F := Ideal))) ⟨m, fun _ => 0, ρ⟩
      fun r => (∀ c : Dev Cert.DsaInRefIdeal.nD,
        r.2.mem ((c.tc : Thread Cert.DsaInRefIdeal.nD Cert.DsaInRefIdeal.τ).loc Cert.DsaInRefIdeal.main_arg0) = m ((c.tc : Thread Cert.DsaInRefIdeal.nD Cert.DsaInRefIdeal.τ).loc Cert.DsaInRefIdeal.main_arg0)
        ∧ r.2.mem ((c.tc : Thread Cert.DsaInRefIdeal.nD Cert.DsaInRefIdeal.τ).loc Cert.DsaInRefIdeal.main_arg1) = m ((c.tc : Thread Cert.DsaInRefIdeal.nD Cert.DsaInRefIdeal.τ).loc Cert.DsaInRefIdeal.main_arg1))
      ∧ r.2.sem = fun _ => 0 :=
  (θ_run _ _ _).mono (fun r h => ⟨fun c => (h c).2, sem_eq_zero_of_no_sems (by decide) _⟩) (Cert.DsaInRefIdeal.Value.run m ρ)

/-- The reference of the fourth layer's input projection runs, leaves its arguments as they were and every semaphore at zero. -/
theorem dsaIn2Ref_frame (m) (ρ : Dev Cert.DsaIn2RefIdeal.nD → PrngReg) :
    θ_run (Cert.DsaIn2RefIdeal.defs (F := Ideal)) (onTc (τ := Cert.DsaIn2RefIdeal.τ) (Cert.DsaIn2RefIdeal.main (F := Ideal))) ⟨m, fun _ => 0, ρ⟩
      fun r => (∀ c : Dev Cert.DsaIn2RefIdeal.nD,
        r.2.mem ((c.tc : Thread Cert.DsaIn2RefIdeal.nD Cert.DsaIn2RefIdeal.τ).loc Cert.DsaIn2RefIdeal.main_arg0) = m ((c.tc : Thread Cert.DsaIn2RefIdeal.nD Cert.DsaIn2RefIdeal.τ).loc Cert.DsaIn2RefIdeal.main_arg0)
        ∧ r.2.mem ((c.tc : Thread Cert.DsaIn2RefIdeal.nD Cert.DsaIn2RefIdeal.τ).loc Cert.DsaIn2RefIdeal.main_arg1) = m ((c.tc : Thread Cert.DsaIn2RefIdeal.nD Cert.DsaIn2RefIdeal.τ).loc Cert.DsaIn2RefIdeal.main_arg1)
        ∧ r.2.mem ((c.tc : Thread Cert.DsaIn2RefIdeal.nD Cert.DsaIn2RefIdeal.τ).loc Cert.DsaIn2RefIdeal.main_arg2) = m ((c.tc : Thread Cert.DsaIn2RefIdeal.nD Cert.DsaIn2RefIdeal.τ).loc Cert.DsaIn2RefIdeal.main_arg2))
      ∧ r.2.sem = fun _ => 0 :=
  (θ_run _ _ _).mono (fun r h => ⟨fun c => (h c).2, sem_eq_zero_of_no_sems (by decide) _⟩) (Cert.DsaIn2RefIdeal.Value.run m ρ)

/-- The sliding-window attention's input projection and its reference end with the same extended reals. -/
theorem swaIn_algebraic : Cert.algebraic_SwaInIdeal_SwaInRefIdeal (hSwaInIdeal := Cert.SwaInIdeal.Gen.facts) (hSwaInRefIdeal := Cert.SwaInRefIdeal.Gen.facts) := by
  pair_intro
  · run_from Cert.SwaInIdeal.Value.run_blocks m g
  · run_from Cert.SwaInRefIdeal.Value.run m' g'
    rw [Cert.SwaInRefIdeal.Read.val_main_v85_eq, (hagree c).1, (hagree c).2.1, (hagree c).2.2]
    exact (Cert.SwaInIdeal.Point.final m c).symm

/-- The first layer's input projection and its reference end with the same extended reals. -/
theorem dsaIn_algebraic : Cert.algebraic_DsaInIdeal_DsaInRefIdeal (hDsaInIdeal := Cert.DsaInIdeal.Gen.facts) (hDsaInRefIdeal := Cert.DsaInRefIdeal.Gen.facts) := by
  pair_intro
  · run_from Cert.DsaInIdeal.Value.run_blocks m g
  · run_from Cert.DsaInRefIdeal.Value.run m' g'
    rw [Cert.DsaInRefIdeal.Read.val_main_v112_eq, (hagree c).1, (hagree c).2]
    exact (Cert.DsaInIdeal.Point.final m c).symm

/-- The fourth layer's input projection and its reference end with the same extended reals. -/
theorem dsaIn2_algebraic : Cert.algebraic_DsaIn2Ideal_DsaIn2RefIdeal (hDsaIn2Ideal := Cert.DsaIn2Ideal.Gen.facts) (hDsaIn2RefIdeal := Cert.DsaIn2RefIdeal.Gen.facts) := by
  pair_intro
  · run_from Cert.DsaIn2Ideal.Value.run_blocks m g
  · run_from Cert.DsaIn2RefIdeal.Value.run m' g'
    rw [Cert.DsaIn2RefIdeal.Read.val_main_v121_eq, (hagree c).1, (hagree c).2.1, (hagree c).2.2]
    exact (Cert.DsaIn2Ideal.Point.final m c).symm

theorem claim : Cert.Claim := ⟨Cert.Swa.Gen.facts, Cert.SwaIdeal.Gen.facts, Cert.SwaRefIdeal.Gen.facts,
    Cert.Down.Gen.facts, Cert.DownIdeal.Gen.facts, Cert.DownRefIdeal.Gen.facts,
    Cert.Out.Gen.facts, Cert.OutIdeal.Gen.facts, Cert.OutRefIdeal.Gen.facts,
    Cert.FoxIn.Gen.facts, Cert.FoxInIdeal.Gen.facts, Cert.FoxInRefIdeal.Gen.facts,
    Cert.Up.Gen.facts, Cert.UpIdeal.Gen.facts, Cert.UpRefIdeal.Gen.facts,
    Cert.LastDown.Gen.facts, Cert.LastDownIdeal.Gen.facts, Cert.LastDownRefIdeal.Gen.facts,
    Cert.SwaIn.Gen.facts, Cert.SwaInIdeal.Gen.facts, Cert.SwaInRefIdeal.Gen.facts,
    Cert.DsaIn.Gen.facts, Cert.DsaInIdeal.Gen.facts, Cert.DsaInRefIdeal.Gen.facts,
    Cert.DsaIn2.Gen.facts, Cert.DsaIn2Ideal.Gen.facts, Cert.DsaIn2RefIdeal.Gen.facts,
    Cert.Pre_swa_finite.Gen.facts, Cert.Pre_up_finite.Gen.facts, by
  refine ⟨fun m ρ _ => Cert.Swa.Gen.frame m ρ, fun m ρ _ => Cert.SwaIdeal.Gen.frame m ρ, fun m ρ _ => Cert.SwaIdeal.Gen.frame m ρ,
    fun m ρ _ => swaRef_frame m ρ, fun m ρ _ => swaRef_frame m ρ,
    fun m ρ _ => Cert.Down.Gen.frame m ρ, fun m ρ _ => Cert.DownIdeal.Gen.frame m ρ, fun m ρ _ => downRef_frame m ρ,
    fun m ρ _ => Cert.Out.Gen.frame m ρ, fun m ρ _ => Cert.OutIdeal.Gen.frame m ρ, fun m ρ _ => outRef_frame m ρ,
    fun m ρ _ => Cert.FoxIn.Gen.frame m ρ, fun m ρ _ => Cert.FoxInIdeal.Gen.frame m ρ, fun m ρ _ => foxInRef_frame m ρ,
    fun m ρ _ => Cert.UpText.run_of (Cert.UpBody.frame (F := Bits) m ρ), fun m ρ _ => Cert.UpBody.frame m ρ,
    fun m ρ _ => Cert.UpBody.frame m ρ, fun m ρ _ => upRef_frame m ρ, fun m ρ _ => upRef_frame m ρ,
    fun m ρ _ => Cert.LastDown.Gen.frame m ρ, fun m ρ _ => Cert.LastDownIdeal.Gen.frame m ρ, fun m ρ _ => lastDownRef_frame m ρ,
    fun m ρ _ => Cert.SwaIn.Gen.frame m ρ, fun m ρ _ => Cert.SwaInIdeal.Gen.frame m ρ, fun m ρ _ => swaInRef_frame m ρ,
    fun m ρ _ => Cert.DsaIn.Gen.frame m ρ, fun m ρ _ => Cert.DsaInIdeal.Gen.frame m ρ, fun m ρ _ => dsaInRef_frame m ρ,
    fun m ρ _ => Cert.DsaIn2.Gen.frame m ρ, fun m ρ _ => Cert.DsaIn2Ideal.Gen.frame m ρ, fun m ρ _ => dsaIn2Ref_frame m ρ,
    IdealRules.named_const.statement Cert.SwaIdeal.κ "neg_inf" .f32 0xF149F2CA#32 ⊥ rfl, ?_,
    trivial, ?_, trivial, ?_, trivial, ?_, trivial, ?_,
    trivial, ?_, trivial, swaIn_algebraic, trivial, dsaIn_algebraic, trivial, dsaIn2_algebraic⟩
  · pair_intro
    · run_from Cert.SwaIdeal.Gen.run_main m g
    · run_from Cert.SwaRefIdeal.Value.run m' g'
      rw [Cert.SwaRefIdeal.Read.val_main_v66_eq, (hagree c).1, (hagree c).2, Cert.SwaIdeal.Point.final m c]
      exact funext fun i => Cert.SwaRefIdeal.Point.out_at _ _ (swa_fit m hpre c) i
  · pair_intro
    · run_from Cert.DownIdeal.Value.run_blocks m g
    · run_from Cert.DownRefIdeal.Value.run m' g'
      · rw [Cert.DownRefIdeal.Read.val_main_v3_eq]
        exact (Cert.DownIdeal.Point.final4 m c).symm
      · rw [Cert.DownRefIdeal.Read.val_main_v7_eq]
        exact (Cert.DownIdeal.Point.final5 m c).symm
      · rw [Cert.DownRefIdeal.Read.val_main_v10_eq]
        exact (Cert.DownIdeal.Point.final6 m c).symm
  · pair_intro
    · run_from Cert.OutIdeal.Value.run_blocks m g
    · run_from Cert.OutRefIdeal.Value.run m' g'
      rw [Cert.OutRefIdeal.Read.val_main_v3_eq]
      exact (Cert.OutIdeal.Point.final m c).symm
  · pair_intro
    · run_from Cert.FoxInIdeal.Value.run_blocks m g
    · run_from Cert.FoxInRefIdeal.Value.run m' g'
      rw [Cert.FoxInRefIdeal.Read.val_main_v12_eq]
      exact (Cert.FoxInIdeal.Point.final m c).symm
  · pair_intro
    · run_from Cert.UpBody.run_main m g
    · run_from Cert.UpRefIdeal.Value.run m' g'
      rw [Cert.UpRefIdeal.Read.val_main_v38_eq, (hagree c).1, (hagree c).2.1, (hagree c).2.2.1, (hagree c).2.2.2,
        Cert.UpBody.final m c (up_fit m hpre c)]
      exact funext fun i => Cert.UpRefIdeal.Point.out_at _ _ _ _ i
  · pair_intro
    · run_from Cert.LastDownIdeal.Value.run_blocks m g
    · run_from Cert.LastDownRefIdeal.Value.run m' g'
      rw [Cert.LastDownRefIdeal.Read.val_main_v3_eq]
      exact (Cert.LastDownIdeal.Point.final m c).symm⟩

end Cert.Proof

end
